-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Experts [hPre_items_ok : Cert.Pre_items_ok.Facts] (m : (ℓ : Loc Cert.Experts.nD Cert.Experts.τ Cert.Experts.sig) → Buf (Elt Bits) ℓ) : Prop :=
  ∀ c : Dev Cert.Experts.nD,
    (Cert.Pre_items_ok.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7)) (m ((c.tc : Thread Cert.Experts.nD Cert.Experts.τ).loc Cert.Experts.main_arg8)) (m ((c.tc : Thread Cert.Experts.nD Cert.Experts.τ).loc Cert.Experts.main_arg9)) (m ((c.tc : Thread Cert.Experts.nD Cert.Experts.τ).loc Cert.Experts.main_arg10))) = (fun _ => 1#1)

def Pre_ExpertsIdeal [hPre_items_ok : Cert.Pre_items_ok.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_items_ok.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8)) (m ((c.tc : Thread Cert.ExpertsIdeal.nD Cert.ExpertsIdeal.τ).loc Cert.ExpertsIdeal.main_arg9)) (m ((c.tc : Thread Cert.ExpertsIdeal.nD Cert.ExpertsIdeal.τ).loc Cert.ExpertsIdeal.main_arg10))) = (fun _ => 1#1)

def Pre_DenseIdeal (m : (ℓ : Loc Cert.DenseIdeal.nD Cert.DenseIdeal.τ Cert.DenseIdeal.sig) → Buf (Elt Ideal) ℓ) : Prop :=
  True

def Pre_DenseIdeal_items_ok [hPre_items_ok : Cert.Pre_items_ok.Facts] (m : (ℓ : Loc Cert.DenseIdeal.nD Cert.DenseIdeal.τ Cert.DenseIdeal.sig) → Buf (Elt Ideal) ℓ) : Prop :=
  ∀ c : Dev Cert.DenseIdeal.nD,
    (Cert.Pre_items_ok.fn (F := Ideal) (m ((c.tc : Thread Cert.DenseIdeal.nD Cert.DenseIdeal.τ).loc Cert.DenseIdeal.main_arg0)) (m ((c.tc : Thread Cert.DenseIdeal.nD Cert.DenseIdeal.τ).loc Cert.DenseIdeal.main_arg1)) (m ((c.tc : Thread Cert.DenseIdeal.nD Cert.DenseIdeal.τ).loc Cert.DenseIdeal.main_arg2)) (m ((c.tc : Thread Cert.DenseIdeal.nD Cert.DenseIdeal.τ).loc Cert.DenseIdeal.main_arg3)) (m ((c.tc : Thread Cert.DenseIdeal.nD Cert.DenseIdeal.τ).loc Cert.DenseIdeal.main_arg4)) (m ((c.tc : Thread Cert.DenseIdeal.nD Cert.DenseIdeal.τ).loc Cert.DenseIdeal.main_arg5)) (m ((c.tc : Thread Cert.DenseIdeal.nD Cert.DenseIdeal.τ).loc Cert.DenseIdeal.main_arg6)) (m ((c.tc : Thread Cert.DenseIdeal.nD Cert.DenseIdeal.τ).loc Cert.DenseIdeal.main_arg7)) (m ((c.tc : Thread Cert.DenseIdeal.nD Cert.DenseIdeal.τ).loc Cert.DenseIdeal.main_arg8)) (m ((c.tc : Thread Cert.DenseIdeal.nD Cert.DenseIdeal.τ).loc Cert.DenseIdeal.main_arg9)) (m ((c.tc : Thread Cert.DenseIdeal.nD Cert.DenseIdeal.τ).loc Cert.DenseIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Experts [hExperts : Cert.Experts.Facts] [hPre_items_ok : Cert.Pre_items_ok.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6)
      ∧ r.2.mem ((c.tc : Thread Cert.Experts.nD Cert.Experts.τ).loc Cert.Experts.main_arg7) = m ((c.tc : Thread Cert.Experts.nD Cert.Experts.τ).loc Cert.Experts.main_arg7)
      ∧ r.2.mem ((c.tc : Thread Cert.Experts.nD Cert.Experts.τ).loc Cert.Experts.main_arg8) = m ((c.tc : Thread Cert.Experts.nD Cert.Experts.τ).loc Cert.Experts.main_arg8)
      ∧ r.2.mem ((c.tc : Thread Cert.Experts.nD Cert.Experts.τ).loc Cert.Experts.main_arg9) = m ((c.tc : Thread Cert.Experts.nD Cert.Experts.τ).loc Cert.Experts.main_arg9)
      ∧ r.2.mem ((c.tc : Thread Cert.Experts.nD Cert.Experts.τ).loc Cert.Experts.main_arg10) = m ((c.tc : Thread Cert.Experts.nD Cert.Experts.τ).loc Cert.Experts.main_arg10))
      ∧ r.2.sem = fun _ => 0)

def quiescent_ExpertsIdeal [hExpertsIdeal : Cert.ExpertsIdeal.Facts] [hPre_items_ok : Cert.Pre_items_ok.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
      ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8)
      ∧ r.2.mem ((c.tc : Thread Cert.ExpertsIdeal.nD Cert.ExpertsIdeal.τ).loc Cert.ExpertsIdeal.main_arg9) = m ((c.tc : Thread Cert.ExpertsIdeal.nD Cert.ExpertsIdeal.τ).loc Cert.ExpertsIdeal.main_arg9)
      ∧ r.2.mem ((c.tc : Thread Cert.ExpertsIdeal.nD Cert.ExpertsIdeal.τ).loc Cert.ExpertsIdeal.main_arg10) = m ((c.tc : Thread Cert.ExpertsIdeal.nD Cert.ExpertsIdeal.τ).loc Cert.ExpertsIdeal.main_arg10))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
      ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
      ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6)
      ∧ r.2.mem ((c.tc : Thread Cert.DenseIdeal.nD Cert.DenseIdeal.τ).loc Cert.DenseIdeal.main_arg7) = m ((c.tc : Thread Cert.DenseIdeal.nD Cert.DenseIdeal.τ).loc Cert.DenseIdeal.main_arg7)
      ∧ r.2.mem ((c.tc : Thread Cert.DenseIdeal.nD Cert.DenseIdeal.τ).loc Cert.DenseIdeal.main_arg8) = m ((c.tc : Thread Cert.DenseIdeal.nD Cert.DenseIdeal.τ).loc Cert.DenseIdeal.main_arg8)
      ∧ r.2.mem ((c.tc : Thread Cert.DenseIdeal.nD Cert.DenseIdeal.τ).loc Cert.DenseIdeal.main_arg9) = m ((c.tc : Thread Cert.DenseIdeal.nD Cert.DenseIdeal.τ).loc Cert.DenseIdeal.main_arg9)
      ∧ r.2.mem ((c.tc : Thread Cert.DenseIdeal.nD Cert.DenseIdeal.τ).loc Cert.DenseIdeal.main_arg10) = m ((c.tc : Thread Cert.DenseIdeal.nD Cert.DenseIdeal.τ).loc Cert.DenseIdeal.main_arg10))
      ∧ r.2.sem = fun _ => 0)

def quiescent_DenseIdeal_pre_items_ok [hDenseIdeal : Cert.DenseIdeal.Facts] [hPre_items_ok : Cert.Pre_items_ok.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal_items_ok m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
      ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
      ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6)
      ∧ r.2.mem ((c.tc : Thread Cert.DenseIdeal.nD Cert.DenseIdeal.τ).loc Cert.DenseIdeal.main_arg7) = m ((c.tc : Thread Cert.DenseIdeal.nD Cert.DenseIdeal.τ).loc Cert.DenseIdeal.main_arg7)
      ∧ r.2.mem ((c.tc : Thread Cert.DenseIdeal.nD Cert.DenseIdeal.τ).loc Cert.DenseIdeal.main_arg8) = m ((c.tc : Thread Cert.DenseIdeal.nD Cert.DenseIdeal.τ).loc Cert.DenseIdeal.main_arg8)
      ∧ r.2.mem ((c.tc : Thread Cert.DenseIdeal.nD Cert.DenseIdeal.τ).loc Cert.DenseIdeal.main_arg9) = m ((c.tc : Thread Cert.DenseIdeal.nD Cert.DenseIdeal.τ).loc Cert.DenseIdeal.main_arg9)
      ∧ r.2.mem ((c.tc : Thread Cert.DenseIdeal.nD Cert.DenseIdeal.τ).loc Cert.DenseIdeal.main_arg10) = m ((c.tc : Thread Cert.DenseIdeal.nD Cert.DenseIdeal.τ).loc Cert.DenseIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v177) = v0 c
          ∧ r.2.mem ((c.tc : Thread Cert.ReferenceIdeal.nD Cert.ReferenceIdeal.τ).loc Cert.ReferenceIdeal.main_v180) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Experts_ExpertsIdeal : Prop :=
  True

def algebraic_ExpertsIdeal_DenseIdeal [hExpertsIdeal : Cert.ExpertsIdeal.Facts] [hDenseIdeal : Cert.DenseIdeal.Facts] [hPre_items_ok : Cert.Pre_items_ok.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.DenseIdeal.nD Cert.DenseIdeal.τ Cert.DenseIdeal.sig) → Buf (Elt Ideal) ℓ) (g' : Dev Cert.DenseIdeal.nD → PrngReg), Pre_ExpertsIdeal m →
    (∀ c : Dev Cert.ExpertsIdeal.nD,
      m' ((c.tc : Thread Cert.DenseIdeal.nD Cert.DenseIdeal.τ).loc Cert.DenseIdeal.main_arg0) = m ((c.tc : Thread Cert.ExpertsIdeal.nD Cert.ExpertsIdeal.τ).loc Cert.ExpertsIdeal.main_arg0)
      ∧ m' ((c.tc : Thread Cert.DenseIdeal.nD Cert.DenseIdeal.τ).loc Cert.DenseIdeal.main_arg1) = m ((c.tc : Thread Cert.ExpertsIdeal.nD Cert.ExpertsIdeal.τ).loc Cert.ExpertsIdeal.main_arg1)
      ∧ m' ((c.tc : Thread Cert.DenseIdeal.nD Cert.DenseIdeal.τ).loc Cert.DenseIdeal.main_arg2) = m ((c.tc : Thread Cert.ExpertsIdeal.nD Cert.ExpertsIdeal.τ).loc Cert.ExpertsIdeal.main_arg2)
      ∧ m' ((c.tc : Thread Cert.DenseIdeal.nD Cert.DenseIdeal.τ).loc Cert.DenseIdeal.main_arg3) = m ((c.tc : Thread Cert.ExpertsIdeal.nD Cert.ExpertsIdeal.τ).loc Cert.ExpertsIdeal.main_arg3)
      ∧ m' ((c.tc : Thread Cert.DenseIdeal.nD Cert.DenseIdeal.τ).loc Cert.DenseIdeal.main_arg4) = m ((c.tc : Thread Cert.ExpertsIdeal.nD Cert.ExpertsIdeal.τ).loc Cert.ExpertsIdeal.main_arg4)
      ∧ m' ((c.tc : Thread Cert.DenseIdeal.nD Cert.DenseIdeal.τ).loc Cert.DenseIdeal.main_arg5) = m ((c.tc : Thread Cert.ExpertsIdeal.nD Cert.ExpertsIdeal.τ).loc Cert.ExpertsIdeal.main_arg5)
      ∧ m' ((c.tc : Thread Cert.DenseIdeal.nD Cert.DenseIdeal.τ).loc Cert.DenseIdeal.main_arg6) = m ((c.tc : Thread Cert.ExpertsIdeal.nD Cert.ExpertsIdeal.τ).loc Cert.ExpertsIdeal.main_arg6)
      ∧ m' ((c.tc : Thread Cert.DenseIdeal.nD Cert.DenseIdeal.τ).loc Cert.DenseIdeal.main_arg7) = m ((c.tc : Thread Cert.ExpertsIdeal.nD Cert.ExpertsIdeal.τ).loc Cert.ExpertsIdeal.main_arg7)
      ∧ m' ((c.tc : Thread Cert.DenseIdeal.nD Cert.DenseIdeal.τ).loc Cert.DenseIdeal.main_arg8) = m ((c.tc : Thread Cert.ExpertsIdeal.nD Cert.ExpertsIdeal.τ).loc Cert.ExpertsIdeal.main_arg8)
      ∧ m' ((c.tc : Thread Cert.DenseIdeal.nD Cert.DenseIdeal.τ).loc Cert.DenseIdeal.main_arg9) = m ((c.tc : Thread Cert.ExpertsIdeal.nD Cert.ExpertsIdeal.τ).loc Cert.ExpertsIdeal.main_arg9)
      ∧ m' ((c.tc : Thread Cert.DenseIdeal.nD Cert.DenseIdeal.τ).loc Cert.DenseIdeal.main_arg10) = m ((c.tc : Thread Cert.ExpertsIdeal.nD Cert.ExpertsIdeal.τ).loc Cert.ExpertsIdeal.main_arg10)) →
    ∃ (v0 : (c : Dev Cert.ExpertsIdeal.nD) → Buf (Elt Ideal) ((c.tc : Thread Cert.ExpertsIdeal.nD Cert.ExpertsIdeal.τ).loc Cert.ExpertsIdeal.main_v5)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v5) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
          ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
          ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8)
          ∧ r.2.mem ((c.tc : Thread Cert.ExpertsIdeal.nD Cert.ExpertsIdeal.τ).loc Cert.ExpertsIdeal.main_arg9) = m ((c.tc : Thread Cert.ExpertsIdeal.nD Cert.ExpertsIdeal.τ).loc Cert.ExpertsIdeal.main_arg9)
          ∧ r.2.mem ((c.tc : Thread Cert.ExpertsIdeal.nD Cert.ExpertsIdeal.τ).loc Cert.ExpertsIdeal.main_arg10) = m ((c.tc : Thread Cert.ExpertsIdeal.nD Cert.ExpertsIdeal.τ).loc Cert.ExpertsIdeal.main_arg10))
      ∧ θ_run (Cert.DenseIdeal.defs (F := Ideal)) (onTc (τ := Cert.DenseIdeal.τ) (Cert.DenseIdeal.main (F := Ideal))) ⟨m', fun _ => 0, g'⟩ (fun r => ∀ c : Dev Cert.DenseIdeal.nD,
          r.2.mem ((c.tc : Thread Cert.DenseIdeal.nD Cert.DenseIdeal.τ).loc Cert.DenseIdeal.main_v59) = v0 c
          ∧ r.2.mem ((c.tc : Thread Cert.DenseIdeal.nD Cert.DenseIdeal.τ).loc Cert.DenseIdeal.main_arg0) = m' ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m' ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m' ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m' ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m' ((c.tc : Thread Cert.DenseIdeal.nD Cert.DenseIdeal.τ).loc Cert.DenseIdeal.main_arg4)
          ∧ r.2.mem ((c.tc : Thread Cert.DenseIdeal.nD Cert.DenseIdeal.τ).loc Cert.DenseIdeal.main_arg5) = m' ((c.tc : Thread Cert.DenseIdeal.nD Cert.DenseIdeal.τ).loc Cert.DenseIdeal.main_arg5)
          ∧ r.2.mem ((c.tc : Thread Cert.DenseIdeal.nD Cert.DenseIdeal.τ).loc Cert.DenseIdeal.main_arg6) = m' ((c.tc : Thread Cert.DenseIdeal.nD Cert.DenseIdeal.τ).loc Cert.DenseIdeal.main_arg6)
          ∧ r.2.mem ((c.tc : Thread Cert.DenseIdeal.nD Cert.DenseIdeal.τ).loc Cert.DenseIdeal.main_arg7) = m' ((c.tc : Thread Cert.DenseIdeal.nD Cert.DenseIdeal.τ).loc Cert.DenseIdeal.main_arg7)
          ∧ r.2.mem ((c.tc : Thread Cert.DenseIdeal.nD Cert.DenseIdeal.τ).loc Cert.DenseIdeal.main_arg8) = m' ((c.tc : Thread Cert.DenseIdeal.nD Cert.DenseIdeal.τ).loc Cert.DenseIdeal.main_arg8)
          ∧ r.2.mem ((c.tc : Thread Cert.DenseIdeal.nD Cert.DenseIdeal.τ).loc Cert.DenseIdeal.main_arg9) = m' ((c.tc : Thread Cert.DenseIdeal.nD Cert.DenseIdeal.τ).loc Cert.DenseIdeal.main_arg9)
          ∧ r.2.mem ((c.tc : Thread Cert.DenseIdeal.nD Cert.DenseIdeal.τ).loc Cert.DenseIdeal.main_arg10) = m' ((c.tc : Thread Cert.DenseIdeal.nD Cert.DenseIdeal.τ).loc Cert.DenseIdeal.main_arg10))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hDenseIdeal : Cert.DenseIdeal.Facts) (hPre_items_ok : Cert.Pre_items_ok.Facts),
    quiescent_Kernel (hKernel := hKernel)
    ∧ quiescent_KernelIdeal (hKernelIdeal := hKernelIdeal)
    ∧ quiescent_ReferenceIdeal (hReferenceIdeal := hReferenceIdeal)
    ∧ quiescent_Experts (hExperts := hExperts) (hPre_items_ok := hPre_items_ok)
    ∧ quiescent_ExpertsIdeal (hExpertsIdeal := hExpertsIdeal) (hPre_items_ok := hPre_items_ok)
    ∧ quiescent_DenseIdeal (hDenseIdeal := hDenseIdeal)
    ∧ quiescent_DenseIdeal_pre_items_ok (hDenseIdeal := hDenseIdeal) (hPre_items_ok := hPre_items_ok)
    ∧ preserves_Kernel_KernelIdeal
    ∧ algebraic_KernelIdeal_ReferenceIdeal (hKernelIdeal := hKernelIdeal) (hReferenceIdeal := hReferenceIdeal)
    ∧ preserves_Experts_ExpertsIdeal
    ∧ algebraic_ExpertsIdeal_DenseIdeal (hExpertsIdeal := hExpertsIdeal) (hDenseIdeal := hDenseIdeal) (hPre_items_ok := hPre_items_ok)
-- ==== Pre_items_ok.lean ====
abbrev S135168x2048 : Shape := ⟨2, ![135168, 2048]⟩
abbrev S32 : Shape := ⟨1, ![32]⟩
abbrev S295 : Shape := ⟨1, ![295]⟩
abbrev S128x2048x1536 : Shape := ⟨3, ![128, 2048, 1536]⟩
abbrev S32x1536 : Shape := ⟨2, ![32, 1536]⟩
abbrev S128x768x2048 : Shape := ⟨3, ![128, 768, 2048]⟩
abbrev S32x2048 : Shape := ⟨2, ![32, 2048]⟩
abbrev S_ : Shape := ⟨0, ![]⟩
abbrev S294 : Shape := ⟨1, ![294]⟩
abbrev S295x264x512 : Shape := ⟨3, ![295, 264, 512]⟩
abbrev S295x1x1 : Shape := ⟨3, ![295, 1, 1]⟩
abbrev S135168 : Shape := ⟨1, ![135168]⟩
abbrev S135168x1 : Shape := ⟨2, ![135168, 1]⟩
abbrev S1x32 : Shape := ⟨2, ![1, 32]⟩
abbrev S135168x32 : Shape := ⟨2, ![135168, 32]⟩
abbrev S264x512 : Shape := ⟨2, ![264, 512]⟩
abbrev S1x264x512 : Shape := ⟨3, ![1, 264, 512]⟩

class Facts : Prop where
  bcast_S_S295 : S_.BroadcastsInDim S295 (![] : Fin 0 → Fin S295.rank)
  reducesTo_S295_S_d0 : S295.ReducesTo [0] S_
  h_S_ : 0 < S_.numel
  slices_S295_S294_1 : S295.Slices ![1] S294
  slices_S295_S294_0 : S295.Slices ![0] S294
  bcast_S_S294 : S_.BroadcastsInDim S294 (![] : Fin 0 → Fin S294.rank)
  reducesTo_S294_S_d0 : S294.ReducesTo [0] S_
  bcast_S295_S295x1x1_0 : S295.BroadcastsInDim S295x1x1 (![0] : Fin 1 → Fin S295x1x1.rank)
  bcast_S295x1x1_S295x264x512_0_1_2 : S295x1x1.BroadcastsInDim S295x264x512 (![0, 1, 2] : Fin 3 → Fin S295x264x512.rank)
  bcast_S135168_S135168x1_0 : S135168.BroadcastsInDim S135168x1 (![0] : Fin 1 → Fin S135168x1.rank)
  bcast_S_S_ : S_.BroadcastsInDim S_ (![] : Fin 0 → Fin S_.rank)
  reduceWindows_S32_S32_w32s1p31_0 : S32.ReduceWindows (![32] : Fin 1 → Nat) ![1] ![31] ![0] S32
  bcast_S32_S1x32_1 : S32.BroadcastsInDim S1x32 (![1] : Fin 1 → Fin S1x32.rank)
  bcast_S135168x1_S135168x32_0_1 : S135168x1.BroadcastsInDim S135168x32 (![0, 1] : Fin 2 → Fin S135168x32.rank)
  bcast_S1x32_S135168x32_0_1 : S1x32.BroadcastsInDim S135168x32 (![0, 1] : Fin 2 → Fin S135168x32.rank)
  natLt_1_32 : 1 < 32
  reducesTo_S135168x32_S135168_d1 : S135168x32.ReducesTo [1] S135168
  shapeCasts_S135168_S264x512 : S135168.ShapeCasts S264x512
  bcast_S264x512_S1x264x512_1_2 : S264x512.BroadcastsInDim S1x264x512 (![1, 2] : Fin 2 → Fin S1x264x512.rank)
  bcast_S1x264x512_S295x264x512_0_1_2 : S1x264x512.BroadcastsInDim S295x264x512 (![0, 1, 2] : Fin 3 → Fin S295x264x512.rank)
  reducesTo_S295x264x512_S_d0_1_2 : S295x264x512.ReducesTo [0, 1, 2] S_
  reducesTo_S295x264x512_S264x512_d0 : S295x264x512.ReducesTo [0] S264x512
  reducesTo_S264x512_S_d0_1 : S264x512.ReducesTo [0, 1] S_

variable [Facts]

def fn_cumsum_0 {F : FTy → Type} [FloatOps F] (arg0 : IVec S32 32) : IVec S32 32 :=
  let c : IVec S_ 32 := constantI S_ 32 0#32
  let v0 : IVec S_ 32 := broadcastInDim S_ ![] bcast_S_S_ c
  let v1 : IVec S32 32 := (fun x v => Host.reduceWindow IntOp.addi ![32] ![1] ![31] ![0] x v reduceWindows_S32_S32_w32s1p31_0 h_S_) arg0 v0
  v1

def fn_cumsum {F : FTy → Type} [FloatOps F] (arg0 : IVec S32 32) : IVec S32 32 :=
  let v0 : IVec S32 32 := fn_cumsum_0 (F := F) arg0
  v0

def fn_part3 {F : FTy → Type} [FloatOps F] (main_v17 : IVec S_ 1) (main_v29 : IVec S_ 1) (main_v42 : IVec S295x264x512 1) (main_v60 : IVec S_ 1) : IVec S_ 1 :=
  let main_v61 : IVec S_ 1 := andi main_v17 main_v29
  let main_v62 : IVec S_ 1 := andi main_v61 main_v60
  let main_c_10 : IVec S_ 1 := constantI S_ 1 0#1
  let main_v63 : IVec S264x512 1 := (fun x v => Host.reduce IntOp.ori x v reducesTo_S295x264x512_S264x512_d0 h_S_) main_v42 main_c_10
  let main_c_11 : IVec S_ 1 := constantI S_ 1 1#1
  let main_v64 : IVec S_ 1 := (fun x v => Host.reduce IntOp.andi x v reducesTo_S264x512_S_d0_1 h_S_) main_v63 main_c_11
  let main_v65 : IVec S_ 1 := andi main_v62 main_v64
  main_v65

def fn_part2 {F : FTy → Type} [FloatOps F] (main_arg1 : IVec S32 32) (main_arg3 : IVec S295 32) (main_arg5 : IVec S295 32) (main_v17 : IVec S_ 1) (main_v29 : IVec S_ 1) (main_v31 : IVec S295x264x512 32) (main_v38 : IVec S295x264x512 1) : IVec S_ 1 :=
  let main_v39 : IVec S295x1x1 32 := broadcastInDim S295x1x1 ![0] bcast_S295_S295x1x1_0 main_arg5
  let main_v40 : IVec S295x264x512 32 := broadcastInDim S295x264x512 ![0, 1, 2] bcast_S295x1x1_S295x264x512_0_1_2 main_v39
  let main_v41 : IVec S295x264x512 1 := cmpi .slt main_v31 main_v40
  let main_v42 : IVec S295x264x512 1 := andi main_v38 main_v41
  let main_v43 : IVec S295x264x512 1 := noti main_v42
  let main_v44 : IVec S295x1x1 32 := broadcastInDim S295x1x1 ![0] bcast_S295_S295x1x1_0 main_arg3
  let main_v45 : IVec S135168 32 := iotaInDim S135168 32 0
  let main_v46 : IVec S135168x1 32 := broadcastInDim S135168x1 ![0] bcast_S135168_S135168x1_0 main_v45
  let main_v47 : IVec S32 32 := fn_cumsum (F := F) main_arg1
  let main_v48 : IVec S1x32 32 := broadcastInDim S1x32 ![1] bcast_S32_S1x32_1 main_v47
  let main_v49 : IVec S135168x32 32 := broadcastInDim S135168x32 ![0, 1] bcast_S135168x1_S135168x32_0_1 main_v46
  let main_v50 : IVec S135168x32 32 := broadcastInDim S135168x32 ![0, 1] bcast_S1x32_S135168x32_0_1 main_v48
  let main_v51 : IVec S135168x32 1 := cmpi .sge main_v49 main_v50
  let main_v52 : IVec S135168x32 32 := (extui 32 · natLt_1_32) main_v51
  let main_c_8 : IVec S_ 32 := constantI S_ 32 0#32
  let main_v53 : IVec S135168 32 := (fun x v => Host.reduce IntOp.addi x v reducesTo_S135168x32_S135168_d1 h_S_) main_v52 main_c_8
  let main_v54 : IVec S264x512 32 := shapeCast S264x512 main_v53 shapeCasts_S135168_S264x512
  let main_v55 : IVec S1x264x512 32 := broadcastInDim S1x264x512 ![1, 2] bcast_S264x512_S1x264x512_1_2 main_v54
  let main_v56 : IVec S295x264x512 32 := broadcastInDim S295x264x512 ![0, 1, 2] bcast_S295x1x1_S295x264x512_0_1_2 main_v44
  let main_v57 : IVec S295x264x512 32 := broadcastInDim S295x264x512 ![0, 1, 2] bcast_S1x264x512_S295x264x512_0_1_2 main_v55
  let main_v58 : IVec S295x264x512 1 := cmpi .eq main_v56 main_v57
  let main_v59 : IVec S295x264x512 1 := ori main_v43 main_v58
  let main_c_9 : IVec S_ 1 := constantI S_ 1 1#1
  let main_v60 : IVec S_ 1 := (fun x v => Host.reduce IntOp.andi x v reducesTo_S295x264x512_S_d0_1_2 h_S_) main_v59 main_c_9
  fn_part3 (F := F) main_v17 main_v29 main_v42 main_v60

def fn_part1 {F : FTy → Type} [FloatOps F] (main_arg1 : IVec S32 32) (main_arg2 : IVec S295 32) (main_arg3 : IVec S295 32) (main_arg4 : IVec S295 32) (main_arg5 : IVec S295 32) (main_arg6 : IVec S295 32) (main_v16 : IVec S295 1) (main_c_5 : IVec S_ 1) : IVec S_ 1 :=
  let main_v17 : IVec S_ 1 := (fun x v => Host.reduce IntOp.andi x v reducesTo_S295_S_d0 h_S_) main_v16 main_c_5
  let main_v18 : IVec S294 32 := (extractStridedSlice S294 ![1] · slices_S295_S294_1) main_arg2
  let main_v19 : IVec S294 32 := (extractStridedSlice S294 ![0] · slices_S295_S294_0) main_arg2
  let main_v20 : IVec S294 1 := cmpi .sgt main_v18 main_v19
  let main_v21 : IVec S294 32 := (extractStridedSlice S294 ![1] · slices_S295_S294_1) main_arg2
  let main_v22 : IVec S294 32 := (extractStridedSlice S294 ![0] · slices_S295_S294_0) main_arg2
  let main_v23 : IVec S294 1 := cmpi .eq main_v21 main_v22
  let main_v24 : IVec S294 32 := (extractStridedSlice S294 ![1] · slices_S295_S294_1) main_arg6
  let main_c_6 : IVec S_ 32 := constantI S_ 32 0#32
  let main_v25 : IVec S294 32 := broadcastInDim S294 ![] bcast_S_S294 main_c_6
  let main_v26 : IVec S294 1 := cmpi .eq main_v24 main_v25
  let main_v27 : IVec S294 1 := andi main_v23 main_v26
  let main_v28 : IVec S294 1 := ori main_v20 main_v27
  let main_c_7 : IVec S_ 1 := constantI S_ 1 1#1
  let main_v29 : IVec S_ 1 := (fun x v => Host.reduce IntOp.andi x v reducesTo_S294_S_d0 h_S_) main_v28 main_c_7
  let main_v30 : IVec S295x264x512 32 := iotaInDim S295x264x512 32 1
  let main_v31 : IVec S295x264x512 32 := iotaInDim S295x264x512 32 2
  let main_v32 : IVec S295x1x1 32 := broadcastInDim S295x1x1 ![0] bcast_S295_S295x1x1_0 main_arg2
  let main_v33 : IVec S295x264x512 32 := broadcastInDim S295x264x512 ![0, 1, 2] bcast_S295x1x1_S295x264x512_0_1_2 main_v32
  let main_v34 : IVec S295x264x512 1 := cmpi .eq main_v33 main_v30
  let main_v35 : IVec S295x1x1 32 := broadcastInDim S295x1x1 ![0] bcast_S295_S295x1x1_0 main_arg4
  let main_v36 : IVec S295x264x512 32 := broadcastInDim S295x264x512 ![0, 1, 2] bcast_S295x1x1_S295x264x512_0_1_2 main_v35
  let main_v37 : IVec S295x264x512 1 := cmpi .sle main_v36 main_v31
  let main_v38 : IVec S295x264x512 1 := andi main_v34 main_v37
  fn_part2 (F := F) main_arg1 main_arg3 main_arg5 main_v17 main_v29 main_v31 main_v38

def fn {F : FTy → Type} [FloatOps F] (main_arg0 : FVec F S135168x2048 .f32) (main_arg1 : IVec S32 32) (main_arg2 : IVec S295 32) (main_arg3 : IVec S295 32) (main_arg4 : IVec S295 32) (main_arg5 : IVec S295 32) (main_arg6 : IVec S295 32) (main_arg7 : FVec F S128x2048x1536 .bf16) (main_arg8 : FVec F S32x1536 .f32) (main_arg9 : FVec F S128x768x2048 .f32) (main_arg10 : FVec F S32x2048 .f32) : IVec S_ 1 :=
  let main_c : IVec S_ 32 := constantI S_ 32 0#32
  let main_v0 : IVec S295 32 := broadcastInDim S295 ![] bcast_S_S295 main_c
  let main_v1 : IVec S295 1 := cmpi .sge main_arg2 main_v0
  let main_c_0 : IVec S_ 32 := constantI S_ 32 264#32
  let main_v2 : IVec S295 32 := broadcastInDim S295 ![] bcast_S_S295 main_c_0
  let main_v3 : IVec S295 1 := cmpi .slt main_arg2 main_v2
  let main_v4 : IVec S295 1 := andi main_v1 main_v3
  let main_c_1 : IVec S_ 32 := constantI S_ 32 0#32
  let main_v5 : IVec S295 32 := broadcastInDim S295 ![] bcast_S_S295 main_c_1
  let main_v6 : IVec S295 1 := cmpi .sge main_arg3 main_v5
  let main_v7 : IVec S295 1 := andi main_v4 main_v6
  let main_c_2 : IVec S_ 32 := constantI S_ 32 32#32
  let main_v8 : IVec S295 32 := broadcastInDim S295 ![] bcast_S_S295 main_c_2
  let main_v9 : IVec S295 1 := cmpi .slt main_arg3 main_v8
  let main_v10 : IVec S295 1 := andi main_v7 main_v9
  let main_c_3 : IVec S_ 32 := constantI S_ 32 0#32
  let main_v11 : IVec S295 32 := broadcastInDim S295 ![] bcast_S_S295 main_c_3
  let main_v12 : IVec S295 1 := cmpi .sge main_arg6 main_v11
  let main_v13 : IVec S295 1 := andi main_v10 main_v12
  let main_c_4 : IVec S_ 32 := constantI S_ 32 1#32
  let main_v14 : IVec S295 32 := broadcastInDim S295 ![] bcast_S_S295 main_c_4
  let main_v15 : IVec S295 1 := cmpi .sle main_arg6 main_v14
  let main_v16 : IVec S295 1 := andi main_v13 main_v15
  let main_c_5 : IVec S_ 1 := constantI S_ 1 1#1
  fn_part1 (F := F) main_arg1 main_arg2 main_arg3 main_arg4 main_arg5 main_arg6 main_v16 main_c_5
-- ==== Kernel.lean ====
abbrev S33792x6144 : Shape := ⟨2, ![33792, 6144]⟩
abbrev S8 : Shape := ⟨1, ![8]⟩
abbrev S1024 : Shape := ⟨1, ![1024]⟩
abbrev S4x8x2x128x128 : Shape := ⟨5, ![4, 8, 2, 128, 128]⟩
abbrev S33792x1024 : Shape := ⟨2, ![33792, 1024]⟩
abbrev S1x8 : Shape := ⟨2, ![1, 8]⟩
abbrev S2x8 : Shape := ⟨2, ![2, 8]⟩
abbrev S1x1024 : Shape := ⟨2, ![1, 1024]⟩
abbrev S8192x128 : Shape := ⟨2, ![8192, 128]⟩
abbrev S1x128 : Shape := ⟨2, ![1, 128]⟩
abbrev S1x1x2x128x128 : Shape := ⟨5, ![1, 1, 2, 128, 128]⟩
abbrev S64x128x256 : Shape := ⟨3, ![64, 128, 256]⟩
abbrev S1x1 : Shape := ⟨2, ![1, 1]⟩
abbrev S128x128 : Shape := ⟨2, ![128, 128]⟩
abbrev S1x128x128 : Shape := ⟨3, ![1, 128, 128]⟩
abbrev S1x1x1x128x128 : Shape := ⟨5, ![1, 1, 1, 128, 128]⟩
abbrev S1x128x256 : Shape := ⟨3, ![1, 128, 256]⟩
abbrev S128x256 : Shape := ⟨2, ![128, 256]⟩
abbrev S128 : Shape := ⟨1, ![128]⟩
abbrev S128x1 : Shape := ⟨2, ![128, 1]⟩

abbrev nBuf : Space → Nat
  | .hbm => 16
  | .vmem => 17
  | .smem => 1
  | _ => 0

abbrev bufTy : (tb : Table) → Fin (tcTables nBuf tb) → BufTy
  | .hbm, ⟨0, _⟩ => ⟨S33792x6144, .bf16⟩
  | .hbm, ⟨1, _⟩ => ⟨S8, .f32⟩
  | .hbm, ⟨2, _⟩ => ⟨S8, .f32⟩
  | .hbm, ⟨3, _⟩ => ⟨S1024, .f32⟩
  | .hbm, ⟨4, _⟩ => ⟨S4x8x2x128x128, .f32⟩
  | .hbm, ⟨5, _⟩ => ⟨S33792x1024, .bf16⟩
  | .hbm, ⟨6, _⟩ => ⟨S8, .f32⟩
  | .hbm, ⟨7, _⟩ => ⟨S8, .f32⟩
  | .hbm, ⟨8, _⟩ => ⟨S8, .f32⟩
  | .hbm, ⟨9, _⟩ => ⟨S8, .f32⟩
  | .hbm, ⟨10, _⟩ => ⟨S1x8, .f32⟩
  | .hbm, ⟨11, _⟩ => ⟨S1x8, .f32⟩
  | .hbm, ⟨12, _⟩ => ⟨S2x8, .f32⟩
  | .hbm, ⟨13, _⟩ => ⟨S1x1024, .f32⟩
  | .hbm, ⟨14, _⟩ => ⟨S33792x1024, .bf16⟩
  | .hbm, ⟨15, _⟩ => ⟨S4x8x2x128x128, .f32⟩
  | .local _ .vmem, ⟨0, _⟩ => ⟨S8192x128, .bf16⟩
  | .local _ .vmem, ⟨1, _⟩ => ⟨S8192x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S8192x128, .bf16⟩
  | .local _ .vmem, ⟨7, _⟩ => ⟨S8192x128, .bf16⟩
  | .local _ .vmem, ⟨8, _⟩ => ⟨S1x128, .f32⟩
  | .local _ .vmem, ⟨9, _⟩ => ⟨S1x128, .f32⟩
  | .local _ .vmem, ⟨10, _⟩ => ⟨S1x1x2x128x128, .f32⟩
  | .local _ .vmem, ⟨11, _⟩ => ⟨S1x1x2x128x128, .f32⟩
  | .local _ .vmem, ⟨12, _⟩ => ⟨S8192x128, .bf16⟩
  | .local _ .vmem, ⟨13, _⟩ => ⟨S8192x128, .bf16⟩
  | .local _ .vmem, ⟨14, _⟩ => ⟨S1x1x2x128x128, .f32⟩
  | .local _ .vmem, ⟨15, _⟩ => ⟨S1x1x2x128x128, .f32⟩
  | .local _ .vmem, ⟨16, _⟩ => ⟨S64x128x256, .f32⟩
  | .local _ .smem, ⟨0, _⟩ => ⟨S2x8, .f32⟩
  | _, _ => ⟨S33792x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![4, 8], ![false, false]⟩

def k0_off1 (i : grid0.Coords) : Fin 2 → Nat :=
  let c0 : Index := 0#32
  let arg1 : BitVec 32 := BitVec.ofNat 32 (i 1).val
  let v0 : Index := Scalar.indexCast arg1
  ![0, v0.toNat]
def k0_off2 (i : grid0.Coords) : Fin 2 → Nat :=
  let c1 : Index := 1#32
  let arg1 : BitVec 32 := BitVec.ofNat 32 (i 1).val
  let v2 : Index := Scalar.indexCast arg1
  ![1, v2.toNat]
@[reducible] def k0_t1_loop : Scf.Loop 32 :=
  let c0_i32 : BitVec 32 := 0#32
  let c4_i32 : BitVec 32 := 4#32
  let v52 : BitVec 32 := Scalar.addi c0_i32 c4_i32
  let c1_i32 : BitVec 32 := 1#32
  ⟨c0_i32, v52, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c16_i32 : BitVec 32 := 16#32
  let v66 : BitVec 32 := Scalar.muli arg13 c16_i32
  let c0_i32_38 : BitVec 32 := 0#32
  let v67 : BitVec 32 := Scalar.addi v66 c0_i32_38
  let c128_i32 : BitVec 32 := 128#32
  let v68 : BitVec 32 := Scalar.muli v67 c128_i32
  v68
def k0_off3 (k0_t1 : Fin k0_t1_loop.trips) (c0_i32_38 : BitVec 32) : Fin 2 → Nat :=
  let c0_i32 : BitVec 32 := 0#32
  let c1_i32 : BitVec 32 := 1#32
  let arg13 : BitVec 32 := Scf.iv c0_i32 c1_i32 k0_t1
  let c16_i32 : BitVec 32 := 16#32
  let v66 : BitVec 32 := Scalar.muli arg13 c16_i32
  let v67 : BitVec 32 := Scalar.addi v66 c0_i32_38
  let c128_i32 : BitVec 32 := 128#32
  let v68 : BitVec 32 := Scalar.muli v67 c128_i32
  let v69 : BitVec 32 := v68
  let v70 : Index := Scalar.indexCast v69
  let c0_39 : Index := 0#32
  ![v70.toNat, 0]
def k0_off4 (k0_t1 : Fin k0_t1_loop.trips) (c0_i32_38 : BitVec 32) : Fin 3 → Nat :=
  let c0_i32 : BitVec 32 := 0#32
  let c1_i32 : BitVec 32 := 1#32
  let arg13 : BitVec 32 := Scf.iv c0_i32 c1_i32 k0_t1
  let c16_i32 : BitVec 32 := 16#32
  let v66 : BitVec 32 := Scalar.muli arg13 c16_i32
  let v67 : BitVec 32 := Scalar.addi v66 c0_i32_38
  let v79 : Index := Scalar.indexCast v67
  let c0_42 : Index := 0#32
  let c0_43 : Index := 0#32
  ![v79.toNat, 0, 0]
def k0_off5 (k0_t1 : Fin k0_t1_loop.trips) (c0_i32_38 : BitVec 32) : Fin 3 → Nat :=
  let c0_i32 : BitVec 32 := 0#32
  let c1_i32 : BitVec 32 := 1#32
  let arg13 : BitVec 32 := Scf.iv c0_i32 c1_i32 k0_t1
  let c16_i32 : BitVec 32 := 16#32
  let v66 : BitVec 32 := Scalar.muli arg13 c16_i32
  let v67 : BitVec 32 := Scalar.addi v66 c0_i32_38
  let v86 : Index := Scalar.indexCast v67
  let c0_45 : Index := 0#32
  let c128 : Index := 128#32
  ![v86.toNat, 0, 128]
def k0_mult2 (k0_t1 : Fin k0_t1_loop.trips) : BitVec 32 :=
  let c0_i32 : BitVec 32 := 0#32
  let c1_i32 : BitVec 32 := 1#32
  let arg13 : BitVec 32 := Scf.iv c0_i32 c1_i32 k0_t1
  let c16_i32_46 : BitVec 32 := 16#32
  let v90 : BitVec 32 := Scalar.muli arg13 c16_i32_46
  let c1_i32_47 : BitVec 32 := 1#32
  let v91 : BitVec 32 := Scalar.addi v90 c1_i32_47
  let c128_i32_48 : BitVec 32 := 128#32
  let v92 : BitVec 32 := Scalar.muli v91 c128_i32_48
  v92
def k0_mult3 (k0_t1 : Fin k0_t1_loop.trips) : BitVec 32 :=
  let c0_i32 : BitVec 32 := 0#32
  let c1_i32 : BitVec 32 := 1#32
  let arg13 : BitVec 32 := Scf.iv c0_i32 c1_i32 k0_t1
  let c16_i32_57 : BitVec 32 := 16#32
  let v114 : BitVec 32 := Scalar.muli arg13 c16_i32_57
  let c2_i32 : BitVec 32 := 2#32
  let v115 : BitVec 32 := Scalar.addi v114 c2_i32
  let c128_i32_58 : BitVec 32 := 128#32
  let v116 : BitVec 32 := Scalar.muli v115 c128_i32_58
  v116
def k0_mult4 (k0_t1 : Fin k0_t1_loop.trips) : BitVec 32 :=
  let c0_i32 : BitVec 32 := 0#32
  let c1_i32 : BitVec 32 := 1#32
  let arg13 : BitVec 32 := Scf.iv c0_i32 c1_i32 k0_t1
  let c16_i32_67 : BitVec 32 := 16#32
  let v138 : BitVec 32 := Scalar.muli arg13 c16_i32_67
  let c3_i32 : BitVec 32 := 3#32
  let v139 : BitVec 32 := Scalar.addi v138 c3_i32
  let c128_i32_68 : BitVec 32 := 128#32
  let v140 : BitVec 32 := Scalar.muli v139 c128_i32_68
  v140
def k0_mult5 (k0_t1 : Fin k0_t1_loop.trips) : BitVec 32 :=
  let c0_i32 : BitVec 32 := 0#32
  let c1_i32 : BitVec 32 := 1#32
  let arg13 : BitVec 32 := Scf.iv c0_i32 c1_i32 k0_t1
  let c16_i32_77 : BitVec 32 := 16#32
  let v162 : BitVec 32 := Scalar.muli arg13 c16_i32_77
  let c4_i32_78 : BitVec 32 := 4#32
  let v163 : BitVec 32 := Scalar.addi v162 c4_i32_78
  let c128_i32_79 : BitVec 32 := 128#32
  let v164 : BitVec 32 := Scalar.muli v163 c128_i32_79
  v164
def k0_mult6 (k0_t1 : Fin k0_t1_loop.trips) : BitVec 32 :=
  let c0_i32 : BitVec 32 := 0#32
  let c1_i32 : BitVec 32 := 1#32
  let arg13 : BitVec 32 := Scf.iv c0_i32 c1_i32 k0_t1
  let c16_i32_88 : BitVec 32 := 16#32
  let v186 : BitVec 32 := Scalar.muli arg13 c16_i32_88
  let c5_i32 : BitVec 32 := 5#32
  let v187 : BitVec 32 := Scalar.addi v186 c5_i32
  let c128_i32_89 : BitVec 32 := 128#32
  let v188 : BitVec 32 := Scalar.muli v187 c128_i32_89
  v188
def k0_mult7 (k0_t1 : Fin k0_t1_loop.trips) : BitVec 32 :=
  let c0_i32 : BitVec 32 := 0#32
  let c1_i32 : BitVec 32 := 1#32
  let arg13 : BitVec 32 := Scf.iv c0_i32 c1_i32 k0_t1
  let c16_i32_98 : BitVec 32 := 16#32
  let v210 : BitVec 32 := Scalar.muli arg13 c16_i32_98
  let c6_i32 : BitVec 32 := 6#32
  let v211 : BitVec 32 := Scalar.addi v210 c6_i32
  let c128_i32_99 : BitVec 32 := 128#32
  let v212 : BitVec 32 := Scalar.muli v211 c128_i32_99
  v212
def k0_mult8 (k0_t1 : Fin k0_t1_loop.trips) : BitVec 32 :=
  let c0_i32 : BitVec 32 := 0#32
  let c1_i32 : BitVec 32 := 1#32
  let arg13 : BitVec 32 := Scf.iv c0_i32 c1_i32 k0_t1
  let c16_i32_108 : BitVec 32 := 16#32
  let v234 : BitVec 32 := Scalar.muli arg13 c16_i32_108
  let c7_i32 : BitVec 32 := 7#32
  let v235 : BitVec 32 := Scalar.addi v234 c7_i32
  let c128_i32_109 : BitVec 32 := 128#32
  let v236 : BitVec 32 := Scalar.muli v235 c128_i32_109
  v236
def k0_mult9 (k0_t1 : Fin k0_t1_loop.trips) : BitVec 32 :=
  let c0_i32 : BitVec 32 := 0#32
  let c1_i32 : BitVec 32 := 1#32
  let arg13 : BitVec 32 := Scf.iv c0_i32 c1_i32 k0_t1
  let c16_i32_118 : BitVec 32 := 16#32
  let v258 : BitVec 32 := Scalar.muli arg13 c16_i32_118
  let c8_i32 : BitVec 32 := 8#32
  let v259 : BitVec 32 := Scalar.addi v258 c8_i32
  let c128_i32_119 : BitVec 32 := 128#32
  let v260 : BitVec 32 := Scalar.muli v259 c128_i32_119
  v260
def k0_mult10 (k0_t1 : Fin k0_t1_loop.trips) : BitVec 32 :=
  let c0_i32 : BitVec 32 := 0#32
  let c1_i32 : BitVec 32 := 1#32
  let arg13 : BitVec 32 := Scf.iv c0_i32 c1_i32 k0_t1
  let c16_i32_128 : BitVec 32 := 16#32
  let v282 : BitVec 32 := Scalar.muli arg13 c16_i32_128
  let c9_i32 : BitVec 32 := 9#32
  let v283 : BitVec 32 := Scalar.addi v282 c9_i32
  let c128_i32_129 : BitVec 32 := 128#32
  let v284 : BitVec 32 := Scalar.muli v283 c128_i32_129
  v284
def k0_mult11 (k0_t1 : Fin k0_t1_loop.trips) : BitVec 32 :=
  let c0_i32 : BitVec 32 := 0#32
  let c1_i32 : BitVec 32 := 1#32
  let arg13 : BitVec 32 := Scf.iv c0_i32 c1_i32 k0_t1
  let c16_i32_138 : BitVec 32 := 16#32
  let v306 : BitVec 32 := Scalar.muli arg13 c16_i32_138
  let c10_i32 : BitVec 32 := 10#32
  let v307 : BitVec 32 := Scalar.addi v306 c10_i32
  let c128_i32_139 : BitVec 32 := 128#32
  let v308 : BitVec 32 := Scalar.muli v307 c128_i32_139
  v308
def k0_mult12 (k0_t1 : Fin k0_t1_loop.trips) : BitVec 32 :=
  let c0_i32 : BitVec 32 := 0#32
  let c1_i32 : BitVec 32 := 1#32
  let arg13 : BitVec 32 := Scf.iv c0_i32 c1_i32 k0_t1
  let c16_i32_148 : BitVec 32 := 16#32
  let v330 : BitVec 32 := Scalar.muli arg13 c16_i32_148
  let c11_i32 : BitVec 32 := 11#32
  let v331 : BitVec 32 := Scalar.addi v330 c11_i32
  let c128_i32_149 : BitVec 32 := 128#32
  let v332 : BitVec 32 := Scalar.muli v331 c128_i32_149
  v332
def k0_mult13 (k0_t1 : Fin k0_t1_loop.trips) : BitVec 32 :=
  let c0_i32 : BitVec 32 := 0#32
  let c1_i32 : BitVec 32 := 1#32
  let arg13 : BitVec 32 := Scf.iv c0_i32 c1_i32 k0_t1
  let c16_i32_158 : BitVec 32 := 16#32
  let v354 : BitVec 32 := Scalar.muli arg13 c16_i32_158
  let c12_i32 : BitVec 32 := 12#32
  let v355 : BitVec 32 := Scalar.addi v354 c12_i32
  let c128_i32_159 : BitVec 32 := 128#32
  let v356 : BitVec 32 := Scalar.muli v355 c128_i32_159
  v356
def k0_mult14 (k0_t1 : Fin k0_t1_loop.trips) : BitVec 32 :=
  let c0_i32 : BitVec 32 := 0#32
  let c1_i32 : BitVec 32 := 1#32
  let arg13 : BitVec 32 := Scf.iv c0_i32 c1_i32 k0_t1
  let c16_i32_168 : BitVec 32 := 16#32
  let v378 : BitVec 32 := Scalar.muli arg13 c16_i32_168
  let c13_i32 : BitVec 32 := 13#32
  let v379 : BitVec 32 := Scalar.addi v378 c13_i32
  let c128_i32_169 : BitVec 32 := 128#32
  let v380 : BitVec 32 := Scalar.muli v379 c128_i32_169
  v380
def k0_mult15 (k0_t1 : Fin k0_t1_loop.trips) : BitVec 32 :=
  let c0_i32 : BitVec 32 := 0#32
  let c1_i32 : BitVec 32 := 1#32
  let arg13 : BitVec 32 := Scf.iv c0_i32 c1_i32 k0_t1
  let c16_i32_178 : BitVec 32 := 16#32
  let v402 : BitVec 32 := Scalar.muli arg13 c16_i32_178
  let c14_i32 : BitVec 32 := 14#32
  let v403 : BitVec 32 := Scalar.addi v402 c14_i32
  let c128_i32_179 : BitVec 32 := 128#32
  let v404 : BitVec 32 := Scalar.muli v403 c128_i32_179
  v404
def k0_mult16 (k0_t1 : Fin k0_t1_loop.trips) : BitVec 32 :=
  let c0_i32 : BitVec 32 := 0#32
  let c1_i32 : BitVec 32 := 1#32
  let arg13 : BitVec 32 := Scf.iv c0_i32 c1_i32 k0_t1
  let c16_i32_188 : BitVec 32 := 16#32
  let v426 : BitVec 32 := Scalar.muli arg13 c16_i32_188
  let c15_i32 : BitVec 32 := 15#32
  let v427 : BitVec 32 := Scalar.addi v426 c15_i32
  let c128_i32_189 : BitVec 32 := 128#32
  let v428 : BitVec 32 := Scalar.muli v427 c128_i32_189
  v428
@[reducible] def k0_t2_loop : Scf.Loop 32 :=
  let c0_i32_21 : BitVec 32 := 0#32
  let c64_i32 : BitVec 32 := 64#32
  let v57 : BitVec 32 := Scalar.addi c0_i32_21 c64_i32
  let c1_i32_22 : BitVec 32 := 1#32
  ⟨c0_i32_21, v57, c1_i32_22⟩
def k0_off6 (k0_t2 : Fin k0_t2_loop.trips) : Fin 3 → Nat :=
  let c0_i32_21 : BitVec 32 := 0#32
  let c1_i32_22 : BitVec 32 := 1#32
  let arg13 : BitVec 32 := Scf.iv c0_i32_21 c1_i32_22 k0_t2
  let v67 : Index := Scalar.indexCast arg13
  let c0_38 : Index := 0#32
  let c0_39 : Index := 0#32
  ![v67.toNat, 0, 0]
def k0_off7 (k0_t2 : Fin k0_t2_loop.trips) : Fin 3 → Nat :=
  let c63_i32 : BitVec 32 := 63#32
  let c0_i32_21 : BitVec 32 := 0#32
  let c1_i32_22 : BitVec 32 := 1#32
  let arg13 : BitVec 32 := Scf.iv c0_i32_21 c1_i32_22 k0_t2
  let v66 : BitVec 32 := Scalar.subi c63_i32 arg13
  let v74 : Index := Scalar.indexCast v66
  let c0_42 : Index := 0#32
  let c128 : Index := 128#32
  ![v74.toNat, 0, 128]
@[reducible] def k0_t3_loop : Scf.Loop 32 :=
  let c0_i32_34 : BitVec 32 := 0#32
  let c4_i32_35 : BitVec 32 := 4#32
  let v65 : BitVec 32 := Scalar.addi c0_i32_34 c4_i32_35
  let c1_i32_36 : BitVec 32 := 1#32
  ⟨c0_i32_34, v65, c1_i32_36⟩
def k0_mult17 (k0_t3 : Fin k0_t3_loop.trips) : BitVec 32 :=
  let c0_i32_34 : BitVec 32 := 0#32
  let c1_i32_36 : BitVec 32 := 1#32
  let arg13 : BitVec 32 := Scf.iv c0_i32_34 c1_i32_36 k0_t3
  let c16_i32 : BitVec 32 := 16#32
  let v66 : BitVec 32 := Scalar.muli arg13 c16_i32
  let c0_i32_38 : BitVec 32 := 0#32
  let v67 : BitVec 32 := Scalar.addi v66 c0_i32_38
  let c128_i32 : BitVec 32 := 128#32
  let v68 : BitVec 32 := Scalar.muli v67 c128_i32
  v68
def k0_off8 (k0_t3 : Fin k0_t3_loop.trips) (c0_i32_38 : BitVec 32) : Fin 2 → Nat :=
  let c0_i32_34 : BitVec 32 := 0#32
  let c1_i32_36 : BitVec 32 := 1#32
  let arg13 : BitVec 32 := Scf.iv c0_i32_34 c1_i32_36 k0_t3
  let c16_i32 : BitVec 32 := 16#32
  let v66 : BitVec 32 := Scalar.muli arg13 c16_i32
  let v67 : BitVec 32 := Scalar.addi v66 c0_i32_38
  let c128_i32 : BitVec 32 := 128#32
  let v68 : BitVec 32 := Scalar.muli v67 c128_i32
  let v69 : BitVec 32 := v68
  let v70 : Index := Scalar.indexCast v69
  let c0_39 : Index := 0#32
  ![v70.toNat, 0]
def k0_off9 (k0_t3 : Fin k0_t3_loop.trips) (c0_i32_38 : BitVec 32) : Fin 3 → Nat :=
  let c0_i32_34 : BitVec 32 := 0#32
  let c1_i32_36 : BitVec 32 := 1#32
  let arg13 : BitVec 32 := Scf.iv c0_i32_34 c1_i32_36 k0_t3
  let c16_i32 : BitVec 32 := 16#32
  let v66 : BitVec 32 := Scalar.muli arg13 c16_i32
  let v67 : BitVec 32 := Scalar.addi v66 c0_i32_38
  let v80 : Index := Scalar.indexCast v67
  let c0_44 : Index := 0#32
  let c0_45 : Index := 0#32
  ![v80.toNat, 0, 0]
def k0_mult18 (k0_t3 : Fin k0_t3_loop.trips) : BitVec 32 :=
  let c0_i32_34 : BitVec 32 := 0#32
  let c1_i32_36 : BitVec 32 := 1#32
  let arg13 : BitVec 32 := Scf.iv c0_i32_34 c1_i32_36 k0_t3
  let c16_i32_56 : BitVec 32 := 16#32
  let v120 : BitVec 32 := Scalar.muli arg13 c16_i32_56
  let c1_i32_57 : BitVec 32 := 1#32
  let v121 : BitVec 32 := Scalar.addi v120 c1_i32_57
  let c128_i32_58 : BitVec 32 := 128#32
  let v122 : BitVec 32 := Scalar.muli v121 c128_i32_58
  v122
def k0_mult19 (k0_t3 : Fin k0_t3_loop.trips) : BitVec 32 :=
  let c0_i32_34 : BitVec 32 := 0#32
  let c1_i32_36 : BitVec 32 := 1#32
  let arg13 : BitVec 32 := Scf.iv c0_i32_34 c1_i32_36 k0_t3
  let c16_i32_76 : BitVec 32 := 16#32
  let v174 : BitVec 32 := Scalar.muli arg13 c16_i32_76
  let c2_i32 : BitVec 32 := 2#32
  let v175 : BitVec 32 := Scalar.addi v174 c2_i32
  let c128_i32_77 : BitVec 32 := 128#32
  let v176 : BitVec 32 := Scalar.muli v175 c128_i32_77
  v176
def k0_mult20 (k0_t3 : Fin k0_t3_loop.trips) : BitVec 32 :=
  let c0_i32_34 : BitVec 32 := 0#32
  let c1_i32_36 : BitVec 32 := 1#32
  let arg13 : BitVec 32 := Scf.iv c0_i32_34 c1_i32_36 k0_t3
  let c16_i32_95 : BitVec 32 := 16#32
  let v228 : BitVec 32 := Scalar.muli arg13 c16_i32_95
  let c3_i32 : BitVec 32 := 3#32
  let v229 : BitVec 32 := Scalar.addi v228 c3_i32
  let c128_i32_96 : BitVec 32 := 128#32
  let v230 : BitVec 32 := Scalar.muli v229 c128_i32_96
  v230
def k0_mult21 (k0_t3 : Fin k0_t3_loop.trips) : BitVec 32 :=
  let c0_i32_34 : BitVec 32 := 0#32
  let c1_i32_36 : BitVec 32 := 1#32
  let arg13 : BitVec 32 := Scf.iv c0_i32_34 c1_i32_36 k0_t3
  let c16_i32_114 : BitVec 32 := 16#32
  let v282 : BitVec 32 := Scalar.muli arg13 c16_i32_114
  let c4_i32_115 : BitVec 32 := 4#32
  let v283 : BitVec 32 := Scalar.addi v282 c4_i32_115
  let c128_i32_116 : BitVec 32 := 128#32
  let v284 : BitVec 32 := Scalar.muli v283 c128_i32_116
  v284
def k0_mult22 (k0_t3 : Fin k0_t3_loop.trips) : BitVec 32 :=
  let c0_i32_34 : BitVec 32 := 0#32
  let c1_i32_36 : BitVec 32 := 1#32
  let arg13 : BitVec 32 := Scf.iv c0_i32_34 c1_i32_36 k0_t3
  let c16_i32_134 : BitVec 32 := 16#32
  let v336 : BitVec 32 := Scalar.muli arg13 c16_i32_134
  let c5_i32 : BitVec 32 := 5#32
  let v337 : BitVec 32 := Scalar.addi v336 c5_i32
  let c128_i32_135 : BitVec 32 := 128#32
  let v338 : BitVec 32 := Scalar.muli v337 c128_i32_135
  v338
def k0_mult23 (k0_t3 : Fin k0_t3_loop.trips) : BitVec 32 :=
  let c0_i32_34 : BitVec 32 := 0#32
  let c1_i32_36 : BitVec 32 := 1#32
  let arg13 : BitVec 32 := Scf.iv c0_i32_34 c1_i32_36 k0_t3
  let c16_i32_153 : BitVec 32 := 16#32
  let v390 : BitVec 32 := Scalar.muli arg13 c16_i32_153
  let c6_i32 : BitVec 32 := 6#32
  let v391 : BitVec 32 := Scalar.addi v390 c6_i32
  let c128_i32_154 : BitVec 32 := 128#32
  let v392 : BitVec 32 := Scalar.muli v391 c128_i32_154
  v392
def k0_mult24 (k0_t3 : Fin k0_t3_loop.trips) : BitVec 32 :=
  let c0_i32_34 : BitVec 32 := 0#32
  let c1_i32_36 : BitVec 32 := 1#32
  let arg13 : BitVec 32 := Scf.iv c0_i32_34 c1_i32_36 k0_t3
  let c16_i32_172 : BitVec 32 := 16#32
  let v444 : BitVec 32 := Scalar.muli arg13 c16_i32_172
  let c7_i32 : BitVec 32 := 7#32
  let v445 : BitVec 32 := Scalar.addi v444 c7_i32
  let c128_i32_173 : BitVec 32 := 128#32
  let v446 : BitVec 32 := Scalar.muli v445 c128_i32_173
  v446
def k0_mult25 (k0_t3 : Fin k0_t3_loop.trips) : BitVec 32 :=
  let c0_i32_34 : BitVec 32 := 0#32
  let c1_i32_36 : BitVec 32 := 1#32
  let arg13 : BitVec 32 := Scf.iv c0_i32_34 c1_i32_36 k0_t3
  let c16_i32_191 : BitVec 32 := 16#32
  let v498 : BitVec 32 := Scalar.muli arg13 c16_i32_191
  let c8_i32 : BitVec 32 := 8#32
  let v499 : BitVec 32 := Scalar.addi v498 c8_i32
  let c128_i32_192 : BitVec 32 := 128#32
  let v500 : BitVec 32 := Scalar.muli v499 c128_i32_192
  v500
def k0_mult26 (k0_t3 : Fin k0_t3_loop.trips) : BitVec 32 :=
  let c0_i32_34 : BitVec 32 := 0#32
  let c1_i32_36 : BitVec 32 := 1#32
  let arg13 : BitVec 32 := Scf.iv c0_i32_34 c1_i32_36 k0_t3
  let c16_i32_210 : BitVec 32 := 16#32
  let v552 : BitVec 32 := Scalar.muli arg13 c16_i32_210
  let c9_i32 : BitVec 32 := 9#32
  let v553 : BitVec 32 := Scalar.addi v552 c9_i32
  let c128_i32_211 : BitVec 32 := 128#32
  let v554 : BitVec 32 := Scalar.muli v553 c128_i32_211
  v554
def k0_mult27 (k0_t3 : Fin k0_t3_loop.trips) : BitVec 32 :=
  let c0_i32_34 : BitVec 32 := 0#32
  let c1_i32_36 : BitVec 32 := 1#32
  let arg13 : BitVec 32 := Scf.iv c0_i32_34 c1_i32_36 k0_t3
  let c16_i32_229 : BitVec 32 := 16#32
  let v606 : BitVec 32 := Scalar.muli arg13 c16_i32_229
  let c10_i32 : BitVec 32 := 10#32
  let v607 : BitVec 32 := Scalar.addi v606 c10_i32
  let c128_i32_230 : BitVec 32 := 128#32
  let v608 : BitVec 32 := Scalar.muli v607 c128_i32_230
  v608
def k0_mult28 (k0_t3 : Fin k0_t3_loop.trips) : BitVec 32 :=
  let c0_i32_34 : BitVec 32 := 0#32
  let c1_i32_36 : BitVec 32 := 1#32
  let arg13 : BitVec 32 := Scf.iv c0_i32_34 c1_i32_36 k0_t3
  let c16_i32_248 : BitVec 32 := 16#32
  let v660 : BitVec 32 := Scalar.muli arg13 c16_i32_248
  let c11_i32 : BitVec 32 := 11#32
  let v661 : BitVec 32 := Scalar.addi v660 c11_i32
  let c128_i32_249 : BitVec 32 := 128#32
  let v662 : BitVec 32 := Scalar.muli v661 c128_i32_249
  v662
def k0_mult29 (k0_t3 : Fin k0_t3_loop.trips) : BitVec 32 :=
  let c0_i32_34 : BitVec 32 := 0#32
  let c1_i32_36 : BitVec 32 := 1#32
  let arg13 : BitVec 32 := Scf.iv c0_i32_34 c1_i32_36 k0_t3
  let c16_i32_267 : BitVec 32 := 16#32
  let v714 : BitVec 32 := Scalar.muli arg13 c16_i32_267
  let c12_i32 : BitVec 32 := 12#32
  let v715 : BitVec 32 := Scalar.addi v714 c12_i32
  let c128_i32_268 : BitVec 32 := 128#32
  let v716 : BitVec 32 := Scalar.muli v715 c128_i32_268
  v716
def k0_mult30 (k0_t3 : Fin k0_t3_loop.trips) : BitVec 32 :=
  let c0_i32_34 : BitVec 32 := 0#32
  let c1_i32_36 : BitVec 32 := 1#32
  let arg13 : BitVec 32 := Scf.iv c0_i32_34 c1_i32_36 k0_t3
  let c16_i32_286 : BitVec 32 := 16#32
  let v768 : BitVec 32 := Scalar.muli arg13 c16_i32_286
  let c13_i32 : BitVec 32 := 13#32
  let v769 : BitVec 32 := Scalar.addi v768 c13_i32
  let c128_i32_287 : BitVec 32 := 128#32
  let v770 : BitVec 32 := Scalar.muli v769 c128_i32_287
  v770
def k0_mult31 (k0_t3 : Fin k0_t3_loop.trips) : BitVec 32 :=
  let c0_i32_34 : BitVec 32 := 0#32
  let c1_i32_36 : BitVec 32 := 1#32
  let arg13 : BitVec 32 := Scf.iv c0_i32_34 c1_i32_36 k0_t3
  let c16_i32_305 : BitVec 32 := 16#32
  let v822 : BitVec 32 := Scalar.muli arg13 c16_i32_305
  let c14_i32 : BitVec 32 := 14#32
  let v823 : BitVec 32 := Scalar.addi v822 c14_i32
  let c128_i32_306 : BitVec 32 := 128#32
  let v824 : BitVec 32 := Scalar.muli v823 c128_i32_306
  v824
def k0_mult32 (k0_t3 : Fin k0_t3_loop.trips) : BitVec 32 :=
  let c0_i32_34 : BitVec 32 := 0#32
  let c1_i32_36 : BitVec 32 := 1#32
  let arg13 : BitVec 32 := Scf.iv c0_i32_34 c1_i32_36 k0_t3
  let c16_i32_324 : BitVec 32 := 16#32
  let v876 : BitVec 32 := Scalar.muli arg13 c16_i32_324
  let c15_i32 : BitVec 32 := 15#32
  let v877 : BitVec 32 := Scalar.addi v876 c15_i32
  let c128_i32_325 : BitVec 32 := 128#32
  let v878 : BitVec 32 := Scalar.muli v877 c128_i32_325
  v878
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let v1 : BitVec 32 := Scalar.addi c0_i32_0 arg1
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c8_i32 : BitVec 32 := 8#32
  let v1 : BitVec 32 := Scalar.addi c8_i32 arg1
  let c0_i32_0 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c16_i32 : BitVec 32 := 16#32
  let v1 : BitVec 32 := Scalar.addi c16_i32 arg1
  let c0_i32_0 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c24_i32 : BitVec 32 := 24#32
  let v1 : BitVec 32 := Scalar.addi c24_i32 arg1
  let c0_i32_0 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

def cc0_transform_9 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 1 → Memref sig .tc .smem S2x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x2x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8192x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x2x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S33792x6144 : Shape := ⟨2, ![33792, 6144]⟩
abbrev S8 : Shape := ⟨1, ![8]⟩
abbrev S1024 : Shape := ⟨1, ![1024]⟩
abbrev S4x8x2x128x128 : Shape := ⟨5, ![4, 8, 2, 128, 128]⟩
abbrev S33792x1024 : Shape := ⟨2, ![33792, 1024]⟩
abbrev S32768x4096 : Shape := ⟨2, ![32768, 4096]⟩
abbrev S32768x1024 : Shape := ⟨2, ![32768, 1024]⟩
abbrev S4x8192x8x128 : Shape := ⟨4, ![4, 8192, 8, 128]⟩
abbrev S4x8x8192x128 : Shape := ⟨4, ![4, 8, 8192, 128]⟩
abbrev S_ : Shape := ⟨0, ![]⟩
abbrev S1x8x1x1 : Shape := ⟨4, ![1, 8, 1, 1]⟩
abbrev S128 : Shape := ⟨1, ![128]⟩
abbrev S8x1 : Shape := ⟨2, ![8, 1]⟩
abbrev S1x128 : Shape := ⟨2, ![1, 128]⟩
abbrev S8x128 : Shape := ⟨2, ![8, 128]⟩
abbrev S4x8x64x128x128 : Shape := ⟨5, ![4, 8, 64, 128, 128]⟩
abbrev S1x8x1x128x1 : Shape := ⟨5, ![1, 8, 1, 128, 1]⟩
abbrev S64x4x8x128x128 : Shape := ⟨5, ![64, 4, 8, 128, 128]⟩
abbrev S4x8x1x128x128 : Shape := ⟨5, ![4, 8, 1, 128, 128]⟩
abbrev S4x8x128x128 : Shape := ⟨4, ![4, 8, 128, 128]⟩
abbrev S1x4x8x128x128 : Shape := ⟨5, ![1, 4, 8, 128, 128]⟩
abbrev S128x1 : Shape := ⟨2, ![128, 1]⟩
abbrev S128x128 : Shape := ⟨2, ![128, 128]⟩
abbrev S8x1x1 : Shape := ⟨3, ![8, 1, 1]⟩
abbrev S1x128x128 : Shape := ⟨3, ![1, 128, 128]⟩
abbrev S8x128x128 : Shape := ⟨3, ![8, 128, 128]⟩
abbrev S1x8x1x128x128 : Shape := ⟨5, ![1, 8, 1, 128, 128]⟩
abbrev S4x8192x8 : Shape := ⟨3, ![4, 8192, 8]⟩
abbrev S4x8192x8x1 : Shape := ⟨4, ![4, 8192, 8, 1]⟩
abbrev S1x1024 : Shape := ⟨2, ![1, 1024]⟩
abbrev S1024x1024 : Shape := ⟨2, ![1024, 1024]⟩

abbrev nBuf : Space → Nat
  | .hbm => 263
  | .vmem => 0
  | .smem => 0
  | _ => 0

abbrev hbmTy0_0 (i : Nat) : BufTy := match i % 128 with
  | 0 => ⟨S33792x6144, .bf16⟩
  | 1 => ⟨S8, .f32⟩
  | 2 => ⟨S8, .f32⟩
  | 3 => ⟨S1024, .f32⟩
  | 4 => ⟨S4x8x2x128x128, .f32⟩
  | 5 => ⟨S33792x1024, .bf16⟩
  | 6 => ⟨S32768x4096, .bf16⟩
  | 7 => ⟨S32768x4096, .f32⟩
  | 8 => ⟨S32768x1024, .f32⟩
  | 9 => ⟨S32768x1024, .f32⟩
  | 10 => ⟨S32768x1024, .f32⟩
  | 11 => ⟨S32768x1024, .f32⟩
  | 12 => ⟨S4x8192x8x128, .f32⟩
  | 13 => ⟨S4x8x8192x128, .f32⟩
  | 14 => ⟨S4x8192x8x128, .f32⟩
  | 15 => ⟨S4x8x8192x128, .f32⟩
  | 16 => ⟨S4x8192x8x128, .f32⟩
  | 17 => ⟨S4x8x8192x128, .f32⟩
  | 18 => ⟨S4x8x8192x128, .f32⟩
  | 19 => ⟨S4x8x8192x128, .f32⟩
  | 20 => ⟨S4x8x8192x128, .f32⟩
  | 21 => ⟨S8, .f32⟩
  | 22 => ⟨S8, .f32⟩
  | 23 => ⟨S8, .f32⟩
  | 24 => ⟨S8, .f32⟩
  | 25 => ⟨S_, .f32⟩
  | 26 => ⟨S8, .f32⟩
  | 27 => ⟨S8, .f32⟩
  | 28 => ⟨S8, .f32⟩
  | 29 => ⟨S1x8x1x1, .f32⟩
  | 30 => ⟨S_, .f32⟩
  | 31 => ⟨S8, .f32⟩
  | 32 => ⟨S8, .f32⟩
  | 33 => ⟨S8, .f32⟩
  | 34 => ⟨S1x8x1x1, .f32⟩
  | 35 => ⟨S128, .f32⟩
  | 36 => ⟨S8x1, .f32⟩
  | 37 => ⟨S_, .f32⟩
  | 38 => ⟨S128, .f32⟩
  | 39 => ⟨S128, .f32⟩
  | 40 => ⟨S1x128, .f32⟩
  | 41 => ⟨S8x128, .f32⟩
  | 42 => ⟨S8x128, .f32⟩
  | 43 => ⟨S8x128, .f32⟩
  | 44 => ⟨S8x128, .f32⟩
  | 45 => ⟨S4x8x64x128x128, .f32⟩
  | 46 => ⟨S1x8x1x128x1, .f32⟩
  | 47 => ⟨S4x8x64x128x128, .f32⟩
  | 48 => ⟨S4x8x64x128x128, .f32⟩
  | 49 => ⟨S4x8x64x128x128, .f32⟩
  | 50 => ⟨S4x8x64x128x128, .f32⟩
  | 51 => ⟨S64x4x8x128x128, .f32⟩
  | 52 => ⟨S128, .f32⟩
  | 53 => ⟨S8x1, .f32⟩
  | 54 => ⟨S_, .f32⟩
  | 55 => ⟨S128, .f32⟩
  | 56 => ⟨S128, .f32⟩
  | 57 => ⟨S1x128, .f32⟩
  | 58 => ⟨S8x128, .f32⟩
  | 59 => ⟨S8x128, .f32⟩
  | 60 => ⟨S8x128, .f32⟩
  | 61 => ⟨S8x128, .f32⟩
  | 62 => ⟨S4x8x64x128x128, .f32⟩
  | 63 => ⟨S1x8x1x128x1, .f32⟩
  | 64 => ⟨S4x8x64x128x128, .f32⟩
  | 65 => ⟨S4x8x64x128x128, .f32⟩
  | 66 => ⟨S4x8x64x128x128, .f32⟩
  | 67 => ⟨S4x8x64x128x128, .f32⟩
  | 68 => ⟨S64x4x8x128x128, .f32⟩
  | 69 => ⟨S4x8x1x128x128, .f32⟩
  | 70 => ⟨S4x8x128x128, .f32⟩
  | 71 => ⟨S4x8x1x128x128, .f32⟩
  | 72 => ⟨S4x8x128x128, .f32⟩
  | 73 => ⟨S_, .f32⟩
  | 74 => ⟨S64x4x8x128x128, .f32⟩
  | 75 => ⟨S_, .f32⟩
  | 76 => ⟨S64x4x8x128x128, .f32⟩
  | 77 => ⟨S_, .i32⟩
  | 78 => ⟨S64x4x8x128x128, .f32⟩
  | 79 => ⟨S64x4x8x128x128, .f32⟩
  | 80 => ⟨S1x8x1x1, .f32⟩
  | 81 => ⟨S1x8x1x1, .f32⟩
  | 82 => ⟨S_, .i32⟩
  | 83 => ⟨S4x8x128x128, .f32⟩
  | 84 => ⟨S4x8x128x128, .f32⟩
  | 85 => ⟨S64x4x8x128x128, .f32⟩
  | 86 => ⟨S64x4x8x128x128, .f32⟩
  | 87 => ⟨S_, .i32⟩
  | 88 => ⟨S_, .i1⟩
  | 89 => ⟨S_, .i32⟩
  | 90 => ⟨S_, .i32⟩
  | 91 => ⟨S_, .i32⟩
  | 92 => ⟨S_, .i32⟩
  | 93 => ⟨S1x4x8x128x128, .f32⟩
  | 94 => ⟨S4x8x128x128, .f32⟩
  | 95 => ⟨S_, .i32⟩
  | 96 => ⟨S_, .i32⟩
  | 97 => ⟨S_, .i32⟩
  | 98 => ⟨S_, .i32⟩
  | 99 => ⟨S1x4x8x128x128, .f32⟩
  | 100 => ⟨S4x8x128x128, .f32⟩
  | 101 => ⟨S4x8x128x128, .f32⟩
  | 102 => ⟨S4x8x128x128, .f32⟩
  | 103 => ⟨S4x8x128x128, .f32⟩
  | 104 => ⟨S4x8x128x128, .f32⟩
  | 105 => ⟨S4x8x128x128, .f32⟩
  | 106 => ⟨S4x8x128x128, .f32⟩
  | 107 => ⟨S1x4x8x128x128, .f32⟩
  | 108 => ⟨S_, .i32⟩
  | 109 => ⟨S_, .i32⟩
  | 110 => ⟨S_, .i32⟩
  | 111 => ⟨S_, .i32⟩
  | 112 => ⟨S64x4x8x128x128, .f32⟩
  | 113 => ⟨S1x4x8x128x128, .f32⟩
  | 114 => ⟨S_, .i32⟩
  | 115 => ⟨S_, .i32⟩
  | 116 => ⟨S_, .i32⟩
  | 117 => ⟨S_, .i32⟩
  | 118 => ⟨S64x4x8x128x128, .f32⟩
  | 119 => ⟨S_, .i32⟩
  | 120 => ⟨S_, .i32⟩
  | 121 => ⟨S4x8x64x128x128, .f32⟩
  | 122 => ⟨S128, .f32⟩
  | 123 => ⟨S128x1, .f32⟩
  | 124 => ⟨S1x128, .f32⟩
  | 125 => ⟨S128x128, .f32⟩
  | 126 => ⟨S128x128, .f32⟩
  | 127 => ⟨S128x128, .f32⟩
  | _ => ⟨S33792x6144, .bf16⟩

abbrev hbmTy0_1 (i : Nat) : BufTy := match i % 128 with
  | 0 => ⟨S_, .f32⟩
  | 1 => ⟨S128x128, .f32⟩
  | 2 => ⟨S128x128, .i1⟩
  | 3 => ⟨S8x1x1, .f32⟩
  | 4 => ⟨S_, .f32⟩
  | 5 => ⟨S128x128, .f32⟩
  | 6 => ⟨S128x128, .f32⟩
  | 7 => ⟨S1x128x128, .f32⟩
  | 8 => ⟨S8x128x128, .f32⟩
  | 9 => ⟨S8x128x128, .f32⟩
  | 10 => ⟨S8x128x128, .f32⟩
  | 11 => ⟨S8x128x128, .f32⟩
  | 12 => ⟨S_, .f32⟩
  | 13 => ⟨S_, .f32⟩
  | 14 => ⟨S8x128x128, .i1⟩
  | 15 => ⟨S8x128x128, .f32⟩
  | 16 => ⟨S8x128x128, .f32⟩
  | 17 => ⟨S4x8x64x128x128, .f32⟩
  | 18 => ⟨S4x8x64x128x128, .f32⟩
  | 19 => ⟨S4x8x64x128x128, .f32⟩
  | 20 => ⟨S1x8x1x128x128, .f32⟩
  | 21 => ⟨S4x8x64x128x128, .f32⟩
  | 22 => ⟨S4x8x64x128x128, .f32⟩
  | 23 => ⟨S4x8x64x128x128, .f32⟩
  | 24 => ⟨S4x8x64x128x128, .f32⟩
  | 25 => ⟨S8x1, .f32⟩
  | 26 => ⟨S_, .f32⟩
  | 27 => ⟨S128, .f32⟩
  | 28 => ⟨S128, .f32⟩
  | 29 => ⟨S1x128, .f32⟩
  | 30 => ⟨S8x128, .f32⟩
  | 31 => ⟨S8x128, .f32⟩
  | 32 => ⟨S8x128, .f32⟩
  | 33 => ⟨S8x128, .f32⟩
  | 34 => ⟨S4x8x64x128x128, .f32⟩
  | 35 => ⟨S4x8x64x128x128, .f32⟩
  | 36 => ⟨S1x8x1x128x1, .f32⟩
  | 37 => ⟨S4x8x64x128x128, .f32⟩
  | 38 => ⟨S4x8x64x128x128, .f32⟩
  | 39 => ⟨S4x8x64x128x128, .f32⟩
  | 40 => ⟨S4x8x8192x128, .f32⟩
  | 41 => ⟨S4x8x64x128x128, .f32⟩
  | 42 => ⟨S128, .f32⟩
  | 43 => ⟨S128x1, .f32⟩
  | 44 => ⟨S1x128, .f32⟩
  | 45 => ⟨S128x128, .f32⟩
  | 46 => ⟨S128x128, .f32⟩
  | 47 => ⟨S128x128, .f32⟩
  | 48 => ⟨S_, .f32⟩
  | 49 => ⟨S128x128, .f32⟩
  | 50 => ⟨S128x128, .i1⟩
  | 51 => ⟨S8x1x1, .f32⟩
  | 52 => ⟨S_, .f32⟩
  | 53 => ⟨S128x128, .f32⟩
  | 54 => ⟨S128x128, .f32⟩
  | 55 => ⟨S1x128x128, .f32⟩
  | 56 => ⟨S8x128x128, .f32⟩
  | 57 => ⟨S8x128x128, .f32⟩
  | 58 => ⟨S8x128x128, .f32⟩
  | 59 => ⟨S8x128x128, .f32⟩
  | 60 => ⟨S_, .f32⟩
  | 61 => ⟨S_, .f32⟩
  | 62 => ⟨S8x128x128, .i1⟩
  | 63 => ⟨S8x128x128, .f32⟩
  | 64 => ⟨S8x128x128, .f32⟩
  | 65 => ⟨S4x8x64x128x128, .f32⟩
  | 66 => ⟨S4x8x64x128x128, .f32⟩
  | 67 => ⟨S4x8x64x128x128, .f32⟩
  | 68 => ⟨S1x8x1x128x128, .f32⟩
  | 69 => ⟨S4x8x64x128x128, .f32⟩
  | 70 => ⟨S4x8x64x128x128, .f32⟩
  | 71 => ⟨S4x8x64x128x128, .f32⟩
  | 72 => ⟨S4x8x64x128x128, .f32⟩
  | 73 => ⟨S8x1, .f32⟩
  | 74 => ⟨S_, .f32⟩
  | 75 => ⟨S128, .f32⟩
  | 76 => ⟨S128, .f32⟩
  | 77 => ⟨S1x128, .f32⟩
  | 78 => ⟨S8x128, .f32⟩
  | 79 => ⟨S8x128, .f32⟩
  | 80 => ⟨S8x128, .f32⟩
  | 81 => ⟨S8x128, .f32⟩
  | 82 => ⟨S4x8x64x128x128, .f32⟩
  | 83 => ⟨S4x8x64x128x128, .f32⟩
  | 84 => ⟨S1x8x1x128x1, .f32⟩
  | 85 => ⟨S4x8x64x128x128, .f32⟩
  | 86 => ⟨S4x8x64x128x128, .f32⟩
  | 87 => ⟨S4x8x64x128x128, .f32⟩
  | 88 => ⟨S4x8x8192x128, .f32⟩
  | 89 => ⟨S4x8x8192x128, .f32⟩
  | 90 => ⟨S4x8x8192x128, .f32⟩
  | 91 => ⟨S4x8192x8x128, .f32⟩
  | 92 => ⟨S_, .f32⟩
  | 93 => ⟨S4x8192x8, .f32⟩
  | 94 => ⟨S4x8192x8x1, .f32⟩
  | 95 => ⟨S_, .f32⟩
  | 96 => ⟨S4x8192x8x1, .f32⟩
  | 97 => ⟨S4x8192x8x1, .f32⟩
  | 98 => ⟨S4x8192x8x128, .f32⟩
  | 99 => ⟨S4x8192x8x128, .f32⟩
  | 100 => ⟨S4x8192x8x128, .f32⟩
  | 101 => ⟨S_, .f32⟩
  | 102 => ⟨S4x8192x8, .f32⟩
  | 103 => ⟨S4x8192x8x1, .f32⟩
  | 104 => ⟨S_, .f32⟩
  | 105 => ⟨S4x8192x8x1, .f32⟩
  | 106 => ⟨S4x8192x8x1, .f32⟩
  | 107 => ⟨S4x8192x8x128, .f32⟩
  | 108 => ⟨S4x8192x8x128, .f32⟩
  | 109 => ⟨S_, .f32⟩
  | 110 => ⟨S4x8192x8x1, .f32⟩
  | 111 => ⟨S4x8192x8x1, .f32⟩
  | 112 => ⟨S4x8192x8x1, .f32⟩
  | 113 => ⟨S4x8192x8x128, .f32⟩
  | 114 => ⟨S4x8192x8x128, .f32⟩
  | 115 => ⟨S32768x1024, .f32⟩
  | 116 => ⟨S1x1024, .f32⟩
  | 117 => ⟨S32768x1024, .f32⟩
  | 118 => ⟨S32768x1024, .f32⟩
  | 119 => ⟨S32768x1024, .f32⟩
  | 120 => ⟨S32768x1024, .f32⟩
  | 121 => ⟨S_, .f32⟩
  | 122 => ⟨S32768x1024, .f32⟩
  | 123 => ⟨S32768x1024, .f32⟩
  | 124 => ⟨S_, .f32⟩
  | 125 => ⟨S32768x1024, .f32⟩
  | 126 => ⟨S32768x1024, .f32⟩
  | 127 => ⟨S32768x1024, .f32⟩
  | _ => ⟨S33792x6144, .bf16⟩

abbrev hbmTy0_2 (i : Nat) : BufTy := match i % 128 with
  | 0 => ⟨S32768x1024, .f32⟩
  | 1 => ⟨S32768x1024, .bf16⟩
  | 2 => ⟨S1024x1024, .bf16⟩
  | 3 => ⟨S33792x1024, .bf16⟩
  | 4 => ⟨S4x8x1x128x128, .f32⟩
  | 5 => ⟨S4x8x1x128x128, .f32⟩
  | 6 => ⟨S4x8x2x128x128, .f32⟩
  | _ => ⟨S33792x6144, .bf16⟩

abbrev hbmTy (i : Nat) : BufTy := match i / 128 with
  | 0 => hbmTy0_0 i
  | 1 => hbmTy0_1 i
  | 2 => hbmTy0_2 i
  | _ => ⟨S33792x6144, .bf16⟩

abbrev bufTy : (tb : Table) → Fin (tcTables nBuf tb) → BufTy
  | .hbm, ⟨i, _⟩ => hbmTy i
  | _, _ => ⟨S33792x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_0 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_1 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_2 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_cst_3 : Ref sig .tc := ⟨.hbm, 73, rfl⟩
abbrev main_v63 : Ref sig .tc := ⟨.hbm, 74, rfl⟩
abbrev main_cst_4 : Ref sig .tc := ⟨.hbm, 75, rfl⟩
abbrev main_v64 : Ref sig .tc := ⟨.hbm, 76, rfl⟩
abbrev main_c : Ref sig .tc := ⟨.hbm, 77, rfl⟩
abbrev main_v65_0 : Ref sig .tc := ⟨.hbm, 78, rfl⟩
abbrev main_v65_1 : Ref sig .tc := ⟨.hbm, 79, rfl⟩
abbrev main_v65_2 : Ref sig .tc := ⟨.hbm, 80, rfl⟩
abbrev main_v65_3 : Ref sig .tc := ⟨.hbm, 81, rfl⟩
abbrev main_v65_4 : Ref sig .tc := ⟨.hbm, 82, rfl⟩
abbrev main_v65_5 : Ref sig .tc := ⟨.hbm, 83, rfl⟩
abbrev main_v65_6 : Ref sig .tc := ⟨.hbm, 84, rfl⟩
abbrev main_v65_7 : Ref sig .tc := ⟨.hbm, 85, rfl⟩
abbrev main_v65_8 : Ref sig .tc := ⟨.hbm, 86, rfl⟩
abbrev main_while0c_c_26 : Ref sig .tc := ⟨.hbm, 87, rfl⟩
abbrev main_while0c_v181 : Ref sig .tc := ⟨.hbm, 88, rfl⟩
abbrev main_while0b_call3_c : Ref sig .tc := ⟨.hbm, 89, rfl⟩
abbrev main_while0b_call3_c_0 : Ref sig .tc := ⟨.hbm, 90, rfl⟩
abbrev main_while0b_call3_c_1 : Ref sig .tc := ⟨.hbm, 91, rfl⟩
abbrev main_while0b_call3_c_2 : Ref sig .tc := ⟨.hbm, 92, rfl⟩
abbrev main_while0b_call3_v0 : Ref sig .tc := ⟨.hbm, 93, rfl⟩
abbrev main_while0b_v181 : Ref sig .tc := ⟨.hbm, 94, rfl⟩
abbrev main_while0b_call4_c : Ref sig .tc := ⟨.hbm, 95, rfl⟩
abbrev main_while0b_call4_c_0 : Ref sig .tc := ⟨.hbm, 96, rfl⟩
abbrev main_while0b_call4_c_1 : Ref sig .tc := ⟨.hbm, 97, rfl⟩
abbrev main_while0b_call4_c_2 : Ref sig .tc := ⟨.hbm, 98, rfl⟩
abbrev main_while0b_call4_v0 : Ref sig .tc := ⟨.hbm, 99, rfl⟩
abbrev main_while0b_v182 : Ref sig .tc := ⟨.hbm, 100, rfl⟩
abbrev main_while0b_v183 : Ref sig .tc := ⟨.hbm, 101, rfl⟩
abbrev main_while0b_v184 : Ref sig .tc := ⟨.hbm, 102, rfl⟩
abbrev main_while0b_v185 : Ref sig .tc := ⟨.hbm, 103, rfl⟩
abbrev main_while0b_v186 : Ref sig .tc := ⟨.hbm, 104, rfl⟩
abbrev main_while0b_v187 : Ref sig .tc := ⟨.hbm, 105, rfl⟩
abbrev main_while0b_v188 : Ref sig .tc := ⟨.hbm, 106, rfl⟩
abbrev main_while0b_call5_v0 : Ref sig .tc := ⟨.hbm, 107, rfl⟩
abbrev main_while0b_call5_c : Ref sig .tc := ⟨.hbm, 108, rfl⟩
abbrev main_while0b_call5_c_0 : Ref sig .tc := ⟨.hbm, 109, rfl⟩
abbrev main_while0b_call5_c_1 : Ref sig .tc := ⟨.hbm, 110, rfl⟩
abbrev main_while0b_call5_c_2 : Ref sig .tc := ⟨.hbm, 111, rfl⟩
abbrev main_while0b_v189 : Ref sig .tc := ⟨.hbm, 112, rfl⟩
abbrev main_while0b_call6_v0 : Ref sig .tc := ⟨.hbm, 113, rfl⟩
abbrev main_while0b_call6_c : Ref sig .tc := ⟨.hbm, 114, rfl⟩
abbrev main_while0b_call6_c_0 : Ref sig .tc := ⟨.hbm, 115, rfl⟩
abbrev main_while0b_call6_c_1 : Ref sig .tc := ⟨.hbm, 116, rfl⟩
abbrev main_while0b_call6_c_2 : Ref sig .tc := ⟨.hbm, 117, rfl⟩
abbrev main_while0b_v190 : Ref sig .tc := ⟨.hbm, 118, rfl⟩
abbrev main_while0b_c_26 : Ref sig .tc := ⟨.hbm, 119, rfl⟩
abbrev main_while0b_v191 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_cst_5 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_cst_6 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_cst_7 : Ref sig .tc := ⟨.hbm, 140, rfl⟩
abbrev main_call7_v0 : Ref sig .tc := ⟨.hbm, 141, rfl⟩
abbrev main_call7_v1 : Ref sig .tc := ⟨.hbm, 142, rfl⟩
abbrev main_call7_v2 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_cst_8 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_cst_9 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_cst_10 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_cst_11 : Ref sig .tc := ⟨.hbm, 188, rfl⟩
abbrev main_call8_v0 : Ref sig .tc := ⟨.hbm, 189, rfl⟩
abbrev main_call8_v1 : Ref sig .tc := ⟨.hbm, 190, rfl⟩
abbrev main_call8_v2 : Ref sig .tc := ⟨.hbm, 191, rfl⟩
abbrev main_v124 : Ref sig .tc := ⟨.hbm, 192, rfl⟩
abbrev main_v125 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_v133 : Ref sig .tc := ⟨.hbm, 201, rfl⟩
abbrev main_cst_12 : Ref sig .tc := ⟨.hbm, 202, rfl⟩
abbrev main_v134 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_v138 : Ref sig .tc := ⟨.hbm, 207, rfl⟩
abbrev main_v139 : Ref sig .tc := ⟨.hbm, 208, rfl⟩
abbrev main_v140 : Ref sig .tc := ⟨.hbm, 209, rfl⟩
abbrev main_v141 : Ref sig .tc := ⟨.hbm, 210, rfl⟩
abbrev main_v142 : Ref sig .tc := ⟨.hbm, 211, rfl⟩
abbrev main_v143 : Ref sig .tc := ⟨.hbm, 212, rfl⟩
abbrev main_v144 : Ref sig .tc := ⟨.hbm, 213, rfl⟩
abbrev main_v145 : Ref sig .tc := ⟨.hbm, 214, rfl⟩
abbrev main_v146 : Ref sig .tc := ⟨.hbm, 215, rfl⟩
abbrev main_v147 : Ref sig .tc := ⟨.hbm, 216, rfl⟩
abbrev main_v148 : Ref sig .tc := ⟨.hbm, 217, rfl⟩
abbrev main_v149 : Ref sig .tc := ⟨.hbm, 218, rfl⟩
abbrev main_v150 : Ref sig .tc := ⟨.hbm, 219, rfl⟩
abbrev main_cst_13 : Ref sig .tc := ⟨.hbm, 220, rfl⟩
abbrev main_v151 : Ref sig .tc := ⟨.hbm, 221, rfl⟩
abbrev main_v152 : Ref sig .tc := ⟨.hbm, 222, rfl⟩
abbrev main_cst_14 : Ref sig .tc := ⟨.hbm, 223, rfl⟩
abbrev main_v153 : Ref sig .tc := ⟨.hbm, 224, rfl⟩
abbrev main_v154 : Ref sig .tc := ⟨.hbm, 225, rfl⟩
abbrev main_v155 : Ref sig .tc := ⟨.hbm, 226, rfl⟩
abbrev main_v156 : Ref sig .tc := ⟨.hbm, 227, rfl⟩
abbrev main_v157 : Ref sig .tc := ⟨.hbm, 228, rfl⟩
abbrev main_cst_15 : Ref sig .tc := ⟨.hbm, 229, rfl⟩
abbrev main_v158 : Ref sig .tc := ⟨.hbm, 230, rfl⟩
abbrev main_v159 : Ref sig .tc := ⟨.hbm, 231, rfl⟩
abbrev main_cst_16 : Ref sig .tc := ⟨.hbm, 232, rfl⟩
abbrev main_v160 : Ref sig .tc := ⟨.hbm, 233, rfl⟩
abbrev main_v161 : Ref sig .tc := ⟨.hbm, 234, rfl⟩
abbrev main_v162 : Ref sig .tc := ⟨.hbm, 235, rfl⟩
abbrev main_v163 : Ref sig .tc := ⟨.hbm, 236, rfl⟩
abbrev main_cst_17 : Ref sig .tc := ⟨.hbm, 237, rfl⟩
abbrev main_v164 : Ref sig .tc := ⟨.hbm, 238, rfl⟩
abbrev main_v165 : Ref sig .tc := ⟨.hbm, 239, rfl⟩
abbrev main_v166 : Ref sig .tc := ⟨.hbm, 240, rfl⟩
abbrev main_v167 : Ref sig .tc := ⟨.hbm, 241, rfl⟩
abbrev main_v168 : Ref sig .tc := ⟨.hbm, 242, rfl⟩
abbrev main_v169 : Ref sig .tc := ⟨.hbm, 243, rfl⟩
abbrev main_v170 : Ref sig .tc := ⟨.hbm, 244, rfl⟩
abbrev main_v171 : Ref sig .tc := ⟨.hbm, 245, rfl⟩
abbrev main_v172 : Ref sig .tc := ⟨.hbm, 246, rfl⟩
abbrev main_call10_v0 : Ref sig .tc := ⟨.hbm, 247, rfl⟩
abbrev main_call10_v1 : Ref sig .tc := ⟨.hbm, 248, rfl⟩
abbrev main_call10_cst : Ref sig .tc := ⟨.hbm, 249, rfl⟩
abbrev main_call10_v2 : Ref sig .tc := ⟨.hbm, 250, rfl⟩
abbrev main_call10_v3 : Ref sig .tc := ⟨.hbm, 251, rfl⟩
abbrev main_call10_cst_0 : Ref sig .tc := ⟨.hbm, 252, rfl⟩
abbrev main_call10_v4 : Ref sig .tc := ⟨.hbm, 253, rfl⟩
abbrev main_call10_v5 : Ref sig .tc := ⟨.hbm, 254, rfl⟩
abbrev main_v173 : Ref sig .tc := ⟨.hbm, 255, rfl⟩
abbrev main_v174 : Ref sig .tc := ⟨.hbm, 256, rfl⟩
abbrev main_v175 : Ref sig .tc := ⟨.hbm, 257, rfl⟩
abbrev main_v176 : Ref sig .tc := ⟨.hbm, 258, rfl⟩
abbrev main_v177 : Ref sig .tc := ⟨.hbm, 259, rfl⟩
abbrev main_v178 : Ref sig .tc := ⟨.hbm, 260, rfl⟩
abbrev main_v179 : Ref sig .tc := ⟨.hbm, 261, rfl⟩
abbrev main_v180 : Ref sig .tc := ⟨.hbm, 262, rfl⟩

abbrev nD : Nat := 1
abbrev τ : Topo := Topo.v7x

variable {F : FTy → Type} [FloatOps F]

abbrev main_while0_count : Scf.Loop 32 := ⟨0#32, 64#32, 1#32⟩
-- ==== Experts.lean ====
abbrev S135168x2048 : Shape := ⟨2, ![135168, 2048]⟩
abbrev S32 : Shape := ⟨1, ![32]⟩
abbrev S295 : Shape := ⟨1, ![295]⟩
abbrev S128x2048x1536 : Shape := ⟨3, ![128, 2048, 1536]⟩
abbrev S32x1536 : Shape := ⟨2, ![32, 1536]⟩
abbrev S128x768x2048 : Shape := ⟨3, ![128, 768, 2048]⟩
abbrev S32x2048 : Shape := ⟨2, ![32, 2048]⟩
abbrev S32x6x128x2 : Shape := ⟨4, ![32, 6, 128, 2]⟩
abbrev S32x6x2x128 : Shape := ⟨4, ![32, 6, 2, 128]⟩
abbrev S32x1x1536 : Shape := ⟨3, ![32, 1, 1536]⟩
abbrev S32x1x2048 : Shape := ⟨3, ![32, 1, 2048]⟩
abbrev S512x2048 : Shape := ⟨2, ![512, 2048]⟩
abbrev S1 : Shape := ⟨1, ![1]⟩
abbrev S1x2048x1536 : Shape := ⟨3, ![1, 2048, 1536]⟩
abbrev S1x1x1536 : Shape := ⟨3, ![1, 1, 1536]⟩
abbrev S1x768x2048 : Shape := ⟨3, ![1, 768, 2048]⟩
abbrev S1x1x2048 : Shape := ⟨3, ![1, 1, 2048]⟩
abbrev S2048x1536 : Shape := ⟨2, ![2048, 1536]⟩
abbrev S512x1536 : Shape := ⟨2, ![512, 1536]⟩
abbrev S1x1536 : Shape := ⟨2, ![1, 1536]⟩
abbrev S512x128 : Shape := ⟨2, ![512, 128]⟩
abbrev S512x768 : Shape := ⟨2, ![512, 768]⟩
abbrev S768x2048 : Shape := ⟨2, ![768, 2048]⟩
abbrev S1x2048 : Shape := ⟨2, ![1, 2048]⟩
abbrev S512x1 : Shape := ⟨2, ![512, 1]⟩
abbrev S256x2048 : Shape := ⟨2, ![256, 2048]⟩
abbrev S256x1536 : Shape := ⟨2, ![256, 1536]⟩
abbrev S256x128 : Shape := ⟨2, ![256, 128]⟩
abbrev S256x768 : Shape := ⟨2, ![256, 768]⟩
abbrev S256x1 : Shape := ⟨2, ![256, 1]⟩

abbrev nBuf : Space → Nat
  | .hbm => 12
  | .vmem => 12
  | .smem => 5
  | _ => 0

abbrev bufTy : (tb : Table) → Fin (tcTables nBuf tb) → BufTy
  | .hbm, ⟨0, _⟩ => ⟨S135168x2048, .f32⟩
  | .hbm, ⟨1, _⟩ => ⟨S32, .i32⟩
  | .hbm, ⟨2, _⟩ => ⟨S128x2048x1536, .bf16⟩
  | .hbm, ⟨3, _⟩ => ⟨S32x1536, .f32⟩
  | .hbm, ⟨4, _⟩ => ⟨S128x768x2048, .f32⟩
  | .hbm, ⟨5, _⟩ => ⟨S32x2048, .f32⟩
  | .hbm, ⟨6, _⟩ => ⟨S32x6x128x2, .f32⟩
  | .hbm, ⟨7, _⟩ => ⟨S32x6x2x128, .f32⟩
  | .hbm, ⟨8, _⟩ => ⟨S32x1536, .f32⟩
  | .hbm, ⟨9, _⟩ => ⟨S32x1x1536, .f32⟩
  | .hbm, ⟨10, _⟩ => ⟨S32x1x2048, .f32⟩
  | .hbm, ⟨11, _⟩ => ⟨S135168x2048, .bf16⟩
  | .local _ .vmem, ⟨0, _⟩ => ⟨S512x2048, .f32⟩
  | .local _ .vmem, ⟨1, _⟩ => ⟨S512x2048, .f32⟩
  | .local _ .vmem, ⟨2, _⟩ => ⟨S1x2048x1536, .bf16⟩
  | .local _ .vmem, ⟨3, _⟩ => ⟨S1x2048x1536, .bf16⟩
  | .local _ .vmem, ⟨4, _⟩ => ⟨S1x1x1536, .f32⟩
  | .local _ .vmem, ⟨5, _⟩ => ⟨S1x1x1536, .f32⟩
  | .local _ .vmem, ⟨6, _⟩ => ⟨S1x768x2048, .f32⟩
  | .local _ .vmem, ⟨7, _⟩ => ⟨S1x768x2048, .f32⟩
  | .local _ .vmem, ⟨8, _⟩ => ⟨S1x1x2048, .f32⟩
  | .local _ .vmem, ⟨9, _⟩ => ⟨S1x1x2048, .f32⟩
  | .local _ .vmem, ⟨10, _⟩ => ⟨S512x2048, .bf16⟩
  | .local _ .vmem, ⟨11, _⟩ => ⟨S512x2048, .bf16⟩
  | .local _ .smem, ⟨0, _⟩ => ⟨S295, .i32⟩
  | .local _ .smem, ⟨1, _⟩ => ⟨S295, .i32⟩
  | .local _ .smem, ⟨2, _⟩ => ⟨S295, .i32⟩
  | .local _ .smem, ⟨3, _⟩ => ⟨S295, .i32⟩
  | .local _ .smem, ⟨4, _⟩ => ⟨S295, .i32⟩
  | _, _ => ⟨S135168x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg7 : Ref sig .tc := ⟨.hbm, 2, rfl⟩
abbrev main_arg8 : Ref sig .tc := ⟨.hbm, 3, rfl⟩
abbrev main_arg9 : Ref sig .tc := ⟨.hbm, 4, rfl⟩
abbrev main_arg10 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_arg2 : Ref sig .tc := ⟨.smem, 0, rfl⟩
abbrev main_arg3 : Ref sig .tc := ⟨.smem, 1, rfl⟩
abbrev main_arg4 : Ref sig .tc := ⟨.smem, 2, rfl⟩
abbrev main_arg5 : Ref sig .tc := ⟨.smem, 3, rfl⟩
abbrev main_arg6 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![295], ![false]⟩

abbrev pre0 : Pipeline.Prefetch sig := ⟨5, ![main_arg2.idx, main_arg3.idx, main_arg4.idx, main_arg5.idx, main_arg6.idx], fun | 0 => main_arg2.names | 1 => main_arg3.names | 2 => main_arg4.names | 3 => main_arg5.names | 4 => main_arg6.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) (v3 : BitVec 32) : BitVec 1 :=
  let c0_i32 : BitVec 32 := 0#32
  let v6 : BitVec 1 := Scalar.cmpi .eq v1 c0_i32
  let c512_i32 : BitVec 32 := 512#32
  let v7 : BitVec 1 := Scalar.cmpi .eq v3 c512_i32
  let v8 : BitVec 1 := Scalar.andi v6 v7
  let v9 : BitVec 32 := Scalar.extui v8
  let c0_i32_0 : BitVec 32 := 0#32
  let v10 : BitVec 1 := Scalar.cmpi .ne v9 c0_i32_0
  v10

def k0_cond2 (v5 : BitVec 32) : BitVec 1 :=
  let c1_i32 : BitVec 32 := 1#32
  let v137 : BitVec 1 := Scalar.cmpi .eq v5 c1_i32
  let v138 : BitVec 32 := Scalar.extui v137
  let c0_i32_47 : BitVec 32 := 0#32
  let v139 : BitVec 1 := Scalar.cmpi .ne v138 c0_i32_47
  v139

def k0_cond3 (v5 : BitVec 32) : BitVec 1 :=
  let c0_i32_48 : BitVec 32 := 0#32
  let v140 : BitVec 1 := Scalar.cmpi .eq v5 c0_i32_48
  let v141 : BitVec 32 := Scalar.extui v140
  let c0_i32_49 : BitVec 32 := 0#32
  let v142 : BitVec 1 := Scalar.cmpi .ne v141 c0_i32_49
  v142

def k0_cond4 (v1 : BitVec 32) (v3 : BitVec 32) : BitVec 1 :=
  let c0_i32 : BitVec 32 := 0#32
  let v6 : BitVec 1 := Scalar.cmpi .eq v1 c0_i32
  let c512_i32 : BitVec 32 := 512#32
  let v7 : BitVec 1 := Scalar.cmpi .eq v3 c512_i32
  let v8 : BitVec 1 := Scalar.andi v6 v7
  let v_true : BitVec 1 := 1#1
  let v11 : BitVec 1 := Scalar.xori v8 v_true
  let v12 : BitVec 32 := Scalar.extui v11
  let c0_i32_1 : BitVec 32 := 0#32
  let v13 : BitVec 1 := Scalar.cmpi .ne v12 c0_i32_1
  v13

def k0_cond5 (v1 : BitVec 32) (v3 : BitVec 32) : BitVec 1 :=
  let c256_i32 : BitVec 32 := 256#32
  let v14 : BitVec 1 := Scalar.cmpi .slt v1 c256_i32
  let c0_i32_2 : BitVec 32 := 0#32
  let v15 : BitVec 1 := Scalar.cmpi .sgt v3 c0_i32_2
  let v16 : BitVec 1 := Scalar.andi v14 v15
  let v17 : BitVec 32 := Scalar.extui v16
  let c0_i32_3 : BitVec 32 := 0#32
  let v18 : BitVec 1 := Scalar.cmpi .ne v17 c0_i32_3
  v18

def k0_cond6 (v5 : BitVec 32) : BitVec 1 :=
  let c1_i32_57 : BitVec 32 := 1#32
  let v157 : BitVec 1 := Scalar.cmpi .eq v5 c1_i32_57
  let v158 : BitVec 32 := Scalar.extui v157
  let c0_i32_58 : BitVec 32 := 0#32
  let v159 : BitVec 1 := Scalar.cmpi .ne v158 c0_i32_58
  v159

def k0_cond7 (v5 : BitVec 32) : BitVec 1 :=
  let c0_i32_59 : BitVec 32 := 0#32
  let v160 : BitVec 1 := Scalar.cmpi .eq v5 c0_i32_59
  let v161 : BitVec 32 := Scalar.extui v160
  let c0_i32_60 : BitVec 32 := 0#32
  let v162 : BitVec 1 := Scalar.cmpi .ne v161 c0_i32_60
  v162

def k0_cond8 (v1 : BitVec 32) (v3 : BitVec 32) (v5 : BitVec 32) : BitVec 1 :=
  let c256_i32 : BitVec 32 := 256#32
  let v14 : BitVec 1 := Scalar.cmpi .slt v1 c256_i32
  let c0_i32_2 : BitVec 32 := 0#32
  let v15 : BitVec 1 := Scalar.cmpi .sgt v3 c0_i32_2
  let v16 : BitVec 1 := Scalar.andi v14 v15
  let true_4 : BitVec 1 := 1#1
  let v19 : BitVec 1 := Scalar.xori v16 true_4
  let c1_i32 : BitVec 32 := 1#32
  let v20 : BitVec 1 := Scalar.cmpi .eq v5 c1_i32
  let v21 : BitVec 1 := Scalar.andi v19 v20
  let v22 : BitVec 32 := Scalar.extui v21
  let c0_i32_5 : BitVec 32 := 0#32
  let v23 : BitVec 1 := Scalar.cmpi .ne v22 c0_i32_5
  v23

def k0_cond9 (v1 : BitVec 32) (v3 : BitVec 32) : BitVec 1 :=
  let c512_i32_6 : BitVec 32 := 512#32
  let v24 : BitVec 1 := Scalar.cmpi .slt v1 c512_i32_6
  let c256_i32_7 : BitVec 32 := 256#32
  let v25 : BitVec 1 := Scalar.cmpi .sgt v3 c256_i32_7
  let v26 : BitVec 1 := Scalar.andi v24 v25
  let v27 : BitVec 32 := Scalar.extui v26
  let c0_i32_8 : BitVec 32 := 0#32
  let v28 : BitVec 1 := Scalar.cmpi .ne v27 c0_i32_8
  v28

def k0_cond10 (v5 : BitVec 32) : BitVec 1 :=
  let c1_i32_56 : BitVec 32 := 1#32
  let v157 : BitVec 1 := Scalar.cmpi .eq v5 c1_i32_56
  let v158 : BitVec 32 := Scalar.extui v157
  let c0_i32_57 : BitVec 32 := 0#32
  let v159 : BitVec 1 := Scalar.cmpi .ne v158 c0_i32_57
  v159

def k0_cond11 (v5 : BitVec 32) : BitVec 1 :=
  let c0_i32_58 : BitVec 32 := 0#32
  let v160 : BitVec 1 := Scalar.cmpi .eq v5 c0_i32_58
  let v161 : BitVec 32 := Scalar.extui v160
  let c0_i32_59 : BitVec 32 := 0#32
  let v162 : BitVec 1 := Scalar.cmpi .ne v161 c0_i32_59
  v162

def k0_cond12 (v1 : BitVec 32) (v3 : BitVec 32) (v5 : BitVec 32) : BitVec 1 :=
  let c512_i32_6 : BitVec 32 := 512#32
  let v24 : BitVec 1 := Scalar.cmpi .slt v1 c512_i32_6
  let c256_i32_7 : BitVec 32 := 256#32
  let v25 : BitVec 1 := Scalar.cmpi .sgt v3 c256_i32_7
  let v26 : BitVec 1 := Scalar.andi v24 v25
  let true_9 : BitVec 1 := 1#1
  let v29 : BitVec 1 := Scalar.xori v26 true_9
  let c1_i32_10 : BitVec 32 := 1#32
  let v30 : BitVec 1 := Scalar.cmpi .eq v5 c1_i32_10
  let v31 : BitVec 1 := Scalar.andi v29 v30
  let v32 : BitVec 32 := Scalar.extui v31
  let c0_i32_11 : BitVec 32 := 0#32
  let v33 : BitVec 1 := Scalar.cmpi .ne v32 c0_i32_11
  v33

def cc0_transform_0 (k0_off1_inb : ∀ i : grid0.Coords, ∀ a, (k0_off1 i) a + S1.size a ≤ S295.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S295) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S295.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S295) ![v0.toNat] S1.size (k0_off1_inb i)) numel1_S1
  let c0_i32 : BitVec 32 := 0#32
  let v2 : BitVec 32 := Scalar.addi c0_i32 v1
  let c0_i32_0 : BitVec 32 := 0#32
  let c0_i32_1 : BitVec 32 := 0#32
  let c0_i32_2 : BitVec 32 := 0#32
  ![v2.toNat, c0_i32_0.toNat, c0_i32_1.toNat]

def cc0_transform_2 (k0_off1_inb : ∀ i : grid0.Coords, ∀ a, (k0_off1 i) a + S1.size a ≤ S295.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S295) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S295.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S295) ![v0.toNat] S1.size (k0_off1_inb i)) numel1_S1
  let c0_i32 : BitVec 32 := 0#32
  let v2 : BitVec 32 := Scalar.addi c0_i32 v1
  let c0_i32_0 : BitVec 32 := 0#32
  let c0_i32_1 : BitVec 32 := 0#32
  let c0_i32_2 : BitVec 32 := 0#32
  ![v2.toNat, c0_i32_0.toNat, c0_i32_1.toNat]

def cc0_transform_4 (k0_off1_inb : ∀ i : grid0.Coords, ∀ a, (k0_off1 i) a + S1.size a ≤ S295.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S295) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S295.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S295) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x768x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DenseIdeal.lean ====
abbrev S135168x2048 : Shape := ⟨2, ![135168, 2048]⟩
abbrev S32 : Shape := ⟨1, ![32]⟩
abbrev S295 : Shape := ⟨1, ![295]⟩
abbrev S128x2048x1536 : Shape := ⟨3, ![128, 2048, 1536]⟩
abbrev S32x1536 : Shape := ⟨2, ![32, 1536]⟩
abbrev S128x768x2048 : Shape := ⟨3, ![128, 768, 2048]⟩
abbrev S32x2048 : Shape := ⟨2, ![32, 2048]⟩
abbrev S32x2048x1536 : Shape := ⟨3, ![32, 2048, 1536]⟩
abbrev S32x2048x6x2x128 : Shape := ⟨5, ![32, 2048, 6, 2, 128]⟩
abbrev S32x2048x6x1x128 : Shape := ⟨5, ![32, 2048, 6, 1, 128]⟩
abbrev S32x2048x6x128 : Shape := ⟨4, ![32, 2048, 6, 128]⟩
abbrev S32x2048x768 : Shape := ⟨3, ![32, 2048, 768]⟩
abbrev S32x768x135168 : Shape := ⟨3, ![32, 768, 135168]⟩
abbrev S32x135168x768 : Shape := ⟨3, ![32, 135168, 768]⟩
abbrev S32x768 : Shape := ⟨2, ![32, 768]⟩
abbrev S32x1x768 : Shape := ⟨3, ![32, 1, 768]⟩
abbrev S_ : Shape := ⟨0, ![]⟩
abbrev S32x768x2048 : Shape := ⟨3, ![32, 768, 2048]⟩
abbrev S32x135168x2048 : Shape := ⟨3, ![32, 135168, 2048]⟩
abbrev S32x1x2048 : Shape := ⟨3, ![32, 1, 2048]⟩
abbrev S135168 : Shape := ⟨1, ![135168]⟩
abbrev S135168x1 : Shape := ⟨2, ![135168, 1]⟩
abbrev S1x32 : Shape := ⟨2, ![1, 32]⟩
abbrev S135168x32 : Shape := ⟨2, ![135168, 32]⟩
abbrev S1x135168 : Shape := ⟨2, ![1, 135168]⟩
abbrev S32x1 : Shape := ⟨2, ![32, 1]⟩
abbrev S32x135168 : Shape := ⟨2, ![32, 135168]⟩
abbrev S32x135168x1 : Shape := ⟨3, ![32, 135168, 1]⟩

abbrev nBuf : Space → Nat
  | .hbm => 91
  | .vmem => 0
  | .smem => 0
  | _ => 0

abbrev bufTy : (tb : Table) → Fin (tcTables nBuf tb) → BufTy
  | .hbm, ⟨0, _⟩ => ⟨S135168x2048, .f32⟩
  | .hbm, ⟨1, _⟩ => ⟨S32, .i32⟩
  | .hbm, ⟨2, _⟩ => ⟨S295, .i32⟩
  | .hbm, ⟨3, _⟩ => ⟨S295, .i32⟩
  | .hbm, ⟨4, _⟩ => ⟨S295, .i32⟩
  | .hbm, ⟨5, _⟩ => ⟨S295, .i32⟩
  | .hbm, ⟨6, _⟩ => ⟨S295, .i32⟩
  | .hbm, ⟨7, _⟩ => ⟨S128x2048x1536, .bf16⟩
  | .hbm, ⟨8, _⟩ => ⟨S32x1536, .f32⟩
  | .hbm, ⟨9, _⟩ => ⟨S128x768x2048, .f32⟩
  | .hbm, ⟨10, _⟩ => ⟨S32x2048, .f32⟩
  | .hbm, ⟨11, _⟩ => ⟨S32x2048x1536, .bf16⟩
  | .hbm, ⟨12, _⟩ => ⟨S32x2048x1536, .f32⟩
  | .hbm, ⟨13, _⟩ => ⟨S32x2048x6x2x128, .f32⟩
  | .hbm, ⟨14, _⟩ => ⟨S32x2048x6x1x128, .f32⟩
  | .hbm, ⟨15, _⟩ => ⟨S32x2048x6x128, .f32⟩
  | .hbm, ⟨16, _⟩ => ⟨S32x2048x768, .f32⟩
  | .hbm, ⟨17, _⟩ => ⟨S32x2048x6x1x128, .f32⟩
  | .hbm, ⟨18, _⟩ => ⟨S32x2048x6x128, .f32⟩
  | .hbm, ⟨19, _⟩ => ⟨S32x2048x768, .f32⟩
  | .hbm, ⟨20, _⟩ => ⟨S32x768x135168, .f32⟩
  | .hbm, ⟨21, _⟩ => ⟨S32x135168x768, .f32⟩
  | .hbm, ⟨22, _⟩ => ⟨S32x768, .f32⟩
  | .hbm, ⟨23, _⟩ => ⟨S32x1x768, .f32⟩
  | .hbm, ⟨24, _⟩ => ⟨S32x135168x768, .f32⟩
  | .hbm, ⟨25, _⟩ => ⟨S32x135168x768, .f32⟩
  | .hbm, ⟨26, _⟩ => ⟨S_, .f32⟩
  | .hbm, ⟨27, _⟩ => ⟨S32x135168x768, .f32⟩
  | .hbm, ⟨28, _⟩ => ⟨S32x135168x768, .f32⟩
  | .hbm, ⟨29, _⟩ => ⟨S32x768x135168, .f32⟩
  | .hbm, ⟨30, _⟩ => ⟨S32x135168x768, .f32⟩
  | .hbm, ⟨31, _⟩ => ⟨S32x768, .f32⟩
  | .hbm, ⟨32, _⟩ => ⟨S32x1x768, .f32⟩
  | .hbm, ⟨33, _⟩ => ⟨S32x135168x768, .f32⟩
  | .hbm, ⟨34, _⟩ => ⟨S32x135168x768, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S32x135168x768, .f32⟩
  | .hbm, ⟨39, _⟩ => ⟨S32x135168x768, .f32⟩
  | .hbm, ⟨40, _⟩ => ⟨S_, .f32⟩
  | .hbm, ⟨41, _⟩ => ⟨S32x135168x768, .f32⟩
  | .hbm, ⟨42, _⟩ => ⟨S32x135168x768, .f32⟩
  | .hbm, ⟨43, _⟩ => ⟨S_, .f32⟩
  | .hbm, ⟨44, _⟩ => ⟨S32x135168x768, .f32⟩
  | .hbm, ⟨45, _⟩ => ⟨S32x135168x768, .f32⟩
  | .hbm, ⟨46, _⟩ => ⟨S_, .f32⟩
  | .hbm, ⟨47, _⟩ => ⟨S32x135168x768, .f32⟩
  | .hbm, ⟨48, _⟩ => ⟨S32x135168x768, .f32⟩
  | .hbm, ⟨49, _⟩ => ⟨S32x135168x768, .f32⟩
  | .hbm, ⟨50, _⟩ => ⟨S32x135168x768, .f32⟩
  | .hbm, ⟨51, _⟩ => ⟨S_, .f32⟩
  | .hbm, ⟨52, _⟩ => ⟨S32x135168x768, .f32⟩
  | .hbm, ⟨53, _⟩ => ⟨S32x135168x768, .f32⟩
  | .hbm, ⟨54, _⟩ => ⟨S_, .f32⟩
  | .hbm, ⟨55, _⟩ => ⟨S32x135168x768, .f32⟩
  | .hbm, ⟨56, _⟩ => ⟨S32x135168x768, .f32⟩
  | .hbm, ⟨57, _⟩ => ⟨S32x135168x768, .f32⟩
  | .hbm, ⟨58, _⟩ => ⟨S32x135168x768, .f32⟩
  | .hbm, ⟨59, _⟩ => ⟨S32x768x2048, .f32⟩
  | .hbm, ⟨60, _⟩ => ⟨S32x135168x2048, .f32⟩
  | .hbm, ⟨61, _⟩ => ⟨S32x1x2048, .f32⟩
  | .hbm, ⟨62, _⟩ => ⟨S32x135168x2048, .f32⟩
  | .hbm, ⟨63, _⟩ => ⟨S32x135168x2048, .f32⟩
  | .hbm, ⟨64, _⟩ => ⟨S135168, .i32⟩
  | .hbm, ⟨65, _⟩ => ⟨S135168x1, .i32⟩
  | .hbm, ⟨66, _⟩ => ⟨S_, .i32⟩
  | .hbm, ⟨67, _⟩ => ⟨S_, .i32⟩
  | .hbm, ⟨68, _⟩ => ⟨S32, .i32⟩
  | .hbm, ⟨69, _⟩ => ⟨S1x32, .i32⟩
  | .hbm, ⟨70, _⟩ => ⟨S135168x32, .i32⟩
  | .hbm, ⟨71, _⟩ => ⟨S135168x32, .i32⟩
  | .hbm, ⟨72, _⟩ => ⟨S135168x32, .i1⟩
  | .hbm, ⟨73, _⟩ => ⟨S135168x32, .i32⟩
  | .hbm, ⟨74, _⟩ => ⟨S_, .i32⟩
  | .hbm, ⟨75, _⟩ => ⟨S135168, .i32⟩
  | .hbm, ⟨76, _⟩ => ⟨S1x135168, .i32⟩
  | .hbm, ⟨77, _⟩ => ⟨S32, .i32⟩
  | .hbm, ⟨78, _⟩ => ⟨S32x1, .i32⟩
  | .hbm, ⟨79, _⟩ => ⟨S32x135168, .i32⟩
  | .hbm, ⟨80, _⟩ => ⟨S32x135168, .i32⟩
  | .hbm, ⟨81, _⟩ => ⟨S32x135168, .i1⟩
  | .hbm, ⟨82, _⟩ => ⟨S32x135168x1, .i1⟩
  | .hbm, ⟨83, _⟩ => ⟨S_, .f32⟩
  | .hbm, ⟨84, _⟩ => ⟨S_, .f32⟩
  | .hbm, ⟨85, _⟩ => ⟨S32x135168x2048, .i1⟩
  | .hbm, ⟨86, _⟩ => ⟨S32x135168x2048, .f32⟩
  | .hbm, ⟨87, _⟩ => ⟨S32x135168x2048, .f32⟩
  | .hbm, ⟨88, _⟩ => ⟨S_, .f32⟩
  | .hbm, ⟨89, _⟩ => ⟨S135168x2048, .f32⟩
  | .hbm, ⟨90, _⟩ => ⟨S135168x2048, .bf16⟩
  | _, _ => ⟨S135168x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_0 : Ref sig .tc := ⟨.hbm, 35, rfl⟩
abbrev main_cst_1 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v23 : Ref sig .tc := ⟨.hbm, 42, rfl⟩
abbrev main_cst_2 : Ref sig .tc := ⟨.hbm, 43, rfl⟩
abbrev main_v24 : Ref sig .tc := ⟨.hbm, 44, rfl⟩
abbrev main_v25 : Ref sig .tc := ⟨.hbm, 45, rfl⟩
abbrev main_cst_3 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_4 : Ref sig .tc := ⟨.hbm, 51, rfl⟩
abbrev main_v30 : Ref sig .tc := ⟨.hbm, 52, rfl⟩
abbrev main_v31 : Ref sig .tc := ⟨.hbm, 53, rfl⟩
abbrev main_cst_5 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_call1_call0_c : Ref sig .tc := ⟨.hbm, 66, rfl⟩
abbrev main_call1_call0_v0 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_6 : Ref sig .tc := ⟨.hbm, 83, rfl⟩
abbrev main_call2_v0 : Ref sig .tc := ⟨.hbm, 84, rfl⟩
abbrev main_call2_v1 : Ref sig .tc := ⟨.hbm, 85, rfl⟩
abbrev main_call2_v2 : Ref sig .tc := ⟨.hbm, 86, rfl⟩
abbrev main_v57 : Ref sig .tc := ⟨.hbm, 87, rfl⟩
abbrev main_cst_7 : Ref sig .tc := ⟨.hbm, 88, rfl⟩
abbrev main_v58 : Ref sig .tc := ⟨.hbm, 89, rfl⟩
abbrev main_v59 : Ref sig .tc := ⟨.hbm, 90, rfl⟩

abbrev nD : Nat := 1
abbrev τ : Topo := Topo.v7x

variable {F : FTy → Type} [FloatOps F]
-- ==== Proof.Retention.KernelFrame.lean ====
module

public import proofs.«01_k».proof.Proof.Gen.Kernel.Frame.Runs
public import Idealize.ShloMosaic.Lib.Pointwise
public import Idealize.ShloMosaic.Lib.Claim

@[expose] public section
set_option maxRecDepth 16384
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
namespace Cert.Kernel.Hand
open Cert.Kernel Cert.Kernel.Gen
variable {F : FTy → Type} [FloatOps F]
local notation "𝕄" => MT nD τ sig Unit (Elt F) ℕ (UR sig nD τ) ℕ

set_option maxHeartbeats 1000000 in
/-- The body at a grid point, at any float semantics: from the windows' buffers it runs to its end and gives them
    back, the inputs' as they were and the outputs' at some contents. -/
theorem body (c : Dev nD) (i : grid0.Coords) (arg2 : Memref sig .tc .smem S2x8 .f32) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S1x128 .f32) (harg7 : arg7.IsWhole) (arg8 : Memref sig .tc .vmem S1x1x2x128x128 .f32) (harg8 : arg8.IsWhole) (arg10 : Memref sig .tc .vmem S8192x128 .bf16) (harg10 : arg10.IsWhole) (arg11 : Memref sig .tc .vmem S1x1x2x128x128 .f32) (harg11 : arg11.IsWhole) (arg12 : Memref sig .tc .vmem S64x128x256 .f32) (harg12 : arg12.IsWhole)
    (x0 : Vec F S2x8 .f32) (x1 : Vec F S8192x128 .bf16) (x2 : Vec F S8192x128 .bf16) (x3 : Vec F S8192x128 .bf16) (x4 : Vec F S8192x128 .bf16) (x5 : Vec F S1x128 .f32) (x6 : Vec F S1x1x2x128x128 .f32)
      (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_retention i arg2 harg2 arg3 harg3 arg4 harg4 arg5 harg5 arg6 harg6 arg7 harg7 arg8 harg8 (Memref.whole main_arg5) (Memref.isWhole_whole _) arg10 harg10 arg11 harg11 arg12 harg12) K := by
    simp only [cc0_retention_eq_skeleton]; unfold cc0_retention_skel
    simp only [k0_part31_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec
    sl_step
    iapply Hk
    isplitl [H0]
    · iexists _; isplitr
      · ipureintro; exact harg2.read_unread _
      · iexact H0
    isplitl [H1]
    · iexists _; isplitr
      · ipureintro; exact harg3.read_unread _
      · iexact H1
    isplitl [H2]
    · iexists _; isplitr
      · ipureintro; exact harg4.read_unread _
      · iexact H2
    isplitl [H3]
    · iexists _; isplitr
      · ipureintro; exact harg5.read_unread _
      · iexact H3
    isplitl [H4]
    · iexists _; isplitr
      · ipureintro; exact harg6.read_unread _
      · iexact H4
    isplitl [H5]
    · iexists _; isplitr
      · ipureintro; exact harg7.read_unread _
      · iexact H5
    isplitl [H6]
    · iexists _; isplitr
      · ipureintro; exact harg8.read_unread _
      · iexact H6
    isplitl [H7]
    · iexists _; iexists _; isplitr
      swap
      · iexact H7
      ipureintro; rfl
    isplitl [H8]
    · iexists _; iexists _; isplitr
      swap
      · iexact H8
      ipureintro; rfl
    iexists _; iexists _; isplitr
    swap
    · iexact HS0
    ipureintro; rfl

variable (m : (ℓ : Loc nD τ sig) → Buf (Elt F) ℓ) (ρ : Dev nD → PrngReg)

/-- The run's data: each array at its contents when the call begins; after a point, each input's buffer at its
    block; what it leaves in the two outputs' buffers is not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => X0_2 m c t
    | ⟨3, _⟩ => X0_3 m c t
    | ⟨4, _⟩ => X0_4 m c t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q w := Pipeline.shareOf spec0 w
  owed _ := 0

/-- The run's arrays begin at the contents the host operations before the call leave. -/
theorem A_eq (c : Dev nD) (w : Fin cfg0.W) : (dats m 0 c).A w = V m c (Pipeline.arrRef spec0 w) := by
  dsimp only [dats]

/-! A point leaves each input's buffer at its block, and finds it there. -/

/-- A point leaves input 0's buffer at what it found. -/
theorem aft0 (c : Dev nD) (t : Fin cfg0.N) : (dats m 0 c).after 0 t = iblk m c 0 t := by dsimp only [dats]
/-- A point leaves input 1's buffer at what it found. -/
theorem aft1 (c : Dev nD) (t : Fin cfg0.N) : (dats m 0 c).after 1 t = X0_1 m c t := by dsimp only [dats]
/-- A point leaves input 2's buffer at what it found. -/
theorem aft2 (c : Dev nD) (t : Fin cfg0.N) : (dats m 0 c).after 2 t = X0_2 m c t := by dsimp only [dats]
/-- A point leaves input 3's buffer at what it found. -/
theorem aft3 (c : Dev nD) (t : Fin cfg0.N) : (dats m 0 c).after 3 t = X0_3 m c t := by dsimp only [dats]
/-- A point leaves input 4's buffer at what it found. -/
theorem aft4 (c : Dev nD) (t : Fin cfg0.N) : (dats m 0 c).after 4 t = X0_4 m c t := by dsimp only [dats]
/-- A point leaves input 5's buffer at what it found. -/
theorem aft5 (c : Dev nD) (t : Fin cfg0.N) : (dats m 0 c).after 5 t = iblk m c 5 t := by dsimp only [dats]
/-- A point leaves input 6's buffer at what it found. -/
theorem aft6 (c : Dev nD) (t : Fin cfg0.N) : (dats m 0 c).after 6 t = iblk m c 6 t := by dsimp only [dats]
/-- A point finds input 0's buffer at the input's block. -/
theorem bef0 (c : Dev nD) (t : Fin cfg0.N) (d) : (dats m 0 c).before 0 t d = iblk m c 0 t :=
  before0_0_of m (dats m 0 c) (A_eq m c 0) (aft0 m c) t d
/-- A point finds input 1's buffer at the input's block. -/
theorem bef1 (c : Dev nD) (t : Fin cfg0.N) (d) : (dats m 0 c).before 1 t d = X0_1 m c t :=
  before0_1_of m (dats m 0 c) (A_eq m c 1) (aft1 m c) t d
/-- A point finds input 2's buffer at the input's block. -/
theorem bef2 (c : Dev nD) (t : Fin cfg0.N) (d) : (dats m 0 c).before 2 t d = X0_2 m c t :=
  before0_2_of m (dats m 0 c) (A_eq m c 2) (aft2 m c) t d
/-- A point finds input 3's buffer at the input's block. -/
theorem bef3 (c : Dev nD) (t : Fin cfg0.N) (d) : (dats m 0 c).before 3 t d = X0_3 m c t :=
  before0_3_of m (dats m 0 c) (A_eq m c 3) (aft3 m c) t d
/-- A point finds input 4's buffer at the input's block. -/
theorem bef4 (c : Dev nD) (t : Fin cfg0.N) (d) : (dats m 0 c).before 4 t d = X0_4 m c t :=
  before0_4_of m (dats m 0 c) (A_eq m c 4) (aft4 m c) t d
/-- A point finds input 5's buffer at the input's block. -/
theorem bef5 (c : Dev nD) (t : Fin cfg0.N) (d) : (dats m 0 c).before 5 t d = iblk m c 5 t :=
  before0_5_of m (dats m 0 c) (A_eq m c 5) (aft5 m c) t d
/-- A point finds input 6's buffer at the input's block. -/
theorem bef6 (c : Dev nD) (t : Fin cfg0.N) (d) : (dats m 0 c).before 6 t d = iblk m c 6 t :=
  before0_6_of m (dats m 0 c) (A_eq m c 6) (aft6 m c) t d

/-- The two outputs are forgotten: nothing here reads what the body leaves in them. -/
def forgets : Fin 9 → Bool := fun w => decide (7 ≤ w.val)

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d))

/-- What the body returns at a point. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare d)
    ∗ (∃ d, owns (c : Thread nD τ) (ms0_8 t) fullShare d))

set_option maxHeartbeats 800000 in
/-- The body at any point takes what it is called with to what it returns: its triple, at the point's blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [bef0, bef1, bef2, bef3, bef4, bef5, bef6]
  rw [show (dats m 0 c).Φ t.succ = (dats m 0 c).Φ t.castSucc from rfl,
    show (dats m 0 c).owesAt () t.succ = (dats m 0 c).owesAt () t.castSucc from rfl,
    aft0, aft1, aft2, aft3, aft4, aft5, aft6]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body c (grid0.coords t) _ _ _ _ _ _ _ _ _ _ _ _ _ _ _ _ _ _ _ _ (iblk m c 0 t) (X0_1 m c t) (X0_2 m c t) (X0_3 m c t) (X0_4 m c t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  iintro ⟨H0, H1, H2, H3, H4, H5, H6, H7, H8, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body the run calls at a point's buffers. -/
theorem defs₀_row (t : Fin cfg0.N) :
    defs₀ (F := F) .tc cfg0.body (cfg0.bodyArgs t (cfg0.slots t)) = bodyAt0 t := by
  unfold defs₀; rw [Defs.onTc_tc]

/-- What the launch asks of the body, at every point. -/
theorem body_obligation (c : Dev nD) : BodyObligation (dats m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- The whole run ends, with every array at what the data say and every semaphore counter at zero. -/
theorem run_all : θ_run defs (onTc (τ := τ) (main (F := F))) (s₀ m ρ) (fun r => Pipeline.RDat.FramePost (cfgs 0) (fun c => (dats m 0 c).toRForget forgets) (V m) r ∧ r.2.sem = fun _ => 0) :=
  Pipeline.θ_run_frame_forget_shared (Q' := _) cfgs (dats m) (0 : Fin 1) launch₀0 defs₀ Variants.none forgets m ρ main
    (hbody := fun c => (body_obligation m c).loose) (hq := fun _ _ _ => rfl)
    (howed := fun _ _ => rfl) (V := V m) (hmain := hmain m Variants.none) (hA := A_eq m) (hΦ := fun _ _ => rfl)

/-- The frame: every argument ends as launched, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨
      (h.1.arr_in c 4 rfl).trans ((A_eq m c 4).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      (h.1.arr_in c 6 rfl).trans ((A_eq m c 6).trans (V_main_arg4 m c)),
      ((h.1 c).2 main_arg5 (Pipeline.mem_restRefs_of main_arg5 (by decide) (by decide))).trans (V_main_arg5 m c)⟩, h.2⟩)
    (run_all m ρ)

end Cert.Kernel.Hand
-- ==== Proof.Retention.Spec.lean ====
module

public import proofs.«01_k».proof.Proof.Gen.KernelIdeal.Frame.Runs
public import Idealize.ShloMosaic.Lib.Pointwise

/-! # The retention of one head, as plain functions

One grid point works on one head of one sequence: 64 chunks of 128 rows. Everything here is a function of a
chunk number and of positions inside a chunk, with values in the extended reals. -/

@[expose] public section
noncomputable section
open Idealize.ShloMosaic
namespace Cert.Retention

/-- A matrix of one chunk for each chunk: `X c m d` is row `m` of chunk `c`, feature `d`. -/
abbrev Chunks := Fin 64 → Fin 128 → Fin 128 → EReal
/-- A 128 by 128 matrix. -/
abbrev Mat := Fin 128 → Fin 128 → EReal

/-- The row of the sequence that is row `m` of chunk `c`. -/
def row (c : Fin 64) (m : Fin 128) : Fin 8192 := ⟨128 * c.val + m.val, by omega⟩

/-- What chunk `c` adds to the state, its keys weighted by `w`. -/
def upd (w : Fin 128 → EReal) (K V : Chunks) (c : Fin 64) : Mat := fun d e => ∑ m, K c m d * w m * V c m e

/-- The chunk met at step `n`, from the front. -/
def fwd (n : ℕ) : Fin 64 := ⟨n % 64, Nat.mod_lt _ (by decide)⟩
/-- The chunk met at step `n`, from the back. -/
def bwd (n : ℕ) : Fin 64 := ⟨63 - n, by omega⟩

/-- The state after `n` steps that decay it by `γ` and add `u` of the step. -/
def state (γ : EReal) (s0 : Mat) (u : ℕ → Mat) : ℕ → Mat
  | 0 => s0
  | n + 1 => fun d e => γ * state γ s0 u n d e + u n d e

/-- The weight of key `m` in the state at the end of its chunk, front to back. -/
def zetaF (l : EReal) (m : Fin 128) : EReal := Ideal.exp (l * (((127 - (m : ℕ) : ℝ)) : EReal))
/-- The weight of key `m` in the state at the start of its chunk, back to front. -/
def zetaB (l : EReal) (m : Fin 128) : EReal := Ideal.exp (l * (((m : ℕ) : ℝ) : EReal))
/-- The weight of the state before the chunk in the output of row `n`, front to back. -/
def xiF (l : EReal) (n : Fin 128) : EReal := Ideal.exp (l * ((((n : ℕ) + 1 : ℝ)) : EReal))
/-- The weight of the state after the chunk in the output of row `n`, back to front. -/
def xiB (l : EReal) (n : Fin 128) : EReal := Ideal.exp (l * (((128 - (n : ℕ) : ℝ)) : EReal))
/-- The decay of the state across one chunk. -/
def gam (l : EReal) : EReal := Ideal.exp (l * ((128 : ℝ) : EReal))
/-- The weight of key `m` in the output of row `n` of its own chunk: by one decay for the keys up to the row, by the other for
    the keys after it. -/
def decay (lf lb : EReal) (n m : Fin 128) : EReal :=
  if m ≤ n then Ideal.exp (lf * ((((n : ℕ) - (m : ℕ) : ℝ)) : EReal)) else Ideal.exp (lb * ((((m : ℕ) - (n : ℕ) : ℝ)) : EReal))

/-- The retention's output before its normalisation, from the states on both sides of the chunk. -/
def mix (lf lb : EReal) (Q K V : Chunks) (SF SB : Mat) (c : Fin 64) : Mat := fun n e =>
  (∑ m, (∑ d, Q c n d * K c m d) * decay lf lb n m * V c m e)
    + (∑ d, Q c n d * SF d e) * xiF lf n + (∑ d, Q c n d * SB d e) * xiB lb n

/-- A row's mean. -/
def mean (o : Fin 128 → EReal) : EReal := Ideal.div (∑ e, o e) ((128 : ℝ) : EReal)

/-- A row taken to mean zero and variance one. -/
def unitRow (o : Fin 128 → EReal) (e : Fin 128) : EReal :=
  (o e - mean o) * Ideal.rsqrt (mean (fun e => (o e - mean o) * (o e - mean o)) + Ideal.ofBits .f32 897988541#32)

/-- The forward state before chunk `n`. -/
def stF (lf : EReal) (s0 : Mat) (K V : Chunks) : ℕ → Mat := state (gam lf) s0 (fun n => upd (zetaF lf) K V (fwd n))
/-- The backward state after `n` chunks from the back. -/
def stB (lb : EReal) (s0 : Mat) (K V : Chunks) : ℕ → Mat := state (gam lb) s0 (fun n => upd (zetaB lb) K V (bwd n))

/-- The output of the retention of one head: normalised, scaled, gated. -/
def out (lf lb : EReal) (Q K V G : Chunks) (gn : Fin 128 → EReal) (s0f s0b : Mat) (c : Fin 64) : Mat := fun n e =>
  G c n e * Ideal.logistic (G c n e)
    * (unitRow (mix lf lb Q K V (stF lf s0f K V c.val) (stB lb s0b K V (63 - c.val)) c n) e * gn e)

end Cert.Retention
-- ==== Proof.Retention.Loop1.lean ====
module

public import proofs.«01_k».proof.Proof.Gen.KernelIdeal.Frame.Runs
public import Idealize.ShloMosaic.Lib.Pointwise
public import proofs.«01_k».proof.Proof.Retention.Spec

@[expose] public section
set_option maxRecDepth 16384
noncomputable section
open Idealize.ShloMosaic Idealize.ShloMosaic.TcCoe Idealize.SL.Sem
open Idealize.ShloMosaic.Pipeline (Dat)
namespace Cert.KernelIdeal.Val
open Cert.KernelIdeal Cert.KernelIdeal.Gen
open Cert.Retention

/-- The rows of a head, by chunk. -/
def ck (X : FVec Ideal S8192x128 .bf16) : Chunks := fun c m d => X (ix2 (row c m) d)

/-- The scratch that holds `A c` in the first 128 lanes of its matrix `c` and `B c` in the others. -/
def lane (A B : Chunks) (c : Fin 64) (d : Fin 128) (l : Fin 256) : EReal :=
  if h : l.val < 128 then A c d ⟨l.val, h⟩ else B c d ⟨l.val - 128, by omega⟩
/-- The same, as an array. -/
def lanes (A B : Chunks) : S64x128x256.Idx → Ideal .f32 := fun y => lane A B (y 0) (y 1) (y 2)

/-- The lower lanes hold the first of the two. -/
theorem lane_lo (A B : Chunks) (c : Fin 64) (d : Fin 128) (e : Fin 128) (h : e.val < 256) : lane A B c d ⟨e.val, h⟩ = A c d e :=
  dif_pos (show e.val < 128 from e.isLt)
/-- The upper lanes hold the second of the two. -/
theorem lane_hi (A B : Chunks) (c : Fin 64) (d : Fin 128) (e : Fin 128) (h : 128 + e.val < 256) : lane A B c d ⟨128 + e.val, h⟩ = B c d e :=
  (dif_neg (show ¬ (128 + e.val < 128) by omega)).trans (congrArg (B c d) (Fin.ext (Nat.add_sub_cancel_left 128 e.val)))

/-- A load or store through a rectangle of unit strides, at the place with the shifted coordinates. -/
theorem emb_unit {s : Shape} (off size : Fin s.rank → ℕ) (inb : ∀ a, off a + size a ≤ s.size a) (x : (Rect.unit off size inb).shape.Idx) (y : s.Idx)
    (o : Fin s.rank → ℕ) (ho : off = o) (h : ∀ a, (y a).val = o a + (x a).val) : (Rect.unit off size inb).emb x = y := by
  subst ho
  exact Rect.emb_eq_of_coords _ _ _ fun a => (h a).trans (congrArg (off a + ·) (Nat.one_mul _).symm)

/-- A load through a rectangle of unit strides reads the place with the shifted coordinates. -/
theorem ld_unit {s : Shape} {e : EltTy} (X : s.Idx → Elt Ideal e) (off size : Fin s.rank → ℕ) (inb : ∀ a, off a + size a ≤ s.size a)
    (x : (Rect.unit off size inb).shape.Idx) (y : s.Idx)
    (o : Fin s.rank → ℕ) (ho : off = o) (h : ∀ a, (y a).val = o a + (x a).val) : View.ld (Val := Elt Ideal) X (Rect.unit off size inb) x = X y :=
  congrArg X (emb_unit off size inb x y o ho h)

/-- What each chunk adds, the weights of the keys given along the lanes of a matrix. -/
def updM (z : FVec Ideal S128x128 .f32) (K V : FVec Ideal S8192x128 .bf16) : Chunks := fun c d e =>
  ∑ m, ck K c m d * z (ix2 d m) * ck V c m e

/-- The scratch after the first loop: in its first 128 lanes what each chunk adds to the forward state, in the others what it
    adds to the backward one. -/
def G1 (v38 v41 : FVec Ideal S128x128 .f32) (K V : FVec Ideal S8192x128 .bf16) : S64x128x256.Idx → Ideal .f32 :=
  lanes (updM v38 K V) (updM v41 K V)

/-- One entry of a chunk's sum: the weighted keys' product with the values. -/
theorem pay11_at (z : FVec Ideal S128x128 .f32) (K V : Vec Ideal S128x128 .bf16) (j0 : Fin 1) (j1 j2 : Fin 128) :
    k0_pay11 z K V (ix3 j0 j1 j2) = ∑ x : Fin 128, K (ix2 x j1) * z (ix2 j1 x) * V (ix2 x j2) := by
  pointwise [k0_pay11, k0_pay10]

/-- Where a trip's part loads its chunk's rows. -/
theorem off3 (k : Fin k0_t1_loop.trips) (w : BitVec 32) (hw : w.toNat < 16) : k0_off3 k w = ![2048 * k.val + 128 * w.toNat, 0] := by
  have := k0_off3_eq k ⟨w.toNat, hw⟩
  simpa using this
/-- Where a trip's part stores its chunk's forward sum. -/
theorem off4 (k : Fin k0_t1_loop.trips) (w : BitVec 32) (hw : w.toNat < 16) : k0_off4 k w = ![16 * k.val + w.toNat, 0, 0] := by
  have := k0_off4_eq k ⟨w.toNat, hw⟩
  simpa using this
/-- Where a trip's part stores its chunk's backward sum. -/
theorem off5 (k : Fin k0_t1_loop.trips) (w : BitVec 32) (hw : w.toNat < 16) : k0_off5 k w = ![16 * k.val + w.toNat, 0, 128] := by
  have := k0_off5_eq k ⟨w.toNat, hw⟩
  simpa using this

/-- The rows that a trip's part loads are its chunk's. -/
theorem ld3 (X : FVec Ideal S8192x128 .bf16) (k : Fin k0_t1_loop.trips) (w : BitVec 32) (hw : w.toNat < 16)
    (inb : ∀ a : Fin 2, k0_off3 k w a + S128x128.size a ≤ S8192x128.size a) (m d : Fin 128) (cc : Fin 64) (hc : cc.val = 16 * k.val + w.toNat) :
    View.ld (Val := Elt Ideal) (e' := .bf16) X (Rect.unit (s := S8192x128) (k0_off3 k w) S128x128.size inb) (ix2 m d) = ck X cc m d := by
  refine ld_unit (e := .bf16) X _ _ _ _ (ix2 (row cc m) d) _ (off3 k w hw) fun a => ?_
  match a with
  | ⟨0, _⟩ => show 128 * cc.val + m.val = 2048 * k.val + 128 * w.toNat + m.val; omega
  | ⟨1, _⟩ => show d.val = 0 + d.val; omega

/-- A trip's forward store agrees with `G1`. -/
theorem pieceF (v38 v41 : FVec Ideal S128x128 .f32) (X Y : FVec Ideal S8192x128 .bf16) (k : Fin k0_t1_loop.trips) (w : BitVec 32) (hw : w.toNat < 16)
    (inb : ∀ a : Fin 2, k0_off3 k w a + S128x128.size a ≤ S8192x128.size a)
    (inb' : ∀ a, k0_off4 k w a + S1x128x128.size a ≤ S64x128x256.size a) (x : S1x128x128.Idx) :
    k0_pay11 v38 (View.ld (Val := Elt Ideal) (e' := .bf16) X (Rect.unit (s := S8192x128) (k0_off3 k w) S128x128.size inb)) (View.ld (Val := Elt Ideal) Y (Rect.unit (s := S8192x128) (k0_off3 k w) S128x128.size inb)) x
      = G1 v38 v41 X Y ((Rect.unit (s := S64x128x256) (k0_off4 k w) S1x128x128.size inb').emb x) := by
  have hk := k.isLt.trans_le k0_t1_abs.2.1
  idx_vars x
  rw [pay11_at]
  rw [emb_unit _ _ _ _ (ix3 (⟨16 * k.val + w.toNat, by omega⟩ : Fin 64) x1 (⟨x2.val, by omega⟩ : Fin 256)) _ (off4 k w hw) ?_]
  · refine Eq.trans ?_ (lane_lo _ _ _ x1 x2 _).symm
    refine Finset.sum_congr rfl fun m _ => ?_
    rw [ld3 X k w hw inb m x1 ⟨16 * k.val + w.toNat, by omega⟩ rfl, ld3 Y k w hw inb m x2 ⟨16 * k.val + w.toNat, by omega⟩ rfl]
    rfl
  · intro a
    match a with
    | ⟨0, _⟩ => show 16 * k.val + w.toNat = 16 * k.val + w.toNat + x0.val; omega
    | ⟨1, _⟩ => show x1.val = 0 + x1.val; omega
    | ⟨2, _⟩ => show x2.val = 0 + x2.val; omega

/-- A trip's backward store agrees with `G1`. -/
theorem pieceB (v38 v41 : FVec Ideal S128x128 .f32) (X Y : FVec Ideal S8192x128 .bf16) (k : Fin k0_t1_loop.trips) (w : BitVec 32) (hw : w.toNat < 16)
    (inb : ∀ a : Fin 2, k0_off3 k w a + S128x128.size a ≤ S8192x128.size a)
    (inb' : ∀ a, k0_off5 k w a + S1x128x128.size a ≤ S64x128x256.size a) (x : S1x128x128.Idx) :
    k0_pay11 v41 (View.ld (Val := Elt Ideal) (e' := .bf16) X (Rect.unit (s := S8192x128) (k0_off3 k w) S128x128.size inb)) (View.ld (Val := Elt Ideal) Y (Rect.unit (s := S8192x128) (k0_off3 k w) S128x128.size inb)) x
      = G1 v38 v41 X Y ((Rect.unit (s := S64x128x256) (k0_off5 k w) S1x128x128.size inb').emb x) := by
  have hk := k.isLt.trans_le k0_t1_abs.2.1
  idx_vars x
  rw [pay11_at]
  rw [emb_unit _ _ _ _ (ix3 (⟨16 * k.val + w.toNat, by omega⟩ : Fin 64) x1 (⟨128 + x2.val, by omega⟩ : Fin 256)) _ (off5 k w hw) ?_]
  · refine Eq.trans ?_ (lane_hi _ _ _ x1 x2 _).symm
    refine Finset.sum_congr rfl fun m _ => ?_
    rw [ld3 X k w hw inb m x1 ⟨16 * k.val + w.toNat, by omega⟩ rfl, ld3 Y k w hw inb m x2 ⟨16 * k.val + w.toNat, by omega⟩ rfl]
    rfl
  · intro a
    match a with
    | ⟨0, _⟩ => show 16 * k.val + w.toNat = 16 * k.val + w.toNat + x0.val; omega
    | ⟨1, _⟩ => show x1.val = 0 + x1.val; omega
    | ⟨2, _⟩ => show 128 + x2.val = 128 + x2.val; omega

section
variable (𝒱 : Variants) (c : Dev nD) (bd : Option 𝒱.V) (i : grid0.Coords) (arg2 : Memref sig .tc .smem S2x8 .f32) (harg2 : arg2.IsWhole)
  (arg3 : Memref sig .tc .vmem S8192x128 .bf16) (harg3 : arg3.IsWhole) (arg4 : Memref sig .tc .vmem S8192x128 .bf16) (harg4 : arg4.IsWhole)
  (arg5 : Memref sig .tc .vmem S8192x128 .bf16) (harg5 : arg5.IsWhole) (arg6 : Memref sig .tc .vmem S8192x128 .bf16) (harg6 : arg6.IsWhole)
  (arg7 : Memref sig .tc .vmem S1x128 .f32) (harg7 : arg7.IsWhole) (arg8 : Memref sig .tc .vmem S1x1x2x128x128 .f32) (harg8 : arg8.IsWhole)
  (arg9 : Memref sig .tc .hbm S33792x1024 .bf16) (harg9 : arg9.IsWhole) (arg10 : Memref sig .tc .vmem S8192x128 .bf16) (harg10 : arg10.IsWhole)
  (arg11 : Memref sig .tc .vmem S1x1x2x128x128 .f32) (harg11 : arg11.IsWhole) (arg12 : Memref sig .tc .vmem S64x128x256 .f32) (harg12 : arg12.IsWhole)
  (v38 v41 : FVec Ideal S128x128 .f32) (X4 : arg4.view.ty.Contents (Elt Ideal)) (X5 : arg5.view.ty.Contents (Elt Ideal))

/-- Every store of a trip of the first loop agrees with `G1`. -/
theorem trip1 (k : Fin k0_t1_loop.trips) :
    ∀ p ∈ tripL_k0_t1 𝒱 c bd i arg2 harg2 arg3 harg3 arg4 harg4 arg5 harg5 arg6 harg6 arg7 harg7 arg8 harg8 arg9 harg9 arg10 harg10 arg11 harg11 arg12 harg12 v38 v41 X4 X5 k,
      ∀ x : p.1.shape.Idx, p.2 x = G1 v38 v41 (arg4.view.read (Elt Ideal) X4) (arg5.view.read (Elt Ideal) X5) (p.1.emb x) := by
  unfold tripL_k0_t1 trip_k0_t1
  dsimp only
  simp only [List.forall_mem_cons]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_,
    fun _ h => absurd h List.not_mem_nil⟩
  iterate 16
    · exact fun x => pieceB v38 v41 _ _ k _ (by decide) _ _ x
    · exact fun x => pieceF v38 v41 _ _ k _ (by decide) _ _ x

/-- Every store of the first loop agrees with `G1`. -/
theorem loop1_pieces (n : ℕ) :
    ∀ p ∈ pb_k0_t1 𝒱 c bd i arg2 harg2 arg3 harg3 arg4 harg4 arg5 harg5 arg6 harg6 arg7 harg7 arg8 harg8 arg9 harg9 arg10 harg10 arg11 harg11 arg12 harg12 v38 v41 X4 X5 n,
      ∀ x : p.1.shape.Idx, p.2 x = G1 v38 v41 (arg4.view.read (Elt Ideal) X4) (arg5.view.read (Elt Ideal) X5) (p.1.emb x) := by
  induction n with
  | zero => rw [pb_k0_t1]; exact fun _ h => absurd h List.not_mem_nil
  | succ n ih =>
    by_cases hn : n < k0_t1_loop.trips
    · rw [pb_k0_t1_succ 𝒱 c bd i arg2 harg2 arg3 harg3 arg4 harg4 arg5 harg5 arg6 harg6 arg7 harg7 arg8 harg8 arg9 harg9 arg10 harg10 arg11 harg11 arg12 harg12 v38 v41 X4 X5 ⟨n, hn⟩]
      intro p hp
      rcases List.mem_append.mp hp with h | h
      · exact trip1 𝒱 c bd i arg2 harg2 arg3 harg3 arg4 harg4 arg5 harg5 arg6 harg6 arg7 harg7 arg8 harg8 arg9 harg9 arg10 harg10 arg11 harg11 arg12 harg12 v38 v41 X4 X5 ⟨n, hn⟩ p h
      · exact ih p h
    · rw [pb_k0_t1.eq_2]; unfold pb_k0_t1Step; rw [dif_neg hn]; exact ih

/-- The scratch after the first loop, whatever it held before. -/
theorem loop1 (f : arg12.view.ty.Contents (Elt Ideal)) :
    arg12.view.read (Elt Ideal) (arg12.view.writes (Elt Ideal) f
      (pb_k0_t1 𝒱 c bd i arg2 harg2 arg3 harg3 arg4 harg4 arg5 harg5 arg6 harg6 arg7 harg7 arg8 harg8 arg9 harg9 arg10 harg10 arg11 harg11 arg12 harg12 v38 v41 X4 X5
        (Scf.trips k0_t1_loop.lb k0_t1_loop.ub k0_t1_loop.st)))
      = G1 v38 v41 (arg4.view.read (Elt Ideal) X4) (arg5.view.read (Elt Ideal) X5) :=
  funext fun y => View.read_writes_apply_of_pieces _ _ _ _
    (loop1_pieces 𝒱 c bd i arg2 harg2 arg3 harg3 arg4 harg4 arg5 harg5 arg6 harg6 arg7 harg7 arg8 harg8 arg9 harg9 arg10 harg10 arg11 harg11 arg12 harg12 v38 v41 X4 X5 _) y
    (View.cover_of_tiledL (pb_k0_t1 𝒱 c bd i arg2 harg2 arg3 harg3 arg4 harg4 arg5 harg5 arg6 harg6 arg7 harg7 arg8 harg8 arg9 harg9 arg10 harg10 arg11 harg11 arg12 harg12 v38 v41 X4 X5
        (Scf.trips k0_t1_loop.lb k0_t1_loop.ub k0_t1_loop.st)) S1x128x128.size (by sl_kernel_rfl) y)
end
end Cert.KernelIdeal.Val
-- ==== Proof.Retention.Loop2.lean ====
module

public import proofs.«01_k».proof.Proof.Gen.KernelIdeal.Frame.Runs
public import Idealize.ShloMosaic.Lib.Pointwise
public import proofs.«01_k».proof.Proof.Retention.Loop1

@[expose] public section
set_option maxRecDepth 16384
noncomputable section
open Idealize.ShloMosaic Idealize.ShloMosaic.TcCoe Idealize.SL.Sem
open Idealize.ShloMosaic.Pipeline (Dat)
namespace Cert.KernelIdeal.Val
open Cert.KernelIdeal Cert.KernelIdeal.Gen
open Cert.Retention

/-- A matrix as a function of its row and column. -/
def mat (a : FVec Ideal S128x128 .f32) : Mat := fun d e => a (ix2 d e)

/-- The forward state as it is stored. -/
theorem pay4_at (a : FVec Ideal S128x128 .f32) (j0 : Fin 1) (j1 j2 : Fin 128) : k0_pay4 a (ix3 j0 j1 j2) = a (ix2 j1 j2) := by
  pointwise [k0_pay4]
/-- The backward state as it is stored. -/
theorem pay5_at (a : FVec Ideal S128x128 .f32) (j0 : Fin 1) (j1 j2 : Fin 128) : k0_pay5 a (ix3 j0 j1 j2) = a (ix2 j1 j2) := by
  pointwise [k0_pay5]
/-- The forward state's step. -/
theorem pay6_at (g a : FVec Ideal S128x128 .f32) (u : Vec Ideal S1x128x128 .f32) (j1 j2 : Fin 128) :
    k0_pay6 g a u (ix2 j1 j2) = g (ix2 j1 j2) * a (ix2 j1 j2) + u (ix3 0 j1 j2) := by
  pointwise [k0_pay6]
/-- The backward state's step. -/
theorem pay7_at (l : Ideal .f32) (a : FVec Ideal S128x128 .f32) (u : Vec Ideal S1x128x128 .f32) (j1 j2 : Fin 128) :
    k0_pay7 l a u (ix2 j1 j2) = Ideal.exp (l * Ideal.ofBits .f32 1124073472#32) * a (ix2 j1 j2) + u (ix3 0 j1 j2) := by
  pointwise [k0_pay7]

/-- The scratch's matrix `c`, lanes below 128, read after two stores one of which went there. -/
theorem lanes_at (A B : Chunks) (c : Fin 64) (d : Fin 128) (l : Fin 256) : lanes A B (ix3 c d l) = lane A B c d l := rfl

/-- A function on chunks changed at one chunk. -/
def put (A : Chunks) (n : ℕ) (a : Mat) : Chunks := fun c => if c.val = n then a else A c

section store
variable (v : View sig .tc .vmem S64x128x256 .f32) (f : v.ty.Contents (Elt Ideal)) (A B : Chunks) (hf : v.read (Elt Ideal) f = lanes A B)
  (k : Fin k0_t2_loop.trips) (a b : FVec Ideal S128x128 .f32)
include hf

/-- One trip's two stores: the forward state over chunk `k`'s lanes, the backward one over those of the chunk met from the back. -/
theorem stores2 (inb7 : ∀ a : Fin 3, k0_off7 k a + S1x128x128.size a ≤ S64x128x256.size a)
    (inb6 : ∀ a : Fin 3, k0_off6 k a + S1x128x128.size a ≤ S64x128x256.size a) :
    v.read (Elt Ideal) (v.writes (Elt Ideal) f
      [⟨Rect.unit (s := S64x128x256) (k0_off7 k) S1x128x128.size inb7, k0_pay5 b⟩,
       ⟨Rect.unit (s := S64x128x256) (k0_off6 k) S1x128x128.size inb6, k0_pay4 a⟩])
      = lanes (put A k.val (mat a)) (put B (63 - k.val) (mat b)) := by
  have hk := k.isLt.trans_le k0_t2_abs.2.1
  have o7 := k0_off7_eq k
  have o6 := k0_off6_eq k
  funext y
  idx_vars y
  by_cases hl : y2.val < 128
  · obtain ⟨e, rfl⟩ : ∃ e : Fin 128, y2 = ⟨e.val, e.isLt.trans (by decide)⟩ := ⟨⟨y2.val, hl⟩, rfl⟩
    rw [View.read_writes_cons_miss_of_axis v f _ _ _ (2 : Fin 3) 128 128 (congrFun o7 2) rfl rfl (Or.inl e.isLt), lanes_at, lane_lo]
    by_cases hc : y0.val = k.val
    · refine (View.read_writes_cons_hit v f _ _ _ (ix3 0 y1 e) _ (emb_unit _ _ _ _ _ _ o6 fun a => ?_)).trans ?_
      · match a with
        | ⟨0, _⟩ => show y0.val = k.val + 0; omega
        | ⟨1, _⟩ => show y1.val = 0 + y1.val; omega
        | ⟨2, _⟩ => show e.val = 0 + e.val; omega
      · rw [pay4_at, put, if_pos hc]; rfl
    · rw [View.read_writes_cons_miss_of_axis v f _ _ _ (0 : Fin 3) k.val 1 (congrFun o6 0) rfl rfl (by
        show y0.val < _ ∨ _ ≤ y0.val; omega), put, if_neg hc]
      refine (congrFun hf _).trans ?_
      rw [lanes_at, lane_lo]
  · obtain ⟨e, rfl⟩ : ∃ e : Fin 128, y2 = ⟨128 + e.val, Nat.add_lt_add_left e.isLt 128⟩ := ⟨⟨y2.val - 128, by omega⟩, Fin.ext (by show y2.val = 128 + (y2.val - 128); omega)⟩
    rw [lanes_at, lane_hi]
    by_cases hc : y0.val = 63 - k.val
    · refine (View.read_writes_cons_hit v f _ _ _ (ix3 0 y1 e) _ (emb_unit _ _ _ _ _ _ o7 fun a => ?_)).trans ?_
      · match a with
        | ⟨0, _⟩ => show y0.val = 63 - k.val + 0; omega
        | ⟨1, _⟩ => show y1.val = 0 + y1.val; omega
        | ⟨2, _⟩ => show 128 + e.val = 128 + e.val; omega
      · rw [pay5_at, put, if_pos hc]; rfl
    · rw [View.read_writes_cons_miss_of_axis v f _ _ _ (0 : Fin 3) (63 - k.val) 1 (congrFun o7 0) rfl rfl (by
        show y0.val < _ ∨ _ ≤ y0.val; omega),
        View.read_writes_cons_miss_of_axis v f _ _ _ (2 : Fin 3) 0 128 (congrFun o6 2) rfl rfl (by
        show 128 + e.val < _ ∨ _ ≤ 128 + e.val; omega), put, if_neg hc]
      refine (congrFun hf _).trans ?_
      rw [lanes_at, lane_hi]

/-- A trip loads its chunk's forward sum. -/
theorem load6 (inb6 : ∀ a : Fin 3, k0_off6 k a + S1x128x128.size a ≤ S64x128x256.size a) (d e : Fin 128) (c : Fin 64) (hc : c.val = k.val) :
    View.ld (Val := Elt Ideal) (e' := .f32) (v.read (Elt Ideal) f) (Rect.unit (s := S64x128x256) (k0_off6 k) S1x128x128.size inb6) (ix3 0 d e) = A c d e := by
  refine (ld_unit (e := .f32) _ _ _ _ _ (ix3 c d ⟨e.val, by omega⟩) _ (k0_off6_eq k) fun a => ?_).trans ?_
  · match a with
    | ⟨0, _⟩ => show c.val = k.val + 0; omega
    | ⟨1, _⟩ => show d.val = 0 + d.val; omega
    | ⟨2, _⟩ => show e.val = 0 + e.val; omega
  · rw [hf, lanes_at, lane_lo]

/-- A trip loads the mirrored chunk's backward sum. -/
theorem load7 (inb7 : ∀ a : Fin 3, k0_off7 k a + S1x128x128.size a ≤ S64x128x256.size a) (d e : Fin 128) (c : Fin 64) (hc : c.val = 63 - k.val) :
    View.ld (Val := Elt Ideal) (e' := .f32) (v.read (Elt Ideal) f) (Rect.unit (s := S64x128x256) (k0_off7 k) S1x128x128.size inb7) (ix3 0 d e) = B c d e := by
  refine (ld_unit (e := .f32) _ _ _ _ _ (ix3 c d ⟨128 + e.val, by omega⟩) _ (k0_off7_eq k) fun a => ?_).trans ?_
  · match a with
    | ⟨0, _⟩ => show c.val = 63 - k.val + 0; omega
    | ⟨1, _⟩ => show d.val = 0 + d.val; omega
    | ⟨2, _⟩ => show 128 + e.val = 128 + e.val; omega
  · rw [hf, lanes_at, lane_hi]
end store

/-- What the forward lanes hold after `n` trips: the state before the chunk where the trip has been, what the chunk adds elsewhere. -/
def lo (SF : ℕ → Mat) (A : Chunks) (n : ℕ) : Chunks := fun c => if c.val < n then SF c.val else A c
/-- What the backward lanes hold after `n` trips. -/
def hi (SB : ℕ → Mat) (B : Chunks) (n : ℕ) : Chunks := fun c => if 63 - c.val < n then SB (63 - c.val) else B c

/-- One more trip puts the forward state before the trip's chunk. -/
theorem lo_succ (SF : ℕ → Mat) (A : Chunks) (n : ℕ) : put (lo SF A n) n (SF n) = lo SF A (n + 1) := by
  funext c
  unfold put lo
  by_cases h : c.val = n
  · rw [if_pos h, if_pos (by omega), h]
  · rw [if_neg h]
    by_cases h' : c.val < n
    · rw [if_pos h', if_pos (by omega)]
    · rw [if_neg h', if_neg (by omega)]
/-- One more trip puts the backward state at the mirrored chunk. -/
theorem hi_succ (SB : ℕ → Mat) (B : Chunks) (n : ℕ) (hn : n < 64) : put (hi SB B n) (63 - n) (SB n) = hi SB B (n + 1) := by
  funext c
  unfold put hi
  have := c.isLt
  by_cases h : c.val = 63 - n
  · rw [if_pos h, if_pos (by omega), show 63 - c.val = n by omega]
  · rw [if_neg h]
    by_cases h' : 63 - c.val < n
    · rw [if_pos h', if_pos (by omega)]
    · rw [if_neg h', if_neg (by omega)]

section
variable (𝒱 : Variants) (c : Dev nD) (bd : Option 𝒱.V) (i : grid0.Coords) (arg2 : Memref sig .tc .smem S2x8 .f32) (harg2 : arg2.IsWhole)
  (arg3 : Memref sig .tc .vmem S8192x128 .bf16) (harg3 : arg3.IsWhole) (arg4 : Memref sig .tc .vmem S8192x128 .bf16) (harg4 : arg4.IsWhole)
  (arg5 : Memref sig .tc .vmem S8192x128 .bf16) (harg5 : arg5.IsWhole) (arg6 : Memref sig .tc .vmem S8192x128 .bf16) (harg6 : arg6.IsWhole)
  (arg7 : Memref sig .tc .vmem S1x128 .f32) (harg7 : arg7.IsWhole) (arg8 : Memref sig .tc .vmem S1x1x2x128x128 .f32) (harg8 : arg8.IsWhole)
  (arg9 : Memref sig .tc .hbm S33792x1024 .bf16) (harg9 : arg9.IsWhole) (arg10 : Memref sig .tc .vmem S8192x128 .bf16) (harg10 : arg10.IsWhole)
  (arg11 : Memref sig .tc .vmem S1x1x2x128x128 .f32) (harg11 : arg11.IsWhole) (arg12 : Memref sig .tc .vmem S64x128x256 .f32) (harg12 : arg12.IsWhole)
  (v3 : Ideal .f32) (v46 : FVec Ideal S128x128 .f32) (G : arg12.view.ty.Contents (Elt Ideal)) (init : FVec Ideal S128x128 .f32 × FVec Ideal S128x128 .f32)

/-- The states that a trip of the second loop hands on. -/
theorem tripR2 (k : Fin k0_t2_loop.trips) (acc : FVec Ideal S128x128 .f32 × FVec Ideal S128x128 .f32) (f : arg12.view.ty.Contents (Elt Ideal)) :
    tripR_k0_t2 𝒱 c bd i arg2 harg2 arg3 harg3 arg4 harg4 arg5 harg5 arg6 harg6 arg7 harg7 arg8 harg8 arg9 harg9 arg10 harg10 arg11 harg11 arg12 harg12 v3 v46 k acc f
      = (k0_pay6 v46 acc.1 (View.ld (Val := Elt Ideal) (arg12.view.read (Elt Ideal) f) (Rect.unit (s := S64x128x256) (k0_off6 k) S1x128x128.size (k0_off6_inb k))),
         k0_pay7 v3 acc.2 (View.ld (Val := Elt Ideal) (arg12.view.read (Elt Ideal) f) (Rect.unit (s := S64x128x256) (k0_off7 k) S1x128x128.size (k0_off7_inb k)))) := by
  unfold tripR_k0_t2 trip_k0_t2
  dsimp only
  sl_unfold_words
  rfl
/-- The stores of a trip of the second loop. -/
theorem tripL2 (k : Fin k0_t2_loop.trips) (acc : FVec Ideal S128x128 .f32 × FVec Ideal S128x128 .f32) (f : arg12.view.ty.Contents (Elt Ideal)) :
    tripL_k0_t2 𝒱 c bd i arg2 harg2 arg3 harg3 arg4 harg4 arg5 harg5 arg6 harg6 arg7 harg7 arg8 harg8 arg9 harg9 arg10 harg10 arg11 harg11 arg12 harg12 v3 v46 k acc f
      = [⟨Rect.unit (s := S64x128x256) (k0_off7 k) S1x128x128.size (k0_off7_inb k), k0_pay5 acc.2⟩,
         ⟨Rect.unit (s := S64x128x256) (k0_off6 k) S1x128x128.size (k0_off6_inb k), k0_pay4 acc.1⟩] := by
  unfold tripL_k0_t2 trip_k0_t2
  rfl

variable (γ : EReal) (hγ : ∀ d e, v46 (ix2 d e) = γ) (A B : Chunks) (hG : arg12.view.read (Elt Ideal) G = lanes A B)
include hγ hG

/-- The second loop before trip `n`: the two states, and the scratch. -/
theorem loop2_at (n : ℕ) (hn : n ≤ 64) :
    mat (st_k0_t2 𝒱 c bd i arg2 harg2 arg3 harg3 arg4 harg4 arg5 harg5 arg6 harg6 arg7 harg7 arg8 harg8 arg9 harg9 arg10 harg10 arg11 harg11 arg12 harg12 v3 v46 G init n).1.1 = state γ (mat init.1) (fun n => A (fwd n)) n
    ∧ mat (st_k0_t2 𝒱 c bd i arg2 harg2 arg3 harg3 arg4 harg4 arg5 harg5 arg6 harg6 arg7 harg7 arg8 harg8 arg9 harg9 arg10 harg10 arg11 harg11 arg12 harg12 v3 v46 G init n).1.2 = state (Ideal.exp (v3 * Ideal.ofBits .f32 1124073472#32)) (mat init.2) (fun n => B (bwd n)) n
    ∧ arg12.view.read (Elt Ideal) (arg12.view.writes (Elt Ideal) G (st_k0_t2 𝒱 c bd i arg2 harg2 arg3 harg3 arg4 harg4 arg5 harg5 arg6 harg6 arg7 harg7 arg8 harg8 arg9 harg9 arg10 harg10 arg11 harg11 arg12 harg12 v3 v46 G init n).2)
        = lanes (lo (state γ (mat init.1) (fun n => A (fwd n))) A n)
            (hi (state (Ideal.exp (v3 * Ideal.ofBits .f32 1124073472#32)) (mat init.2) (fun n => B (bwd n))) B n) := by
  induction n with
  | zero =>
    rw [st_k0_t2]
    refine ⟨rfl, rfl, ?_⟩
    refine hG.trans ?_
    congr 1
  | succ n ih =>
    obtain ⟨h1, h2, h3⟩ := ih (by omega)
    have ht : k0_t2_loop.trips = 64 := by decide +kernel
    have hk : n < k0_t2_loop.trips := by omega
    rw [st_k0_t2_succ 𝒱 c bd i arg2 harg2 arg3 harg3 arg4 harg4 arg5 harg5 arg6 harg6 arg7 harg7 arg8 harg8 arg9 harg9 arg10 harg10 arg11 harg11 arg12 harg12 v3 v46 G init ⟨n, hk⟩]
    generalize st_k0_t2 𝒱 c bd i arg2 harg2 arg3 harg3 arg4 harg4 arg5 harg5 arg6 harg6 arg7 harg7 arg8 harg8 arg9 harg9 arg10 harg10 arg11 harg11 arg12 harg12 v3 v46 G init (⟨n, hk⟩ : Fin k0_t2_loop.trips).val = st at h1 h2 h3 ⊢
    rw [tripR2, tripL2, View.writes_append]
    refine ⟨?_, ?_, ?_⟩
    · funext d e
      refine (pay6_at _ _ _ d e).trans ?_
      rw [hγ, load6 arg12.view _ _ _ h3 ⟨n, hk⟩ (k0_off6_inb _) d e (fwd n) (Nat.mod_eq_of_lt (by omega))]
      have : lo (state γ (mat init.1) (fun n => A (fwd n))) A n (fwd n) = A (fwd n) :=
        if_neg (by show ¬ (n % 64 < n); rw [Nat.mod_eq_of_lt (by omega)]; omega)
      rw [this]
      exact congrArg (γ * · + A (fwd n) d e) (congrFun (congrFun h1 d) e)
    · funext d e
      refine (pay7_at _ _ _ d e).trans ?_
      rw [load7 arg12.view _ _ _ h3 ⟨n, hk⟩ (k0_off7_inb _) d e (bwd n) rfl]
      have : hi (state (Ideal.exp (v3 * Ideal.ofBits .f32 1124073472#32)) (mat init.2) (fun n => B (bwd n))) B n (bwd n) = B (bwd n) :=
        if_neg (by show ¬ (63 - (63 - n) < n); omega)
      rw [this]
      exact congrArg (Ideal.exp (v3 * Ideal.ofBits .f32 1124073472#32) * · + B (bwd n) d e) (congrFun (congrFun h2 d) e)
    · rw [stores2 arg12.view _ _ _ h3, h1, h2, lo_succ, hi_succ _ _ _ (by omega)]
end
end Cert.KernelIdeal.Val
-- ==== Proof.Retention.Loop3.lean ====
module

public import proofs.«01_k».proof.Proof.Gen.KernelIdeal.Frame.Runs
public import Idealize.ShloMosaic.Lib.Pointwise
public import proofs.«01_k».proof.Proof.Retention.Loop2

@[expose] public section
set_option maxRecDepth 16384
noncomputable section
open Idealize.ShloMosaic Idealize.ShloMosaic.TcCoe Idealize.SL.Sem
open Idealize.ShloMosaic.Pipeline (Dat)
namespace Cert.KernelIdeal.Val
open Cert.KernelIdeal Cert.KernelIdeal.Gen
open Cert.Retention

/-- The literal 128. -/
theorem ofBits128 : Ideal.ofBits .f32 1124073472#32 = ((128 : ℝ) : EReal) := by
  simp [Ideal.ofBits, Ideal.ieee, -EReal.coe_mul]; norm_num

/-- The output before its normalisation, the weights given as matrices. -/
def mixM (D XF XB : Mat) (Q K V : Chunks) (SF SB : Chunks) (c : Fin 64) : Mat := fun n e =>
  (∑ m, (∑ d, Q c n d * K c m d) * D n m * V c m e) + (∑ d, Q c n d * SF c d e) * XF n e + (∑ d, Q c n d * SB c d e) * XB n e

/-- The output, the weights given as matrices. -/
def outM (D XF XB : Mat) (Q K V G : Chunks) (gn : Fin 128 → EReal) (SF SB : Chunks) (c : Fin 64) : Mat := fun n e =>
  G c n e * Ideal.logistic (G c n e) * (unitRow (mixM D XF XB Q K V SF SB c n) e * gn e)

/-- The chunk a row lies in. -/
def chunkOf (r : Fin 8192) : Fin 64 := ⟨r.val / 128, by omega⟩
/-- The place of a row in its chunk. -/
def posOf (r : Fin 8192) : Fin 128 := ⟨r.val % 128, Nat.mod_lt _ (by decide)⟩

/-- A head's rows from their chunks. -/
def rows (M : Chunks) : S8192x128.Idx → Ideal .bf16 := fun y => M (chunkOf (y 0)) (posOf (y 0)) (y 1)

/-- The block of outputs after the third loop. -/
def G3 (v23 v28 v33 : FVec Ideal S128x128 .f32) (Q K V G : FVec Ideal S8192x128 .bf16) (gn : FVec Ideal S1x128 .f32) (A B : Chunks) :
    S8192x128.Idx → Ideal .bf16 :=
  rows (outM (mat v23) (mat v28) (mat v33) (ck Q) (ck K) (ck V) (ck G) (fun e => gn (ix2 0 e)) A B)

/-- A row of the head is its chunk's row. -/
theorem rows_row (M : Chunks) (c : Fin 64) (m e : Fin 128) : rows M (ix2 (row c m) e) = M c m e := by
  show M (chunkOf (row c m)) (posOf (row c m)) e = M c m e
  congr 1 <;> apply Fin.ext <;> simp only [chunkOf, posOf, row] <;> omega

/-- One entry of a chunk's normalised output. -/
theorem pay63_at (D xf xb : FVec Ideal S128x128 .f32) (q k v : Vec Ideal S128x128 .bf16) (s : Vec Ideal S1x128x256 .f32) (j0 j1 : Fin 128) :
    k0_pay63 D xf xb q k v s (ix2 j0 j1) = unitRow (fun e =>
      (∑ x : Fin 128, (∑ d : Fin 128, q (ix2 j0 d) * k (ix2 x d)) * D (ix2 j0 x) * v (ix2 x e))
        + (∑ d : Fin 128, q (ix2 j0 d) * s (ix3 0 d ⟨e.val, e.isLt.trans (by decide)⟩)) * xf (ix2 j0 e)
        + (∑ d : Fin 128, q (ix2 j0 d) * s (ix3 0 d ⟨128 + e.val, Nat.add_lt_add_left e.isLt 128⟩)) * xb (ix2 j0 e)) j1 := by
  unfold unitRow mean
  rw [← ofBits128]
  pointwise [k0_pay63]

/-- One entry of a chunk's gated output. -/
theorem pay64_at (y : FVec Ideal S128x128 .f32) (gn : Vec Ideal S1x128 .f32) (g : Vec Ideal S128x128 .bf16) (j0 j1 : Fin 128) :
    k0_pay64 y gn g (ix2 j0 j1) = g (ix2 j0 j1) * Ideal.logistic (g (ix2 j0 j1)) * (y (ix2 j0 j1) * gn (ix2 0 j1)) := by
  pointwise [k0_pay64]

/-- Where a trip's part loads and stores its chunk's rows. -/
theorem off8 (k : Fin k0_t3_loop.trips) (w : BitVec 32) (hw : w.toNat < 16) : k0_off8 k w = ![2048 * k.val + 128 * w.toNat, 0] := by
  have := k0_off8_eq k ⟨w.toNat, hw⟩
  simpa using this
/-- Where a trip's part loads its chunk's states. -/
theorem off9 (k : Fin k0_t3_loop.trips) (w : BitVec 32) (hw : w.toNat < 16) : k0_off9 k w = ![16 * k.val + w.toNat, 0, 0] := by
  have := k0_off9_eq k ⟨w.toNat, hw⟩
  simpa using this

/-- Where a trip's rows lie in the head. -/
theorem emb8 (k : Fin k0_t3_loop.trips) (w : BitVec 32) (hw : w.toNat < 16)
    (inb : ∀ a : Fin 2, k0_off8 k w a + S128x128.size a ≤ S8192x128.size a) (m d : Fin 128) (cc : Fin 64) (hc : cc.val = 16 * k.val + w.toNat) :
    (Rect.unit (s := S8192x128) (k0_off8 k w) S128x128.size inb).emb (ix2 m d) = ix2 (row cc m) d := by
  refine emb_unit _ _ _ _ _ _ (off8 k w hw) fun a => ?_
  match a with
  | ⟨0, _⟩ => show 128 * cc.val + m.val = 2048 * k.val + 128 * w.toNat + m.val; omega
  | ⟨1, _⟩ => show d.val = 0 + d.val; omega

/-- The rows that a trip's part loads are its chunk's. -/
theorem ld8 (X : FVec Ideal S8192x128 .bf16) (k : Fin k0_t3_loop.trips) (w : BitVec 32) (hw : w.toNat < 16)
    (inb : ∀ a : Fin 2, k0_off8 k w a + S128x128.size a ≤ S8192x128.size a) (m d : Fin 128) (cc : Fin 64) (hc : cc.val = 16 * k.val + w.toNat) :
    View.ld (Val := Elt Ideal) (e' := .bf16) X (Rect.unit (s := S8192x128) (k0_off8 k w) S128x128.size inb) (ix2 m d) = ck X cc m d :=
  congrArg X (emb8 k w hw inb m d cc hc)

/-- The states that a trip's part loads are its chunk's. -/
theorem ld9 (X : FVec Ideal S64x128x256 .f32) (A B : Chunks) (hX : X = lanes A B) (k : Fin k0_t3_loop.trips) (w : BitVec 32) (hw : w.toNat < 16)
    (inb : ∀ a : Fin 3, k0_off9 k w a + S1x128x256.size a ≤ S64x128x256.size a) (d : Fin 128) (l : Fin 256) (cc : Fin 64) (hc : cc.val = 16 * k.val + w.toNat) :
    View.ld (Val := Elt Ideal) (e' := .f32) X (Rect.unit (s := S64x128x256) (k0_off9 k w) S1x128x256.size inb) (ix3 0 d l) = lane A B cc d l := by
  refine (ld_unit (e := .f32) _ _ _ _ _ (ix3 cc d l) _ (off9 k w hw) fun a => ?_).trans ?_
  · match a with
    | ⟨0, _⟩ => show cc.val = 16 * k.val + w.toNat + 0; omega
    | ⟨1, _⟩ => show d.val = 0 + d.val; omega
    | ⟨2, _⟩ => show l.val = 0 + l.val; omega
  · rw [hX, lanes_at]

/-- A trip's store agrees with `G3`. -/
theorem piece3 (v23 v28 v33 : FVec Ideal S128x128 .f32) (Q K V G : FVec Ideal S8192x128 .bf16) (gn : FVec Ideal S1x128 .f32)
    (X : FVec Ideal S64x128x256 .f32) (A B : Chunks) (hX : X = lanes A B) (k : Fin k0_t3_loop.trips) (w : BitVec 32) (hw : w.toNat < 16)
    (inb : ∀ a : Fin 2, k0_off8 k w a + S128x128.size a ≤ S8192x128.size a)
    (inb9 : ∀ a : Fin 3, k0_off9 k w a + S1x128x256.size a ≤ S64x128x256.size a)
    (inb7 : ∀ a : Fin 2, (![0, 0] : Fin 2 → ℕ) a + S1x128.size a ≤ S1x128.size a) (x : S128x128.Idx) :
    k0_pay64 (k0_pay63 v23 v28 v33
        (View.ld (Val := Elt Ideal) (e' := .bf16) Q (Rect.unit (s := S8192x128) (k0_off8 k w) S128x128.size inb))
        (View.ld (Val := Elt Ideal) (e' := .bf16) K (Rect.unit (s := S8192x128) (k0_off8 k w) S128x128.size inb))
        (View.ld (Val := Elt Ideal) (e' := .bf16) V (Rect.unit (s := S8192x128) (k0_off8 k w) S128x128.size inb))
        (View.ld (Val := Elt Ideal) (e' := .f32) X (Rect.unit (s := S64x128x256) (k0_off9 k w) S1x128x256.size inb9)))
      (View.ld (Val := Elt Ideal) (e' := .f32) gn (Rect.unit (s := S1x128) ![0, 0] S1x128.size inb7))
      (View.ld (Val := Elt Ideal) (e' := .bf16) G (Rect.unit (s := S8192x128) (k0_off8 k w) S128x128.size inb)) x
      = G3 v23 v28 v33 Q K V G gn A B ((Rect.unit (s := S8192x128) (k0_off8 k w) S128x128.size inb).emb x) := by
  have hk : k.val < 4 := k.isLt.trans_le k0_t3_abs.2.1
  idx_vars x
  obtain ⟨cc, hc⟩ : ∃ cc : Fin 64, cc.val = 16 * k.val + w.toNat := ⟨⟨16 * k.val + w.toNat, by omega⟩, rfl⟩
  rw [emb8 k w hw inb x0 x1 cc hc, G3, rows_row, pay64_at, pay63_at, ld8 G k w hw inb x0 x1 cc hc]
  have hg : View.ld (Val := Elt Ideal) (e' := .f32) gn (Rect.unit (s := S1x128) ![0, 0] S1x128.size inb7) (ix2 0 x1) = gn (ix2 0 x1) :=
    ld_unit (e := .f32) _ _ _ _ _ _ _ rfl fun a => by
      match a with
      | ⟨0, _⟩ => rfl
      | ⟨1, _⟩ => show x1.val = 0 + x1.val; omega
  rw [hg]
  unfold outM
  congr 3
  funext e
  unfold mixM
  congr 1
  · congr 1
    · refine Finset.sum_congr rfl fun m _ => ?_
      rw [ld8 V k w hw inb m e cc hc]
      congr 2
      refine Finset.sum_congr rfl fun d _ => ?_
      rw [ld8 Q k w hw inb x0 d cc hc, ld8 K k w hw inb m d cc hc]
    · congr 1
      refine Finset.sum_congr rfl fun d _ => ?_
      rw [ld8 Q k w hw inb x0 d cc hc, ld9 X A B hX k w hw inb9 d _ cc hc, lane_lo]
  · congr 1
    refine Finset.sum_congr rfl fun d _ => ?_
    rw [ld8 Q k w hw inb x0 d cc hc, ld9 X A B hX k w hw inb9 d _ cc hc, lane_hi]

section
variable (𝒱 : Variants) (c : Dev nD) (bd : Option 𝒱.V) (i : grid0.Coords) (arg2 : Memref sig .tc .smem S2x8 .f32) (harg2 : arg2.IsWhole)
  (arg3 : Memref sig .tc .vmem S8192x128 .bf16) (harg3 : arg3.IsWhole) (arg4 : Memref sig .tc .vmem S8192x128 .bf16) (harg4 : arg4.IsWhole)
  (arg5 : Memref sig .tc .vmem S8192x128 .bf16) (harg5 : arg5.IsWhole) (arg6 : Memref sig .tc .vmem S8192x128 .bf16) (harg6 : arg6.IsWhole)
  (arg7 : Memref sig .tc .vmem S1x128 .f32) (harg7 : arg7.IsWhole) (arg8 : Memref sig .tc .vmem S1x1x2x128x128 .f32) (harg8 : arg8.IsWhole)
  (arg9 : Memref sig .tc .hbm S33792x1024 .bf16) (harg9 : arg9.IsWhole) (arg10 : Memref sig .tc .vmem S8192x128 .bf16) (harg10 : arg10.IsWhole)
  (arg11 : Memref sig .tc .vmem S1x1x2x128x128 .f32) (harg11 : arg11.IsWhole) (arg12 : Memref sig .tc .vmem S64x128x256 .f32) (harg12 : arg12.IsWhole)
  (v23 v28 v33 : FVec Ideal S128x128 .f32) (X3 : arg3.view.ty.Contents (Elt Ideal)) (X4 : arg4.view.ty.Contents (Elt Ideal)) (X5 : arg5.view.ty.Contents (Elt Ideal))
  (X6 : arg6.view.ty.Contents (Elt Ideal)) (X7 : arg7.view.ty.Contents (Elt Ideal)) (X12 : arg12.view.ty.Contents (Elt Ideal))
  (A B : Chunks) (h12 : arg12.view.read (Elt Ideal) X12 = lanes A B)

include h12

/-- Every store of a trip of the third loop agrees with `G3`. -/
theorem trip3 (k : Fin k0_t3_loop.trips) :
    ∀ p ∈ tripL_k0_t3 𝒱 c bd i arg2 harg2 arg3 harg3 arg4 harg4 arg5 harg5 arg6 harg6 arg7 harg7 arg8 harg8 arg9 harg9 arg10 harg10 arg11 harg11 arg12 harg12 v23 v28 v33 X3 X4 X5 X6 X7 X12 k, ∀ x : p.1.shape.Idx, p.2 x = G3 v23 v28 v33 (arg3.view.read (Elt Ideal) X3) (arg4.view.read (Elt Ideal) X4) (arg5.view.read (Elt Ideal) X5) (arg6.view.read (Elt Ideal) X6) (arg7.view.read (Elt Ideal) X7) A B (p.1.emb x) := by
  unfold tripL_k0_t3 trip_k0_t3
  dsimp only
  simp only [List.forall_mem_cons]
  refine ⟨?_, ?_, ?_, ?_, ?_, ?_, ?_, ?_, ?_, ?_, ?_, ?_, ?_, ?_, ?_, ?_, fun _ h => absurd h List.not_mem_nil⟩
  all_goals exact fun x => piece3 v23 v28 v33 _ _ _ _ _ _ A B h12 k _ (by decide) _ _ _ x

/-- Every store of the third loop agrees with `G3`. -/
theorem loop3_pieces (n : ℕ) :
    ∀ p ∈ pb_k0_t3 𝒱 c bd i arg2 harg2 arg3 harg3 arg4 harg4 arg5 harg5 arg6 harg6 arg7 harg7 arg8 harg8 arg9 harg9 arg10 harg10 arg11 harg11 arg12 harg12 v23 v28 v33 X3 X4 X5 X6 X7 X12 n, ∀ x : p.1.shape.Idx, p.2 x = G3 v23 v28 v33 (arg3.view.read (Elt Ideal) X3) (arg4.view.read (Elt Ideal) X4) (arg5.view.read (Elt Ideal) X5) (arg6.view.read (Elt Ideal) X6) (arg7.view.read (Elt Ideal) X7) A B (p.1.emb x) := by
  induction n with
  | zero => rw [pb_k0_t3]; exact fun _ h => absurd h List.not_mem_nil
  | succ n ih =>
    by_cases hn : n < k0_t3_loop.trips
    · rw [pb_k0_t3_succ 𝒱 c bd i arg2 harg2 arg3 harg3 arg4 harg4 arg5 harg5 arg6 harg6 arg7 harg7 arg8 harg8 arg9 harg9 arg10 harg10 arg11 harg11 arg12 harg12 v23 v28 v33 X3 X4 X5 X6 X7 X12 ⟨n, hn⟩]
      intro p hp
      rcases List.mem_append.mp hp with h | h
      · exact trip3 𝒱 c bd i arg2 harg2 arg3 harg3 arg4 harg4 arg5 harg5 arg6 harg6 arg7 harg7 arg8 harg8 arg9 harg9 arg10 harg10 arg11 harg11 arg12 harg12 v23 v28 v33 X3 X4 X5 X6 X7 X12 A B h12 ⟨n, hn⟩ p h
      · exact ih p h
    · rw [pb_k0_t3.eq_2]; unfold pb_k0_t3Step; rw [dif_neg hn]; exact ih

/-- The block of outputs after the third loop, whatever it held before. -/
theorem loop3 (f : arg10.view.ty.Contents (Elt Ideal)) :
    arg10.view.read (Elt Ideal) (arg10.view.writes (Elt Ideal) f (pb_k0_t3 𝒱 c bd i arg2 harg2 arg3 harg3 arg4 harg4 arg5 harg5 arg6 harg6 arg7 harg7 arg8 harg8 arg9 harg9 arg10 harg10 arg11 harg11 arg12 harg12 v23 v28 v33 X3 X4 X5 X6 X7 X12 (Scf.trips k0_t3_loop.lb k0_t3_loop.ub k0_t3_loop.st))) = G3 v23 v28 v33 (arg3.view.read (Elt Ideal) X3) (arg4.view.read (Elt Ideal) X4) (arg5.view.read (Elt Ideal) X5) (arg6.view.read (Elt Ideal) X6) (arg7.view.read (Elt Ideal) X7) A B :=
  funext fun y => View.read_writes_apply_of_pieces _ _ _ _ (loop3_pieces 𝒱 c bd i arg2 harg2 arg3 harg3 arg4 harg4 arg5 harg5 arg6 harg6 arg7 harg7 arg8 harg8 arg9 harg9 arg10 harg10 arg11 harg11 arg12 harg12 v23 v28 v33 X3 X4 X5 X6 X7 X12 A B h12 _) y
    (View.cover_of_tiledL (pb_k0_t3 𝒱 c bd i arg2 harg2 arg3 harg3 arg4 harg4 arg5 harg5 arg6 harg6 arg7 harg7 arg8 harg8 arg9 harg9 arg10 harg10 arg11 harg11 arg12 harg12 v23 v28 v33 X3 X4 X5 X6 X7 X12 (Scf.trips k0_t3_loop.lb k0_t3_loop.ub k0_t3_loop.st)) S128x128.size (by sl_kernel_rfl) y)
end
end Cert.KernelIdeal.Val
-- ==== Proof.Retention.Weights.lean ====
module

public import proofs.«01_k».proof.Proof.Gen.KernelIdeal.Frame.Runs
public import Idealize.ShloMosaic.Lib.Pointwise
public import proofs.«01_k».proof.Proof.Retention.Loop3

@[expose] public section
set_option maxRecDepth 16384
noncomputable section
open Idealize.ShloMosaic Idealize.ShloMosaic.TcCoe Idealize.SL.Sem
open Idealize.ShloMosaic.Pipeline (Dat)
namespace Cert.KernelIdeal.Val
open Cert.KernelIdeal Cert.KernelIdeal.Gen
open Cert.Retention

/-- A position as a real. -/
theorem sitofp_pos (n : Fin 128) : (FloatOps.sitofp FTy.f32 (BitVec.ofNat 32 (n : ℕ)) : Ideal .f32) = (((n : ℕ) : ℝ) : EReal) := by
  have h : (BitVec.ofNat 32 (n : ℕ)).toInt = ((n : ℕ) : ℤ) := by
    rw [BitVec.toInt_ofNat']
    have := n.isLt
    simp [Int.bmod]
    omega
  show (((BitVec.ofNat 32 (n : ℕ)).toInt : ℝ) : EReal) = _
  rw [h, Int.cast_natCast]

/-- The literal 127. -/
theorem ofBits127 : Ideal.ofBits .f32 1123942400#32 = ((127 : ℝ) : EReal) := by
  simp [Ideal.ofBits, Ideal.ieee, -EReal.coe_mul]; norm_num

/-- The state's weight of a row, forward. -/
theorem pay98_at (l : Ideal .f32) (n e : Fin 128) : mat (k0_pay98 (F := Ideal) l) n e = xiF l n := by
  show k0_pay98 (F := Ideal) l (ix2 n e) = _
  pointwise [k0_pay98, k0_pay95]
  rw [sitofp_pos]
  rfl
/-- The state's weight of a row, backward. -/
theorem pay99_at (l : Ideal .f32) (n e : Fin 128) : mat (k0_pay99 (F := Ideal) l) n e = xiB l n := by
  show k0_pay99 (F := Ideal) l (ix2 n e) = _
  pointwise [k0_pay99, k0_pay95]
  rw [sitofp_pos, ofBits128]
  rfl
/-- The key's weight in its chunk's sum, forward. -/
theorem pay100_at (l : Ideal .f32) (n e : Fin 128) : (k0_pay100 (F := Ideal) l) (ix2 n e) = zetaF l e := by
  pointwise [k0_pay100, k0_pay96]
  rw [sitofp_pos, ofBits127]
  rfl
/-- The key's weight in its chunk's sum, backward. -/
theorem pay101_at (l : Ideal .f32) (n e : Fin 128) : (k0_pay101 (F := Ideal) l) (ix2 n e) = zetaB l e := by
  pointwise [k0_pay101, k0_pay96]
  rw [sitofp_pos]
  rfl
/-- The decay across a chunk. -/
theorem pay102_at (l : Ideal .f32) (n e : Fin 128) : (k0_pay102 (F := Ideal) l) (ix2 n e) = gam l := by
  pointwise [k0_pay102]
  rw [ofBits128]
  rfl
/-- The larger of a nonnegative real and zero. -/
theorem coe_max_zero (x : ℝ) (h : 0 ≤ x) : max (x : EReal) 0 = (x : EReal) := max_eq_left (EReal.coe_nonneg.mpr h)
/-- The two-sided decay within a chunk. -/
theorem pay97_at (lf lb : Ideal .f32) (n m : Fin 128) : mat (k0_pay97 (F := Ideal) lf lb) n m = decay lf lb n m := by
  show k0_pay97 (F := Ideal) lf lb (ix2 n m) = _
  pointwise [k0_pay97, k0_pay95, k0_pay96]
  rw [sitofp_pos, sitofp_pos]
  have e : ((((n : ℕ) : ℝ) : EReal) - (((m : ℕ) : ℝ) : EReal)) = ((((n : ℕ) - (m : ℕ) : ℝ)) : EReal) := rfl
  rw [e]
  unfold decay
  by_cases h : m ≤ n
  · have h' : (0 : ℝ) ≤ (n : ℕ) - (m : ℕ) := by rw [sub_nonneg]; exact_mod_cast h
    rw [if_pos h, if_pos (EReal.coe_nonneg.mpr h'), coe_max_zero _ h']
  · have h' : ¬ (0 : ℝ) ≤ (n : ℕ) - (m : ℕ) := by rw [sub_nonneg]; exact_mod_cast h
    have h2 : (0 : EReal) - ((((n : ℕ) - (m : ℕ) : ℝ)) : EReal) = ((((m : ℕ) - (n : ℕ) : ℝ)) : EReal) := by
      rw [zero_sub, ← EReal.coe_neg, neg_sub]
    rw [if_neg h, if_neg (fun hh => h' (EReal.coe_nonneg.mp hh)), h2, coe_max_zero _ (by linarith)]

/-- The forward chunk sums are the specification's. -/
theorem updF_eq (l : Ideal .f32) (K V : FVec Ideal S8192x128 .bf16) : updM (k0_pay100 (F := Ideal) l) K V = upd (zetaF l) (ck K) (ck V) := by
  funext c d e
  exact Finset.sum_congr rfl fun m _ => by rw [pay100_at]
/-- The backward chunk sums are the specification's. -/
theorem updB_eq (l : Ideal .f32) (K V : FVec Ideal S8192x128 .bf16) : updM (k0_pay101 (F := Ideal) l) K V = upd (zetaB l) (ck K) (ck V) := by
  funext c d e
  exact Finset.sum_congr rfl fun m _ => by rw [pay101_at]

/-- The outputs with the body's weight matrices are the retention's. -/
theorem outM_eq (lf lb : Ideal .f32) (Q K V G : Chunks) (gn : Fin 128 → EReal) (s0f s0b : Mat) :
    outM (mat (k0_pay97 (F := Ideal) lf lb)) (mat (k0_pay98 (F := Ideal) lf)) (mat (k0_pay99 (F := Ideal) lb)) Q K V G gn
      (fun c => stF lf s0f K V c.val) (fun c => stB lb s0b K V (63 - c.val)) = out lf lb Q K V G gn s0f s0b := by
  funext c n e
  unfold outM out
  congr 3
  funext e
  unfold mixM mix
  congr 1
  · congr 1
    · exact Finset.sum_congr rfl fun m _ => by rw [pay97_at]
    · rw [pay98_at]
  · rw [pay99_at]
end Cert.KernelIdeal.Val
-- ==== Proof.Retention.States.lean ====
module

public import proofs.«01_k».proof.Proof.Gen.KernelIdeal.Frame.Runs
public import Idealize.ShloMosaic.Lib.Pointwise
public import proofs.«01_k».proof.Proof.Retention.Weights

@[expose] public section
set_option maxRecDepth 16384
noncomputable section
open Idealize.ShloMosaic Idealize.ShloMosaic.TcCoe Idealize.SL.Sem
open Idealize.ShloMosaic.Pipeline (Dat)
namespace Cert.KernelIdeal.Val
open Cert.KernelIdeal Cert.KernelIdeal.Gen
open Cert.Retention
section
variable (𝒱 : Variants) (c : Dev nD) (bd : Option 𝒱.V) (i : grid0.Coords) (arg2 : Memref sig .tc .smem S2x8 .f32) (harg2 : arg2.IsWhole)
  (arg3 : Memref sig .tc .vmem S8192x128 .bf16) (harg3 : arg3.IsWhole) (arg4 : Memref sig .tc .vmem S8192x128 .bf16) (harg4 : arg4.IsWhole)
  (arg5 : Memref sig .tc .vmem S8192x128 .bf16) (harg5 : arg5.IsWhole) (arg6 : Memref sig .tc .vmem S8192x128 .bf16) (harg6 : arg6.IsWhole)
  (arg7 : Memref sig .tc .vmem S1x128 .f32) (harg7 : arg7.IsWhole) (arg8 : Memref sig .tc .vmem S1x1x2x128x128 .f32) (harg8 : arg8.IsWhole)
  (arg9 : Memref sig .tc .hbm S33792x1024 .bf16) (harg9 : arg9.IsWhole) (arg10 : Memref sig .tc .vmem S8192x128 .bf16) (harg10 : arg10.IsWhole)
  (arg11 : Memref sig .tc .vmem S1x1x2x128x128 .f32) (harg11 : arg11.IsWhole) (arg12 : Memref sig .tc .vmem S64x128x256 .f32) (harg12 : arg12.IsWhole)
  (lf lb : Ideal .f32) (s0f s0b : FVec Ideal S128x128 .f32) (X4 : arg4.view.ty.Contents (Elt Ideal)) (X5 : arg5.view.ty.Contents (Elt Ideal)) (fs0 : arg12.view.ty.Contents (Elt Ideal))

/-- The decay across a chunk, as the body computes it. -/
theorem gam_eq (l : Ideal .f32) : Ideal.exp (l * Ideal.ofBits .f32 1124073472#32) = gam l := by rw [ofBits128]; rfl

/-- After the first two loops: the final states, and in the scratch the states before (forward) and after (backward) each chunk. -/
theorem after2 :
    mat (st_k0_t2 𝒱 c bd i arg2 harg2 arg3 harg3 arg4 harg4 arg5 harg5 arg6 harg6 arg7 harg7 arg8 harg8 arg9 harg9 arg10 harg10 arg11 harg11 arg12 harg12 lb (k0_pay102 (F := Ideal) lf) (arg12.view.writes (Elt Ideal) fs0 (pb_k0_t1 𝒱 c bd i arg2 harg2 arg3 harg3 arg4 harg4 arg5 harg5 arg6 harg6 arg7 harg7 arg8 harg8 arg9 harg9 arg10 harg10 arg11 harg11 arg12 harg12 (k0_pay100 (F := Ideal) lf) (k0_pay101 (F := Ideal) lb) X4 X5 (Scf.trips k0_t1_loop.lb k0_t1_loop.ub k0_t1_loop.st))) (s0f, s0b) (Scf.trips k0_t2_loop.lb k0_t2_loop.ub k0_t2_loop.st)).1.1 = stF lf (mat s0f) (ck (arg4.view.read (Elt Ideal) X4)) (ck (arg5.view.read (Elt Ideal) X5)) 64
    ∧ mat (st_k0_t2 𝒱 c bd i arg2 harg2 arg3 harg3 arg4 harg4 arg5 harg5 arg6 harg6 arg7 harg7 arg8 harg8 arg9 harg9 arg10 harg10 arg11 harg11 arg12 harg12 lb (k0_pay102 (F := Ideal) lf) (arg12.view.writes (Elt Ideal) fs0 (pb_k0_t1 𝒱 c bd i arg2 harg2 arg3 harg3 arg4 harg4 arg5 harg5 arg6 harg6 arg7 harg7 arg8 harg8 arg9 harg9 arg10 harg10 arg11 harg11 arg12 harg12 (k0_pay100 (F := Ideal) lf) (k0_pay101 (F := Ideal) lb) X4 X5 (Scf.trips k0_t1_loop.lb k0_t1_loop.ub k0_t1_loop.st))) (s0f, s0b) (Scf.trips k0_t2_loop.lb k0_t2_loop.ub k0_t2_loop.st)).1.2 = stB lb (mat s0b) (ck (arg4.view.read (Elt Ideal) X4)) (ck (arg5.view.read (Elt Ideal) X5)) 64
    ∧ arg12.view.read (Elt Ideal) (arg12.view.writes (Elt Ideal) fs0 ((st_k0_t2 𝒱 c bd i arg2 harg2 arg3 harg3 arg4 harg4 arg5 harg5 arg6 harg6 arg7 harg7 arg8 harg8 arg9 harg9 arg10 harg10 arg11 harg11 arg12 harg12 lb (k0_pay102 (F := Ideal) lf) (arg12.view.writes (Elt Ideal) fs0 (pb_k0_t1 𝒱 c bd i arg2 harg2 arg3 harg3 arg4 harg4 arg5 harg5 arg6 harg6 arg7 harg7 arg8 harg8 arg9 harg9 arg10 harg10 arg11 harg11 arg12 harg12 (k0_pay100 (F := Ideal) lf) (k0_pay101 (F := Ideal) lb) X4 X5 (Scf.trips k0_t1_loop.lb k0_t1_loop.ub k0_t1_loop.st))) (s0f, s0b) (Scf.trips k0_t2_loop.lb k0_t2_loop.ub k0_t2_loop.st)).2 ++ (pb_k0_t1 𝒱 c bd i arg2 harg2 arg3 harg3 arg4 harg4 arg5 harg5 arg6 harg6 arg7 harg7 arg8 harg8 arg9 harg9 arg10 harg10 arg11 harg11 arg12 harg12 (k0_pay100 (F := Ideal) lf) (k0_pay101 (F := Ideal) lb) X4 X5 (Scf.trips k0_t1_loop.lb k0_t1_loop.ub k0_t1_loop.st))))
        = lanes (fun c => stF lf (mat s0f) (ck (arg4.view.read (Elt Ideal) X4)) (ck (arg5.view.read (Elt Ideal) X5)) c.val) (fun c => stB lb (mat s0b) (ck (arg4.view.read (Elt Ideal) X4)) (ck (arg5.view.read (Elt Ideal) X5)) (63 - c.val)) := by
  have ht : Scf.trips k0_t2_loop.lb k0_t2_loop.ub k0_t2_loop.st = 64 := by decide +kernel
  rw [ht]
  have h1 := loop1 𝒱 c bd i arg2 harg2 arg3 harg3 arg4 harg4 arg5 harg5 arg6 harg6 arg7 harg7 arg8 harg8 arg9 harg9 arg10 harg10 arg11 harg11 arg12 harg12 (k0_pay100 (F := Ideal) lf) (k0_pay101 (F := Ideal) lb) X4 X5 fs0
  rw [G1, updF_eq, updB_eq] at h1
  obtain ⟨ha, hb, hs⟩ := loop2_at 𝒱 c bd i arg2 harg2 arg3 harg3 arg4 harg4 arg5 harg5 arg6 harg6 arg7 harg7 arg8 harg8 arg9 harg9 arg10 harg10 arg11 harg11 arg12 harg12 lb (k0_pay102 (F := Ideal) lf) _ (s0f, s0b) (gam lf) (pay102_at lf) _ _ h1 64 le_rfl
  rw [gam_eq] at hb hs
  refine ⟨ha, hb, ?_⟩
  rw [View.writes_append, hs]
  have e1 (SF : ℕ → Mat) (P : Chunks) : lo SF P 64 = fun c => SF c.val := funext fun c => if_pos c.isLt
  have e2 (SF : ℕ → Mat) (P : Chunks) : hi SF P 64 = fun c => SF (63 - c.val) := funext fun c => if_pos (by omega)
  rw [e1, e2]
  rfl
end
end Cert.KernelIdeal.Val
-- ==== Proof.Retention.Final.lean ====
module

public import proofs.«01_k».proof.Proof.Gen.KernelIdeal.Frame.Runs
public import Idealize.ShloMosaic.Lib.Pointwise
public import proofs.«01_k».proof.Proof.Retention.States

@[expose] public section
set_option maxRecDepth 16384
noncomputable section
open Idealize.ShloMosaic Idealize.ShloMosaic.TcCoe Idealize.SL.Sem
open Idealize.ShloMosaic.Pipeline (Dat)
namespace Cert.KernelIdeal.Val
open Cert.KernelIdeal Cert.KernelIdeal.Gen
open Cert.Retention

/-- The log decay of a head, in the given row of the decays. -/
def lgAt (x0 : Vec Ideal S2x8 .f32) (r : Fin 2) (h : Fin 8) : EReal := x0 (ix2 r h)
/-- The initial state of a block, in the given direction. -/
def s0At (x6 : Vec Ideal S1x1x2x128x128 .f32) (r : Fin 2) : Mat := fun d e => x6 (ix5 0 0 r d e)

/-- The block of outputs a grid point leaves. -/
def OUT7 (i : grid0.Coords) (x0 : Vec Ideal S2x8 .f32) (x1 x2 x3 x4 : Vec Ideal S8192x128 .bf16) (x5 : Vec Ideal S1x128 .f32) (x6 : Vec Ideal S1x1x2x128x128 .f32) :
    Vec Ideal S8192x128 .bf16 :=
  rows (out (lgAt x0 0 (i 1)) (lgAt x0 1 (i 1)) (ck x1) (ck x2) (ck x3) (ck x4) (fun e => x5 (ix2 0 e)) (s0At x6 0) (s0At x6 1))

/-- The two final states, one after the other. -/
def pair (a b : Mat) : Vec Ideal S1x1x2x128x128 .f32 := fun y => if (y 2).val = 0 then a (y 3) (y 4) else b (y 3) (y 4)

/-- The two final states a grid point leaves. -/
def OUT8 (i : grid0.Coords) (x0 : Vec Ideal S2x8 .f32) (x2 x3 : Vec Ideal S8192x128 .bf16) (x6 : Vec Ideal S1x1x2x128x128 .f32) :
    Vec Ideal S1x1x2x128x128 .f32 :=
  pair (stF (lgAt x0 0 (i 1)) (s0At x6 0) (ck x2) (ck x3) 64) (stB (lgAt x0 1 (i 1)) (s0At x6 1) (ck x2) (ck x3) 64)

/-- The head's log decay of the forward direction, as the body loads it. -/
theorem lg0 (w : Vec Ideal S2x8 .f32) (i : grid0.Coords) (inb : ∀ a : Fin 2, k0_off1 i a + S1x1.size a ≤ S2x8.size a) (x : S1x1.Idx) :
    View.ld (Val := Elt Ideal) (e' := .f32) w (Rect.unit (s := S2x8) (k0_off1 i) S1x1.size inb) x = lgAt w 0 (i 1) := by
  idx_vars x
  refine ld_unit (e := .f32) _ _ _ _ _ _ _ (k0_off1_eq i) fun a => ?_
  match a with
  | ⟨0, _⟩ => show 0 = 0 + x0.val; omega
  | ⟨1, _⟩ => show (i 1).val = (i 1).val + x1.val; omega

/-- The head's log decay of the backward direction, as the body loads it. -/
theorem lg1 (w : Vec Ideal S2x8 .f32) (i : grid0.Coords) (inb : ∀ a : Fin 2, k0_off2 i a + S1x1.size a ≤ S2x8.size a) (x : S1x1.Idx) :
    View.ld (Val := Elt Ideal) (e' := .f32) w (Rect.unit (s := S2x8) (k0_off2 i) S1x1.size inb) x = lgAt w 1 (i 1) := by
  idx_vars x
  refine ld_unit (e := .f32) _ _ _ _ _ _ _ (k0_off2_eq i) fun a => ?_
  match a with
  | ⟨0, _⟩ => show 1 = 1 + x0.val; omega
  | ⟨1, _⟩ => show (i 1).val = (i 1).val + x1.val; omega

/-- The head's incoming state of the forward direction, as the body loads it. -/
theorem s00 (x6 : Vec Ideal S1x1x2x128x128 .f32) (inb : ∀ a : Fin 5, (![0, 0, 0, 0, 0] : Fin 5 → ℕ) a + S1x1x1x128x128.size a ≤ S1x1x2x128x128.size a) :
    mat (k0_pay2 (View.ld (Val := Elt Ideal) (e' := .f32) x6 (Rect.unit (s := S1x1x2x128x128) ![0, 0, 0, 0, 0] S1x1x1x128x128.size inb))) = s0At x6 0 := by
  funext d e
  have h (v : Vec Ideal S1x1x1x128x128 .f32) : k0_pay2 v (ix2 d e) = v (ix5 0 0 0 d e) := by pointwise [k0_pay2]
  refine (h _).trans (ld_unit (e := .f32) _ _ _ _ _ _ _ rfl fun a => ?_)
  match a with
  | ⟨0, _⟩ => rfl
  | ⟨1, _⟩ => rfl
  | ⟨2, _⟩ => rfl
  | ⟨3, _⟩ => show d.val = 0 + d.val; omega
  | ⟨4, _⟩ => show e.val = 0 + e.val; omega

/-- The head's incoming state of the backward direction, as the body loads it. -/
theorem s01 (x6 : Vec Ideal S1x1x2x128x128 .f32) (inb : ∀ a : Fin 5, (![0, 0, 1, 0, 0] : Fin 5 → ℕ) a + S1x1x1x128x128.size a ≤ S1x1x2x128x128.size a) :
    mat (k0_pay3 (View.ld (Val := Elt Ideal) (e' := .f32) x6 (Rect.unit (s := S1x1x2x128x128) ![0, 0, 1, 0, 0] S1x1x1x128x128.size inb))) = s0At x6 1 := by
  funext d e
  have h (v : Vec Ideal S1x1x1x128x128 .f32) : k0_pay3 v (ix2 d e) = v (ix5 0 0 0 d e) := by pointwise [k0_pay3]
  refine (h _).trans (ld_unit (e := .f32) _ _ _ _ _ _ _ rfl fun a => ?_)
  match a with
  | ⟨0, _⟩ => rfl
  | ⟨1, _⟩ => rfl
  | ⟨2, _⟩ => rfl
  | ⟨3, _⟩ => show d.val = 0 + d.val; omega
  | ⟨4, _⟩ => show e.val = 0 + e.val; omega

/-- The block of the two final states after its two stores. -/
theorem stores8 (v : View sig .tc .vmem S1x1x2x128x128 .f32) (f : v.ty.Contents (Elt Ideal)) (a b : FVec Ideal S128x128 .f32)
    (inb : ∀ a : Fin 5, (![0, 0, 0, 0, 0] : Fin 5 → ℕ) a + S1x1x1x128x128.size a ≤ S1x1x2x128x128.size a)
    (inb' : ∀ a : Fin 5, (![0, 0, 1, 0, 0] : Fin 5 → ℕ) a + S1x1x1x128x128.size a ≤ S1x1x2x128x128.size a) :
    v.read (Elt Ideal) (v.writes (Elt Ideal) f
      [⟨Rect.unit (s := S1x1x2x128x128) ![0, 0, 1, 0, 0] S1x1x1x128x128.size inb', k0_pay9 b⟩,
       ⟨Rect.unit (s := S1x1x2x128x128) ![0, 0, 0, 0, 0] S1x1x1x128x128.size inb, k0_pay8 a⟩]) = pair (mat a) (mat b) := by
  have h8 (d e : Fin 128) (j0 j1 j2 : Fin 1) : k0_pay8 a (ix5 j0 j1 j2 d e) = a (ix2 d e) := by pointwise [k0_pay8]
  have h9 (d e : Fin 128) (j0 j1 j2 : Fin 1) : k0_pay9 b (ix5 j0 j1 j2 d e) = b (ix2 d e) := by pointwise [k0_pay9]
  funext y
  idx_vars y
  by_cases hy : y2.val = 0
  · rw [View.read_writes_cons_miss_of_axis v f _ _ _ (2 : Fin 5) 1 1 rfl rfl rfl (Or.inl (by show y2.val < 1; omega))]
    refine (View.read_writes_cons_hit v f _ _ _ (ix5 0 0 0 y3 y4) _ (emb_unit _ _ _ _ _ _ rfl fun a => ?_)).trans ((h8 _ _ _ _ _).trans (if_pos hy).symm)
    match a with
    | ⟨0, _⟩ => show y0.val = 0 + 0; omega
    | ⟨1, _⟩ => show y1.val = 0 + 0; omega
    | ⟨2, _⟩ => show y2.val = 0 + 0; omega
    | ⟨3, _⟩ => show y3.val = 0 + y3.val; omega
    | ⟨4, _⟩ => show y4.val = 0 + y4.val; omega
  · refine (View.read_writes_cons_hit v f _ _ _ (ix5 0 0 0 y3 y4) _ (emb_unit _ _ _ _ _ _ rfl fun a => ?_)).trans ((h9 _ _ _ _ _).trans (if_neg hy).symm)
    match a with
    | ⟨0, _⟩ => show y0.val = 0 + 0; omega
    | ⟨1, _⟩ => show y1.val = 0 + 0; omega
    | ⟨2, _⟩ => show y2.val = 1 + 0; omega
    | ⟨3, _⟩ => show y3.val = 0 + y3.val; omega
    | ⟨4, _⟩ => show y4.val = 0 + y4.val; omega

section
variable (𝒱 : Variants) (c : Dev nD) (bd : Option 𝒱.V) (i : grid0.Coords) (arg2 : Memref sig .tc .smem S2x8 .f32) (harg2 : arg2.IsWhole)
  (arg3 : Memref sig .tc .vmem S8192x128 .bf16) (harg3 : arg3.IsWhole) (arg4 : Memref sig .tc .vmem S8192x128 .bf16) (harg4 : arg4.IsWhole)
  (arg5 : Memref sig .tc .vmem S8192x128 .bf16) (harg5 : arg5.IsWhole) (arg6 : Memref sig .tc .vmem S8192x128 .bf16) (harg6 : arg6.IsWhole)
  (arg7 : Memref sig .tc .vmem S1x128 .f32) (harg7 : arg7.IsWhole) (arg8 : Memref sig .tc .vmem S1x1x2x128x128 .f32) (harg8 : arg8.IsWhole)
  (arg9 : Memref sig .tc .hbm S33792x1024 .bf16) (harg9 : arg9.IsWhole) (arg10 : Memref sig .tc .vmem S8192x128 .bf16) (harg10 : arg10.IsWhole)
  (arg11 : Memref sig .tc .vmem S1x1x2x128x128 .f32) (harg11 : arg11.IsWhole) (arg12 : Memref sig .tc .vmem S64x128x256 .f32) (harg12 : arg12.IsWhole)
  (lf lb : Ideal .f32) (v53 v55 : Vec Ideal S1x1x1x128x128 .f32) (X3 : arg3.view.ty.Contents (Elt Ideal)) (X4 : arg4.view.ty.Contents (Elt Ideal)) (X5 : arg5.view.ty.Contents (Elt Ideal))
  (X6 : arg6.view.ty.Contents (Elt Ideal)) (X7 : arg7.view.ty.Contents (Elt Ideal)) (fs0 : arg12.view.ty.Contents (Elt Ideal)) (f7 : arg10.view.ty.Contents (Elt Ideal))

/-- The block of outputs after the three loops. -/
theorem final7 :
    arg10.view.read (Elt Ideal) (arg10.view.writes (Elt Ideal) f7 (pb_k0_t3 𝒱 c bd i arg2 harg2 arg3 harg3 arg4 harg4 arg5 harg5 arg6 harg6 arg7 harg7 arg8 harg8 arg9 harg9 arg10 harg10 arg11 harg11 arg12 harg12 (k0_pay97 lf lb) (k0_pay98 lf) (k0_pay99 lb) X3 X4 X5 X6 X7
      (arg12.view.writes (Elt Ideal) fs0 ((st_k0_t2 𝒱 c bd i arg2 harg2 arg3 harg3 arg4 harg4 arg5 harg5 arg6 harg6 arg7 harg7 arg8 harg8 arg9 harg9 arg10 harg10 arg11 harg11 arg12 harg12 lb (k0_pay102 (F := Ideal) lf) (arg12.view.writes (Elt Ideal) fs0 (pb_k0_t1 𝒱 c bd i arg2 harg2 arg3 harg3 arg4 harg4 arg5 harg5 arg6 harg6 arg7 harg7 arg8 harg8 arg9 harg9 arg10 harg10 arg11 harg11 arg12 harg12 (k0_pay100 (F := Ideal) lf) (k0_pay101 (F := Ideal) lb) X4 X5 (Scf.trips k0_t1_loop.lb k0_t1_loop.ub k0_t1_loop.st))) (k0_pay2 v53, k0_pay3 v55) (Scf.trips k0_t2_loop.lb k0_t2_loop.ub k0_t2_loop.st)).2 ++ (pb_k0_t1 𝒱 c bd i arg2 harg2 arg3 harg3 arg4 harg4 arg5 harg5 arg6 harg6 arg7 harg7 arg8 harg8 arg9 harg9 arg10 harg10 arg11 harg11 arg12 harg12 (k0_pay100 (F := Ideal) lf) (k0_pay101 (F := Ideal) lb) X4 X5 (Scf.trips k0_t1_loop.lb k0_t1_loop.ub k0_t1_loop.st)))) (Scf.trips k0_t3_loop.lb k0_t3_loop.ub k0_t3_loop.st)))
      = rows (out lf lb (ck (arg3.view.read (Elt Ideal) X3)) (ck (arg4.view.read (Elt Ideal) X4)) (ck (arg5.view.read (Elt Ideal) X5)) (ck (arg6.view.read (Elt Ideal) X6)) (fun e => arg7.view.read (Elt Ideal) X7 (ix2 0 e))
          (mat (k0_pay2 v53)) (mat (k0_pay3 v55))) := by
  rw [loop3 𝒱 c bd i arg2 harg2 arg3 harg3 arg4 harg4 arg5 harg5 arg6 harg6 arg7 harg7 arg8 harg8 arg9 harg9 arg10 harg10 arg11 harg11 arg12 harg12 _ _ _ X3 X4 X5 X6 X7 _ _ _ (after2 𝒱 c bd i arg2 harg2 arg3 harg3 arg4 harg4 arg5 harg5 arg6 harg6 arg7 harg7 arg8 harg8 arg9 harg9 arg10 harg10 arg11 harg11 arg12 harg12 lf lb (k0_pay2 v53) (k0_pay3 v55) X4 X5 fs0).2.2 f7, G3, outM_eq]

variable (X2 : arg2.view.ty.Contents (Elt Ideal)) (X8 : arg8.view.ty.Contents (Elt Ideal)) (j : S1x1.Idx)
  (x0 : Vec Ideal S2x8 .f32) (x1 x2 x3 x4 : Vec Ideal S8192x128 .bf16) (x5 : Vec Ideal S1x128 .f32) (x6 : Vec Ideal S1x1x2x128x128 .f32)
  (hx0 : arg2.view.read (Elt Ideal) X2 = x0) (hx1 : arg3.view.read (Elt Ideal) X3 = x1) (hx2 : arg4.view.read (Elt Ideal) X4 = x2)
  (hx3 : arg5.view.read (Elt Ideal) X5 = x3) (hx4 : arg6.view.read (Elt Ideal) X6 = x4) (hx5 : arg7.view.read (Elt Ideal) X7 = x5)
  (hx6 : arg8.view.read (Elt Ideal) X8 = x6)
include hx0 hx2 hx3 hx6

/-- The block of final states after the loops, its values read from the blocks. -/
theorem leaves8 (f : arg11.view.ty.Contents (Elt Ideal)) :
    arg11.view.read (Elt Ideal) (arg11.view.writes (Elt Ideal) f
      [⟨Rect.unit (s := S1x1x2x128x128) ![0, 0, 1, 0, 0] S1x1x1x128x128.size inb_S1x1x2x128x128_S1x1x1x128x128_0_0_1_0_0, k0_pay9 (st_k0_t2 𝒱 c bd i arg2 harg2 arg3 harg3 arg4 harg4 arg5 harg5 arg6 harg6 arg7 harg7 arg8 harg8 arg9 harg9 arg10 harg10 arg11 harg11 arg12 harg12 (View.ld (Val := Elt Ideal) (e' := .f32) (arg2.view.read (Elt Ideal) X2) (Rect.unit (s := S2x8) (k0_off2 i) S1x1.size (k0_off2_inb i)) j) (k0_pay102 (F := Ideal) (View.ld (Val := Elt Ideal) (e' := .f32) (arg2.view.read (Elt Ideal) X2) (Rect.unit (s := S2x8) (k0_off1 i) S1x1.size (k0_off1_inb i)) j)) (arg12.view.writes (Elt Ideal) fs0 (pb_k0_t1 𝒱 c bd i arg2 harg2 arg3 harg3 arg4 harg4 arg5 harg5 arg6 harg6 arg7 harg7 arg8 harg8 arg9 harg9 arg10 harg10 arg11 harg11 arg12 harg12 (k0_pay100 (F := Ideal) (View.ld (Val := Elt Ideal) (e' := .f32) (arg2.view.read (Elt Ideal) X2) (Rect.unit (s := S2x8) (k0_off1 i) S1x1.size (k0_off1_inb i)) j)) (k0_pay101 (F := Ideal) (View.ld (Val := Elt Ideal) (e' := .f32) (arg2.view.read (Elt Ideal) X2) (Rect.unit (s := S2x8) (k0_off2 i) S1x1.size (k0_off2_inb i)) j)) X4 X5 (Scf.trips k0_t1_loop.lb k0_t1_loop.ub k0_t1_loop.st))) (k0_pay2 (View.ld (Val := Elt Ideal) (e' := .f32) (arg8.view.read (Elt Ideal) X8) (Rect.unit (s := S1x1x2x128x128) ![0, 0, 0, 0, 0] S1x1x1x128x128.size inb_S1x1x2x128x128_S1x1x1x128x128_0_0_0_0_0)), k0_pay3 (View.ld (Val := Elt Ideal) (e' := .f32) (arg8.view.read (Elt Ideal) X8) (Rect.unit (s := S1x1x2x128x128) ![0, 0, 1, 0, 0] S1x1x1x128x128.size inb_S1x1x2x128x128_S1x1x1x128x128_0_0_1_0_0))) (Scf.trips k0_t2_loop.lb k0_t2_loop.ub k0_t2_loop.st)).1.2⟩,
       ⟨Rect.unit (s := S1x1x2x128x128) ![0, 0, 0, 0, 0] S1x1x1x128x128.size inb_S1x1x2x128x128_S1x1x1x128x128_0_0_0_0_0, k0_pay8 (st_k0_t2 𝒱 c bd i arg2 harg2 arg3 harg3 arg4 harg4 arg5 harg5 arg6 harg6 arg7 harg7 arg8 harg8 arg9 harg9 arg10 harg10 arg11 harg11 arg12 harg12 (View.ld (Val := Elt Ideal) (e' := .f32) (arg2.view.read (Elt Ideal) X2) (Rect.unit (s := S2x8) (k0_off2 i) S1x1.size (k0_off2_inb i)) j) (k0_pay102 (F := Ideal) (View.ld (Val := Elt Ideal) (e' := .f32) (arg2.view.read (Elt Ideal) X2) (Rect.unit (s := S2x8) (k0_off1 i) S1x1.size (k0_off1_inb i)) j)) (arg12.view.writes (Elt Ideal) fs0 (pb_k0_t1 𝒱 c bd i arg2 harg2 arg3 harg3 arg4 harg4 arg5 harg5 arg6 harg6 arg7 harg7 arg8 harg8 arg9 harg9 arg10 harg10 arg11 harg11 arg12 harg12 (k0_pay100 (F := Ideal) (View.ld (Val := Elt Ideal) (e' := .f32) (arg2.view.read (Elt Ideal) X2) (Rect.unit (s := S2x8) (k0_off1 i) S1x1.size (k0_off1_inb i)) j)) (k0_pay101 (F := Ideal) (View.ld (Val := Elt Ideal) (e' := .f32) (arg2.view.read (Elt Ideal) X2) (Rect.unit (s := S2x8) (k0_off2 i) S1x1.size (k0_off2_inb i)) j)) X4 X5 (Scf.trips k0_t1_loop.lb k0_t1_loop.ub k0_t1_loop.st))) (k0_pay2 (View.ld (Val := Elt Ideal) (e' := .f32) (arg8.view.read (Elt Ideal) X8) (Rect.unit (s := S1x1x2x128x128) ![0, 0, 0, 0, 0] S1x1x1x128x128.size inb_S1x1x2x128x128_S1x1x1x128x128_0_0_0_0_0)), k0_pay3 (View.ld (Val := Elt Ideal) (e' := .f32) (arg8.view.read (Elt Ideal) X8) (Rect.unit (s := S1x1x2x128x128) ![0, 0, 1, 0, 0] S1x1x1x128x128.size inb_S1x1x2x128x128_S1x1x1x128x128_0_0_1_0_0))) (Scf.trips k0_t2_loop.lb k0_t2_loop.ub k0_t2_loop.st)).1.1⟩])
      = OUT8 i x0 x2 x3 x6 := by
  obtain ⟨ha, hb, -⟩ := after2 𝒱 c bd i arg2 harg2 arg3 harg3 arg4 harg4 arg5 harg5 arg6 harg6 arg7 harg7 arg8 harg8 arg9 harg9 arg10 harg10 arg11 harg11 arg12 harg12 (View.ld (Val := Elt Ideal) (e' := .f32) (arg2.view.read (Elt Ideal) X2) (Rect.unit (s := S2x8) (k0_off1 i) S1x1.size (k0_off1_inb i)) j) (View.ld (Val := Elt Ideal) (e' := .f32) (arg2.view.read (Elt Ideal) X2) (Rect.unit (s := S2x8) (k0_off2 i) S1x1.size (k0_off2_inb i)) j) (k0_pay2 (View.ld (Val := Elt Ideal) (e' := .f32) (arg8.view.read (Elt Ideal) X8) (Rect.unit (s := S1x1x2x128x128) ![0, 0, 0, 0, 0] S1x1x1x128x128.size inb_S1x1x2x128x128_S1x1x1x128x128_0_0_0_0_0))) (k0_pay3 (View.ld (Val := Elt Ideal) (e' := .f32) (arg8.view.read (Elt Ideal) X8) (Rect.unit (s := S1x1x2x128x128) ![0, 0, 1, 0, 0] S1x1x1x128x128.size inb_S1x1x2x128x128_S1x1x1x128x128_0_0_1_0_0))) X4 X5 fs0
  refine (stores8 arg11.view f _ _ _ _).trans ?_
  rw [ha, hb, hx2, hx3, hx0, hx6, lg0, lg1, s00, s01]
  rfl

include hx1 hx4 hx5
/-- The block of outputs after the three loops, its values read from the blocks. -/
theorem leaves7 :
    arg10.view.read (Elt Ideal) (arg10.view.writes (Elt Ideal) f7 (pb_k0_t3 𝒱 c bd i arg2 harg2 arg3 harg3 arg4 harg4 arg5 harg5 arg6 harg6 arg7 harg7 arg8 harg8 arg9 harg9 arg10 harg10 arg11 harg11 arg12 harg12 (k0_pay97 (View.ld (Val := Elt Ideal) (e' := .f32) (arg2.view.read (Elt Ideal) X2) (Rect.unit (s := S2x8) (k0_off1 i) S1x1.size (k0_off1_inb i)) j) (View.ld (Val := Elt Ideal) (e' := .f32) (arg2.view.read (Elt Ideal) X2) (Rect.unit (s := S2x8) (k0_off2 i) S1x1.size (k0_off2_inb i)) j)) (k0_pay98 (View.ld (Val := Elt Ideal) (e' := .f32) (arg2.view.read (Elt Ideal) X2) (Rect.unit (s := S2x8) (k0_off1 i) S1x1.size (k0_off1_inb i)) j)) (k0_pay99 (View.ld (Val := Elt Ideal) (e' := .f32) (arg2.view.read (Elt Ideal) X2) (Rect.unit (s := S2x8) (k0_off2 i) S1x1.size (k0_off2_inb i)) j)) X3 X4 X5 X6 X7
      (arg12.view.writes (Elt Ideal) fs0 ((st_k0_t2 𝒱 c bd i arg2 harg2 arg3 harg3 arg4 harg4 arg5 harg5 arg6 harg6 arg7 harg7 arg8 harg8 arg9 harg9 arg10 harg10 arg11 harg11 arg12 harg12 (View.ld (Val := Elt Ideal) (e' := .f32) (arg2.view.read (Elt Ideal) X2) (Rect.unit (s := S2x8) (k0_off2 i) S1x1.size (k0_off2_inb i)) j) (k0_pay102 (F := Ideal) (View.ld (Val := Elt Ideal) (e' := .f32) (arg2.view.read (Elt Ideal) X2) (Rect.unit (s := S2x8) (k0_off1 i) S1x1.size (k0_off1_inb i)) j)) (arg12.view.writes (Elt Ideal) fs0 (pb_k0_t1 𝒱 c bd i arg2 harg2 arg3 harg3 arg4 harg4 arg5 harg5 arg6 harg6 arg7 harg7 arg8 harg8 arg9 harg9 arg10 harg10 arg11 harg11 arg12 harg12 (k0_pay100 (F := Ideal) (View.ld (Val := Elt Ideal) (e' := .f32) (arg2.view.read (Elt Ideal) X2) (Rect.unit (s := S2x8) (k0_off1 i) S1x1.size (k0_off1_inb i)) j)) (k0_pay101 (F := Ideal) (View.ld (Val := Elt Ideal) (e' := .f32) (arg2.view.read (Elt Ideal) X2) (Rect.unit (s := S2x8) (k0_off2 i) S1x1.size (k0_off2_inb i)) j)) X4 X5 (Scf.trips k0_t1_loop.lb k0_t1_loop.ub k0_t1_loop.st))) (k0_pay2 (View.ld (Val := Elt Ideal) (e' := .f32) (arg8.view.read (Elt Ideal) X8) (Rect.unit (s := S1x1x2x128x128) ![0, 0, 0, 0, 0] S1x1x1x128x128.size inb_S1x1x2x128x128_S1x1x1x128x128_0_0_0_0_0)), k0_pay3 (View.ld (Val := Elt Ideal) (e' := .f32) (arg8.view.read (Elt Ideal) X8) (Rect.unit (s := S1x1x2x128x128) ![0, 0, 1, 0, 0] S1x1x1x128x128.size inb_S1x1x2x128x128_S1x1x1x128x128_0_0_1_0_0))) (Scf.trips k0_t2_loop.lb k0_t2_loop.ub k0_t2_loop.st)).2 ++ (pb_k0_t1 𝒱 c bd i arg2 harg2 arg3 harg3 arg4 harg4 arg5 harg5 arg6 harg6 arg7 harg7 arg8 harg8 arg9 harg9 arg10 harg10 arg11 harg11 arg12 harg12 (k0_pay100 (F := Ideal) (View.ld (Val := Elt Ideal) (e' := .f32) (arg2.view.read (Elt Ideal) X2) (Rect.unit (s := S2x8) (k0_off1 i) S1x1.size (k0_off1_inb i)) j)) (k0_pay101 (F := Ideal) (View.ld (Val := Elt Ideal) (e' := .f32) (arg2.view.read (Elt Ideal) X2) (Rect.unit (s := S2x8) (k0_off2 i) S1x1.size (k0_off2_inb i)) j)) X4 X5 (Scf.trips k0_t1_loop.lb k0_t1_loop.ub k0_t1_loop.st)))) (Scf.trips k0_t3_loop.lb k0_t3_loop.ub k0_t3_loop.st)))
      = OUT7 i x0 x1 x2 x3 x4 x5 x6 := by
  refine (final7 𝒱 c bd i arg2 harg2 arg3 harg3 arg4 harg4 arg5 harg5 arg6 harg6 arg7 harg7 arg8 harg8 arg9 harg9 arg10 harg10 arg11 harg11 arg12 harg12 (View.ld (Val := Elt Ideal) (e' := .f32) (arg2.view.read (Elt Ideal) X2) (Rect.unit (s := S2x8) (k0_off1 i) S1x1.size (k0_off1_inb i)) j) (View.ld (Val := Elt Ideal) (e' := .f32) (arg2.view.read (Elt Ideal) X2) (Rect.unit (s := S2x8) (k0_off2 i) S1x1.size (k0_off2_inb i)) j) (View.ld (Val := Elt Ideal) (e' := .f32) (arg8.view.read (Elt Ideal) X8) (Rect.unit (s := S1x1x2x128x128) ![0, 0, 0, 0, 0] S1x1x1x128x128.size inb_S1x1x2x128x128_S1x1x1x128x128_0_0_0_0_0)) (View.ld (Val := Elt Ideal) (e' := .f32) (arg8.view.read (Elt Ideal) X8) (Rect.unit (s := S1x1x2x128x128) ![0, 0, 1, 0, 0] S1x1x1x128x128.size inb_S1x1x2x128x128_S1x1x1x128x128_0_0_1_0_0)) X3 X4 X5 X6 X7 fs0 f7).trans ?_
  rw [hx0, hx1, hx2, hx3, hx4, hx5, hx6, lg0, lg1, s00, s01]
  rfl
end
end Cert.KernelIdeal.Val
-- ==== Proof.Retention.Body.lean ====
module

public import proofs.«01_k».proof.Proof.Gen.KernelIdeal.Frame.Runs
public import Idealize.ShloMosaic.Lib.Pointwise
public import proofs.«01_k».proof.Proof.Retention.Final

@[expose] public section
set_option maxRecDepth 16384
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
namespace Cert.KernelIdeal.Val
open Cert.KernelIdeal Cert.KernelIdeal.Gen
local notation "𝕄" => MT nD τ sig Unit (Elt Ideal) ℕ (UR sig nD τ) ℕ

open Cert.Retention

set_option maxHeartbeats 1000000 in
/-- The body at a grid point, at ideal floats: from the windows' buffers it runs to its end and leaves the outputs at `OUT7` and `OUT8`. -/
theorem body (c : Dev nD) (i : grid0.Coords) (arg2 : Memref sig .tc .smem S2x8 .f32) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S1x128 .f32) (harg7 : arg7.IsWhole) (arg8 : Memref sig .tc .vmem S1x1x2x128x128 .f32) (harg8 : arg8.IsWhole) (arg10 : Memref sig .tc .vmem S8192x128 .bf16) (harg10 : arg10.IsWhole) (arg11 : Memref sig .tc .vmem S1x1x2x128x128 .f32) (harg11 : arg11.IsWhole) (arg12 : Memref sig .tc .vmem S64x128x256 .f32) (harg12 : arg12.IsWhole)
    (x0 : Vec Ideal S2x8 .f32) (x1 : Vec Ideal S8192x128 .bf16) (x2 : Vec Ideal S8192x128 .bf16) (x3 : Vec Ideal S8192x128 .bf16) (x4 : Vec Ideal S8192x128 .bf16) (x5 : Vec Ideal S1x128 .f32) (x6 : Vec Ideal S1x1x2x128x128 .f32)
      (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg10 fullShare (OUT7 i x0 x1 x2 x3 x4 x5 x6) ∗ owns (c : Thread nD τ) arg11 fullShare (OUT8 i x0 x2 x3 x6) ∗ (∃ d, owns (c : Thread nD τ) arg12 fullShare d)) -∗ K ⟨⟩))
          ⊢ wp frame (wpE (defs₀ (F := Ideal)) Variants.none c none) E (cc0_retention i arg2 harg2 arg3 harg3 arg4 harg4 arg5 harg5 arg6 harg6 arg7 harg7 arg8 harg8 (Memref.whole main_arg5) (Memref.isWhole_whole _) arg10 harg10 arg11 harg11 arg12 harg12) K := by
    simp only [cc0_retention_eq_skeleton]; unfold cc0_retention_skel
    simp only [k0_part31_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec
    sl_step
    iapply Hk
    isplitl [H0]
    · iexists _; isplitr
      · ipureintro; exact harg2.read_unread _
      · iexact H0
    isplitl [H1]
    · iexists _; isplitr
      · ipureintro; exact harg3.read_unread _
      · iexact H1
    isplitl [H2]
    · iexists _; isplitr
      · ipureintro; exact harg4.read_unread _
      · iexact H2
    isplitl [H3]
    · iexists _; isplitr
      · ipureintro; exact harg5.read_unread _
      · iexact H3
    isplitl [H4]
    · iexists _; isplitr
      · ipureintro; exact harg6.read_unread _
      · iexact H4
    isplitl [H5]
    · iexists _; isplitr
      · ipureintro; exact harg7.read_unread _
      · iexact H5
    isplitl [H6]
    · iexists _; isplitr
      · ipureintro; exact harg8.read_unread _
      · iexact H6
    isplitl [H7]
    · iexists _; isplitr
      swap
      · iexact H7
      ipureintro
      sl_unfold_words
      exact leaves7 _ c _ i arg2 harg2 arg3 harg3 arg4 harg4 arg5 harg5 arg6 harg6 arg7 harg7 arg8 harg8 _ _ arg10 harg10 arg11 harg11 arg12 harg12
        _ _ _ _ _ fs0 f7 _ _ _ x0 x1 x2 x3 x4 x5 x6 hf0 hf1 hf2 hf3 hf4 hf5 hf6
    isplitl [H8]
    · iexists _; isplitr
      swap
      · iexact H8
      ipureintro
      sl_unfold_words
      exact leaves8 _ c _ i arg2 harg2 arg3 harg3 arg4 harg4 arg5 harg5 arg6 harg6 arg7 harg7 arg8 harg8 _ _ arg10 harg10 arg11 harg11 arg12 harg12
        _ _ fs0 _ _ _ x0 x2 x3 x6 hf0 hf2 hf3 hf6 _
    iexists _; iexists _; isplitr
    swap
    · iexact HS0
    ipureintro; rfl
end Cert.KernelIdeal.Val
-- ==== Proof.Retention.Run.lean ====
module

public import proofs.«01_k».proof.Proof.Gen.KernelIdeal.Frame.Runs
public import Idealize.ShloMosaic.Lib.Pointwise
public import Idealize.ShloMosaic.Lib.Claim
public import proofs.«01_k».proof.Proof.Retention.Body

@[expose] public section
set_option maxRecDepth 16384
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
namespace Cert.KernelIdeal.Val
open Cert.KernelIdeal Cert.KernelIdeal.Gen
local notation "𝕄" => MT nD τ sig Unit (Elt Ideal) ℕ (UR sig nD τ) ℕ

open Cert.Retention

variable (m : (ℓ : Loc nD τ sig) → Buf (Elt Ideal) ℓ) (ρ : Dev nD → PrngReg)

/-- The run's data: each array at its contents when the call begins; after a point, each input's buffer at its
    block and the two outputs' buffers at the layer's closed forms of those blocks. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => X0_2 m c t
    | ⟨3, _⟩ => X0_3 m c t
    | ⟨4, _⟩ => X0_4 m c t
    | ⟨5, _⟩ => iblk m c 5 t
    | ⟨6, _⟩ => iblk m c 6 t
    | ⟨7, _⟩ => OUT7 (grid0.coords t) (iblk m c 0 t) (X0_1 m c t) (X0_2 m c t) (X0_3 m c t) (X0_4 m c t) (iblk m c 5 t) (iblk m c 6 t)
    | ⟨8, _⟩ => OUT8 (grid0.coords t) (iblk m c 0 t) (X0_2 m c t) (X0_3 m c t) (iblk m c 6 t)
  Φ _ := Pipeline.ΦA spec0 c
  q w := Pipeline.shareOf spec0 w
  owed _ := 0

/-- The run's arrays begin at the contents the host operations before the call leave. -/
theorem A_eq (c : Dev nD) (w : Fin cfg0.W) : (dats m 0 c).A w = V m c (Pipeline.arrRef spec0 w) := by
  dsimp only [dats]

/-! A point leaves each input's buffer at its block, and finds it there. -/

/-- A point leaves input 0's buffer at what it found. -/
theorem aft0 (c : Dev nD) (t : Fin cfg0.N) : (dats m 0 c).after 0 t = iblk m c 0 t := by dsimp only [dats]
/-- A point leaves input 1's buffer at what it found. -/
theorem aft1 (c : Dev nD) (t : Fin cfg0.N) : (dats m 0 c).after 1 t = X0_1 m c t := by dsimp only [dats]
/-- A point leaves input 2's buffer at what it found. -/
theorem aft2 (c : Dev nD) (t : Fin cfg0.N) : (dats m 0 c).after 2 t = X0_2 m c t := by dsimp only [dats]
/-- A point leaves input 3's buffer at what it found. -/
theorem aft3 (c : Dev nD) (t : Fin cfg0.N) : (dats m 0 c).after 3 t = X0_3 m c t := by dsimp only [dats]
/-- A point leaves input 4's buffer at what it found. -/
theorem aft4 (c : Dev nD) (t : Fin cfg0.N) : (dats m 0 c).after 4 t = X0_4 m c t := by dsimp only [dats]
/-- A point leaves input 5's buffer at what it found. -/
theorem aft5 (c : Dev nD) (t : Fin cfg0.N) : (dats m 0 c).after 5 t = iblk m c 5 t := by dsimp only [dats]
/-- A point leaves input 6's buffer at what it found. -/
theorem aft6 (c : Dev nD) (t : Fin cfg0.N) : (dats m 0 c).after 6 t = iblk m c 6 t := by dsimp only [dats]
/-- A point leaves the outputs' block at its closed form. -/
theorem aft7 (c : Dev nD) (t : Fin cfg0.N) : (dats m 0 c).after 7 t
    = OUT7 (grid0.coords t) (iblk m c 0 t) (X0_1 m c t) (X0_2 m c t) (X0_3 m c t) (X0_4 m c t) (iblk m c 5 t) (iblk m c 6 t) := by
  dsimp only [dats]
/-- A point leaves the final states' block at its closed form. -/
theorem aft8 (c : Dev nD) (t : Fin cfg0.N) : (dats m 0 c).after 8 t
    = OUT8 (grid0.coords t) (iblk m c 0 t) (X0_2 m c t) (X0_3 m c t) (iblk m c 6 t) := by
  dsimp only [dats]

/-- A point finds input 0's buffer at the input's block. -/
theorem bef0 (c : Dev nD) (t : Fin cfg0.N) (d) : (dats m 0 c).before 0 t d = iblk m c 0 t :=
  before0_0_of m (dats m 0 c) (A_eq m c 0) (aft0 m c) t d
/-- A point finds input 1's buffer at the input's block. -/
theorem bef1 (c : Dev nD) (t : Fin cfg0.N) (d) : (dats m 0 c).before 1 t d = X0_1 m c t :=
  before0_1_of m (dats m 0 c) (A_eq m c 1) (aft1 m c) t d
/-- A point finds input 2's buffer at the input's block. -/
theorem bef2 (c : Dev nD) (t : Fin cfg0.N) (d) : (dats m 0 c).before 2 t d = X0_2 m c t :=
  before0_2_of m (dats m 0 c) (A_eq m c 2) (aft2 m c) t d
/-- A point finds input 3's buffer at the input's block. -/
theorem bef3 (c : Dev nD) (t : Fin cfg0.N) (d) : (dats m 0 c).before 3 t d = X0_3 m c t :=
  before0_3_of m (dats m 0 c) (A_eq m c 3) (aft3 m c) t d
/-- A point finds input 4's buffer at the input's block. -/
theorem bef4 (c : Dev nD) (t : Fin cfg0.N) (d) : (dats m 0 c).before 4 t d = X0_4 m c t :=
  before0_4_of m (dats m 0 c) (A_eq m c 4) (aft4 m c) t d
/-- A point finds input 5's buffer at the input's block. -/
theorem bef5 (c : Dev nD) (t : Fin cfg0.N) (d) : (dats m 0 c).before 5 t d = iblk m c 5 t :=
  before0_5_of m (dats m 0 c) (A_eq m c 5) (aft5 m c) t d
/-- A point finds input 6's buffer at the input's block. -/
theorem bef6 (c : Dev nD) (t : Fin cfg0.N) (d) : (dats m 0 c).before 6 t d = iblk m c 6 t :=
  before0_6_of m (dats m 0 c) (A_eq m c 6) (aft6 m c) t d

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- What the body returns at a point. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 800000 in
/-- The body at any point takes what it is called with to what it returns: its triple, at the point's blocks. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [bef0, bef1, bef2, bef3, bef4, bef5, bef6]
  rw [show (dats m 0 c).Φ t.succ = (dats m 0 c).Φ t.castSucc from rfl,
    show (dats m 0 c).owesAt () t.succ = (dats m 0 c).owesAt () t.castSucc from rfl,
    aft0, aft1, aft2, aft3, aft4, aft5, aft6, aft7, aft8]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body c (grid0.coords t) _ _ _ _ _ _ _ _ _ _ _ _ _ _ _ _ _ _ _ _ (iblk m c 0 t) (X0_1 m c t) (X0_2 m c t) (X0_3 m c t) (X0_4 m c t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  iintro ⟨H0, H1, H2, H3, H4, H5, H6, H7, H8, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body the run calls at a point's buffers. -/
theorem defs₀_row (t : Fin cfg0.N) :
    defs₀ (F := Ideal) .tc cfg0.body (cfg0.bodyArgs t (cfg0.slots t)) = bodyAt0 t := by
  unfold defs₀; rw [Defs.onTc_tc]

/-- What the launch asks of the body, at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
/-- The whole run ends, with every array at what the data say and every semaphore counter at zero. -/
theorem run_all : θ_run defs (onTc (τ := τ) (main (F := Ideal))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The run, without the counters. -/
theorem run_post : θ_run defs (onTc (τ := τ) (main (F := Ideal))) (s₀ m ρ) (Pipeline.FramePost cfgs (dats m) 0 (V m)) :=
  (θ_run defs _ _).mono (fun _ h => h.1) (run_all m ρ)

/-- The frame: every argument ends as launched, every semaphore counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_post m ρ)) ((θ_run defs _ _).mono (fun _ h => h.2) (run_all m ρ))

end Cert.KernelIdeal.Val
-- ==== Proof.Retention.Result.lean ====
module

public import proofs.«01_k».proof.Proof.Retention.Spec

/-! The two results of the retention, each element as a function of the arguments. -/

@[expose] public section
noncomputable section
open Idealize.ShloMosaic
namespace Cert.Retention

/-- The projected sequences: all the batches' rows, each with the queries', keys', values' and gates' heads side by side. -/
abbrev Seq := Fin 33792 → Fin 6144 → EReal

/-- Row `r` of batch `b` among all the rows. -/
def grow (b : Fin 4) (r : Fin 8192) : Fin 33792 := ⟨8192 * b.val + r.val, by omega⟩
/-- Feature `d` of head `j` among all the features. -/
def gcol (j : Fin 48) (d : Fin 128) : Fin 6144 := ⟨128 * j.val + d.val, by omega⟩
/-- Head `h` of part `p` (0 queries, 1 keys, 2 values, 3 gates). -/
def part (p : Fin 4) (h : Fin 8) : Fin 48 := ⟨8 * p.val + h.val, by omega⟩
/-- One part of one head of one batch, in chunks. -/
def chunks (z : Seq) (b : Fin 4) (p : Fin 4) (h : Fin 8) : Chunks := fun c m d => z (grow b (row c m)) (gcol (part p h) d)

/-- The features of a head among those of all heads. -/
def lane8 (h : Fin 8) (e : Fin 128) : Fin 1024 := ⟨128 * h.val + e.val, by omega⟩
/-- The head of a feature. -/
def headOf (j : Fin 1024) : Fin 8 := ⟨j.val / 128, by omega⟩
/-- A feature's place in its head. -/
def featOf (j : Fin 1024) : Fin 128 := ⟨j.val % 128, by omega⟩
/-- The batch of a row. -/
def batchOf (r : Fin 33792) : Fin 4 := ⟨r.val / 8192 % 4, by omega⟩
/-- The chunk of a row, in its batch. -/
def chunkAt (r : Fin 33792) : Fin 64 := ⟨r.val % 8192 / 128, by omega⟩
/-- A row's place in its chunk. -/
def posAt (r : Fin 33792) : Fin 128 := ⟨r.val % 128, by omega⟩

/-- The batch of a row. -/
theorem batchOf_grow (b : Fin 4) (r : Fin 8192) : batchOf (grow b r) = b := Fin.ext (by unfold batchOf grow; dsimp only; omega)
/-- The chunk of a row. -/
theorem chunkAt_grow (b : Fin 4) (r : Fin 8192) : (chunkAt (grow b r)).val = r.val / 128 := by unfold chunkAt grow; dsimp only; omega
/-- The place of a row in its chunk. -/
theorem posAt_grow (b : Fin 4) (r : Fin 8192) : (posAt (grow b r)).val = r.val % 128 := by unfold posAt grow; dsimp only; omega
/-- The head of a feature. -/
theorem headOf_lane8 (h : Fin 8) (e : Fin 128) : headOf (lane8 h e) = h := Fin.ext (by unfold headOf lane8; dsimp only; omega)
/-- The place of a feature in its head. -/
theorem featOf_lane8 (h : Fin 8) (e : Fin 128) : featOf (lane8 h e) = e := Fin.ext (by unfold featOf lane8; dsimp only; omega)

/-- The retention of one head of one batch. -/
def headOut (z : Seq) (lf lb : Fin 8 → EReal) (gn : Fin 1024 → EReal) (s0 : Fin 4 → Fin 8 → Fin 2 → Mat)
    (b : Fin 4) (h : Fin 8) : Fin 64 → Mat :=
  out (lf h) (lb h) (chunks z b 0 h) (chunks z b 1 h) (chunks z b 2 h) (chunks z b 3 h) (fun e => gn (lane8 h e)) (s0 b h 0) (s0 b h 1)

/-- The first result: the retention of the first 32768 rows; the rows past them as they were. -/
def ret (z : Seq) (lf lb : Fin 8 → EReal) (gn : Fin 1024 → EReal) (s0 : Fin 4 → Fin 8 → Fin 2 → Mat)
    (prev : Fin 33792 → Fin 1024 → EReal) (r : Fin 33792) (j : Fin 1024) : EReal :=
  if r.val < 32768 then headOut z lf lb gn s0 (batchOf r) (headOf j) (chunkAt r) (posAt r) (featOf j) else prev r j

/-- The first result at a row of a batch and a feature of a head. -/
theorem ret_grow (z : Seq) (lf lb : Fin 8 → EReal) (gn : Fin 1024 → EReal) (s0 : Fin 4 → Fin 8 → Fin 2 → Mat)
    (prev : Fin 33792 → Fin 1024 → EReal) (b : Fin 4) (r : Fin 8192) (h : Fin 8) (e : Fin 128) (c : Fin 64) (n : Fin 128)
    (hc : c.val = r.val / 128) (hn : n.val = r.val % 128) :
    ret z lf lb gn s0 prev (grow b r) (lane8 h e) = headOut z lf lb gn s0 b h c n e := by
  have hlt : (grow b r).val < 32768 := by unfold grow; dsimp only; omega
  have e0 : chunkAt (grow b r) = c := Fin.ext ((chunkAt_grow b r).trans hc.symm)
  have e1 : posAt (grow b r) = n := Fin.ext ((posAt_grow b r).trans hn.symm)
  unfold ret
  rw [if_pos hlt, batchOf_grow, headOf_lane8, featOf_lane8, e0, e1]

/-- The second result: each head's two states after all the chunks. -/
def fin (z : Seq) (lf lb : Fin 8 → EReal) (s0 : Fin 4 → Fin 8 → Fin 2 → Mat) (b : Fin 4) (h : Fin 8) (dir : Fin 2) : Mat :=
  if dir.val = 0 then stF (lf h) (s0 b h 0) (chunks z b 1 h) (chunks z b 2 h) 64
  else stB (lb h) (s0 b h 1) (chunks z b 1 h) (chunks z b 2 h) 64

end Cert.Retention
-- ==== Proof.Retention.Arrays.lean ====
module

public import proofs.«01_k».proof.Proof.Gen.KernelIdeal.Frame.Runs
public import Idealize.ShloMosaic.Lib.Pointwise
public import Idealize.ShloMosaic.Lib.StableHlo.ReadAt
public import Idealize.ShloMosaic.Lib.Pipeline.ValueKit
public import Idealize.ShloMosaic.Lib.Pipeline.Value
public import proofs.«01_k».proof.Proof.Retention.Run
public import proofs.«01_k».proof.Proof.Retention.Result

@[expose] public section
set_option maxRecDepth 16384
noncomputable section
open Idealize.ShloMosaic Idealize.ShloMosaic.TcCoe Idealize.SL.Sem
open Idealize.ShloMosaic.Pipeline (Dat)
namespace Cert.KernelIdeal.Val
open Cert.KernelIdeal Cert.KernelIdeal.Gen
open Cert.Retention

variable (m : (ℓ : Loc nD τ sig) → Buf (Elt Ideal) ℓ) (ρ : Dev nD → PrngReg)

/-- The log decays the call is given: one row for each direction, the negated exponential of the parameter. -/
theorem V_lg (c : Dev nD) (r : Fin 2) (h : Fin 8) : V m c main_v6 (ix2 r h)
    = if r.val = 0 then -Ideal.exp (m ((c : Thread nD τ).loc main_arg1) (ix1 h)) else -Ideal.exp (m ((c : Thread nD τ).loc main_arg2) (ix1 h)) := by
  unfold V
  after_reads_at
  all_goals (fin_vals r with hr)
  all_goals simp [hr]

/-- The scales the call is given, laid in one row. -/
theorem V_gn (c : Dev nD) (j : Fin 1024) : V m c main_v7 (ix2 0 j) = m ((c : Thread nD τ).loc main_arg3) (ix1 j) := by
  unfold V
  after_reads_at

/-- The output's array when the call begins: the previous output. -/
theorem V_prev (c : Dev nD) : V m c main_v8_0 = m ((c : Thread nD τ).loc main_arg5) := by
  funext i
  unfold V
  after_reads_at
  rfl

/-- The batch of a grid point. -/
def bAt (t : Fin cfg0.N) : Fin 4 := grid0.coords t 0
/-- The head of a grid point. -/
def hAt (t : Fin cfg0.N) : Fin 8 := grid0.coords t 1

/-- Where window 1's block lies at a point. -/
theorem idx1 : ∀ t : Fin cfg0.N, win0_1.index t 0 = (bAt t).val ∧ win0_1.index t 1 = (hAt t).val :=
  (by decide +kernel : ∀ t : Fin grid0.N, win0_1.index t 0 = (bAt t).val ∧ win0_1.index t 1 = (hAt t).val)

/-- Window 1's block at a point: the queries of the point's head and batch. -/
theorem blk1 (c : Dev nD) (t : Fin cfg0.N) : ck (X0_1 m c t)
    = chunks (fun r j => m ((c : Thread nD τ).loc main_arg0) (ix2 r j)) (bAt t) 0 (hAt t) := by
  funext k p d
  have hi := idx1 t
  unfold ck X0_1 Pipeline.Window.fill
  rw [dif_pos (moved0_1 t _)]
  unfold iblk
  rw [View.read_apply]
  show V m c main_arg0 _ = _
  rw [V_main_arg0]
  unfold chunks
  congr 1
  funext a
  apply Fin.ext
  match a with
  | ⟨0, _⟩ => show win0_1.index t 0 * 8192 + 1 * (128 * k.val + p.val) = 8192 * (bAt t).val + (128 * k.val + p.val); rw [hi.1]; omega
  | ⟨1, _⟩ => show win0_1.index t 1 * 128 + 1 * d.val = 128 * (8 * 0 + (hAt t).val) + d.val; rw [hi.2]; omega

/-- Where window 2's block lies at a point. -/
theorem idx2 : ∀ t : Fin cfg0.N, win0_2.index t 0 = (bAt t).val ∧ win0_2.index t 1 = 8 + (hAt t).val :=
  (by decide +kernel : ∀ t : Fin grid0.N, win0_2.index t 0 = (bAt t).val ∧ win0_2.index t 1 = 8 + (hAt t).val)

/-- Window 2's block at a point: the keys of the point's head and batch. -/
theorem blk2 (c : Dev nD) (t : Fin cfg0.N) : ck (X0_2 m c t)
    = chunks (fun r j => m ((c : Thread nD τ).loc main_arg0) (ix2 r j)) (bAt t) 1 (hAt t) := by
  funext k p d
  have hi := idx2 t
  unfold ck X0_2 Pipeline.Window.fill
  rw [dif_pos (moved0_2 t _)]
  unfold iblk
  rw [View.read_apply]
  show V m c main_arg0 _ = _
  rw [V_main_arg0]
  unfold chunks
  congr 1
  funext a
  apply Fin.ext
  match a with
  | ⟨0, _⟩ => show win0_2.index t 0 * 8192 + 1 * (128 * k.val + p.val) = 8192 * (bAt t).val + (128 * k.val + p.val); rw [hi.1]; omega
  | ⟨1, _⟩ => show win0_2.index t 1 * 128 + 1 * d.val = 128 * (8 * 1 + (hAt t).val) + d.val; rw [hi.2]; omega

/-- Where window 3's block lies at a point. -/
theorem idx3 : ∀ t : Fin cfg0.N, win0_3.index t 0 = (bAt t).val ∧ win0_3.index t 1 = 16 + (hAt t).val :=
  (by decide +kernel : ∀ t : Fin grid0.N, win0_3.index t 0 = (bAt t).val ∧ win0_3.index t 1 = 16 + (hAt t).val)

/-- Window 3's block at a point: the values of the point's head and batch. -/
theorem blk3 (c : Dev nD) (t : Fin cfg0.N) : ck (X0_3 m c t)
    = chunks (fun r j => m ((c : Thread nD τ).loc main_arg0) (ix2 r j)) (bAt t) 2 (hAt t) := by
  funext k p d
  have hi := idx3 t
  unfold ck X0_3 Pipeline.Window.fill
  rw [dif_pos (moved0_3 t _)]
  unfold iblk
  rw [View.read_apply]
  show V m c main_arg0 _ = _
  rw [V_main_arg0]
  unfold chunks
  congr 1
  funext a
  apply Fin.ext
  match a with
  | ⟨0, _⟩ => show win0_3.index t 0 * 8192 + 1 * (128 * k.val + p.val) = 8192 * (bAt t).val + (128 * k.val + p.val); rw [hi.1]; omega
  | ⟨1, _⟩ => show win0_3.index t 1 * 128 + 1 * d.val = 128 * (8 * 2 + (hAt t).val) + d.val; rw [hi.2]; omega

/-- Where window 4's block lies at a point. -/
theorem idx4 : ∀ t : Fin cfg0.N, win0_4.index t 0 = (bAt t).val ∧ win0_4.index t 1 = 24 + (hAt t).val :=
  (by decide +kernel : ∀ t : Fin grid0.N, win0_4.index t 0 = (bAt t).val ∧ win0_4.index t 1 = 24 + (hAt t).val)

/-- Window 4's block at a point: the gates of the point's head and batch. -/
theorem blk4 (c : Dev nD) (t : Fin cfg0.N) : ck (X0_4 m c t)
    = chunks (fun r j => m ((c : Thread nD τ).loc main_arg0) (ix2 r j)) (bAt t) 3 (hAt t) := by
  funext k p d
  have hi := idx4 t
  unfold ck X0_4 Pipeline.Window.fill
  rw [dif_pos (moved0_4 t _)]
  unfold iblk
  rw [View.read_apply]
  show V m c main_arg0 _ = _
  rw [V_main_arg0]
  unfold chunks
  congr 1
  funext a
  apply Fin.ext
  match a with
  | ⟨0, _⟩ => show win0_4.index t 0 * 8192 + 1 * (128 * k.val + p.val) = 8192 * (bAt t).val + (128 * k.val + p.val); rw [hi.1]; omega
  | ⟨1, _⟩ => show win0_4.index t 1 * 128 + 1 * d.val = 128 * (8 * 3 + (hAt t).val) + d.val; rw [hi.2]; omega

/-- The log decays a point reads. -/
theorem blk0 (c : Dev nD) (t : Fin cfg0.N) (r : Fin 2) (h : Fin 8) : lgAt (iblk m c 0 t) r h = V m c main_v6 (ix2 r h) := by
  have hi : win0_0.index t 0 = 0 ∧ win0_0.index t 1 = 0 := ⟨rfl, rfl⟩
  unfold lgAt iblk
  rw [View.read_apply]
  show V m c main_v6 _ = _
  congr 1
  funext a
  apply Fin.ext
  match a with
  | ⟨0, _⟩ => show win0_0.index t 0 * 2 + 1 * r.val = r.val; rw [hi.1]; omega
  | ⟨1, _⟩ => show win0_0.index t 1 * 8 + 1 * h.val = h.val; rw [hi.2]; omega

/-- Where window 5's block lies at a point. -/
theorem idx5 : ∀ t : Fin cfg0.N, win0_5.index t 0 = 0 ∧ win0_5.index t 1 = (hAt t).val :=
  (by decide +kernel : ∀ t : Fin grid0.N, win0_5.index t 0 = 0 ∧ win0_5.index t 1 = (hAt t).val)

/-- The scales a point reads: those of its head. -/
theorem blk5 (c : Dev nD) (t : Fin cfg0.N) (e : Fin 128) :
    iblk m c 5 t (ix2 0 e) = m ((c : Thread nD τ).loc main_arg3) (ix1 (lane8 (hAt t) e)) := by
  have hi := idx5 t
  unfold iblk
  rw [View.read_apply]
  show V m c main_v7 _ = _
  refine Eq.trans ?_ (V_gn m c _)
  congr 1
  funext a
  apply Fin.ext
  match a with
  | ⟨0, _⟩ => show win0_5.index t 0 * 1 + 1 * 0 = 0; rw [hi.1]
  | ⟨1, _⟩ => show win0_5.index t 1 * 128 + 1 * e.val = 128 * (hAt t).val + e.val; rw [hi.2]; omega

/-- Where window 6's block lies at a point. -/
theorem idx6 : ∀ t : Fin cfg0.N, win0_6.index t 0 = (bAt t).val ∧ win0_6.index t 1 = (hAt t).val
    ∧ win0_6.index t 2 = 0 ∧ win0_6.index t 3 = 0 ∧ win0_6.index t 4 = 0 :=
  (by decide +kernel : ∀ t : Fin grid0.N, win0_6.index t 0 = (bAt t).val ∧ win0_6.index t 1 = (hAt t).val
    ∧ win0_6.index t 2 = 0 ∧ win0_6.index t 3 = 0 ∧ win0_6.index t 4 = 0)

/-- The initial states a point reads: those of its head and batch. -/
theorem blk6 (c : Dev nD) (t : Fin cfg0.N) (r : Fin 2) :
    s0At (iblk m c 6 t) r = fun d e => m ((c : Thread nD τ).loc main_arg4) (ix5 (bAt t) (hAt t) r d e) := by
  funext d e
  obtain ⟨h0, h1, h2, h3, h4⟩ := idx6 t
  unfold s0At iblk
  rw [View.read_apply]
  show V m c main_arg4 _ = _
  rw [V_main_arg4]
  congr 1
  funext a
  apply Fin.ext
  match a with
  | ⟨0, _⟩ => show win0_6.index t 0 * 1 + 1 * 0 = (bAt t).val; rw [h0]; omega
  | ⟨1, _⟩ => show win0_6.index t 1 * 1 + 1 * 0 = (hAt t).val; rw [h1]; omega
  | ⟨2, _⟩ => show win0_6.index t 2 * 2 + 1 * r.val = r.val; rw [h2]; omega
  | ⟨3, _⟩ => show win0_6.index t 3 * 128 + 1 * d.val = d.val; rw [h3]; omega
  | ⟨4, _⟩ => show win0_6.index t 4 * 128 + 1 * e.val = e.val; rw [h4]; omega

/-- The first result from the kernel's arguments. -/
def RET (c : Dev nD) : Buf (Elt Ideal) ((c : Thread nD τ).loc main_v8_0) := fun i =>
  ret (fun r j => m ((c : Thread nD τ).loc main_arg0) (ix2 r j)) (fun h => -Ideal.exp (m ((c : Thread nD τ).loc main_arg1) (ix1 h)))
    (fun h => -Ideal.exp (m ((c : Thread nD τ).loc main_arg2) (ix1 h))) (fun j => m ((c : Thread nD τ).loc main_arg3) (ix1 j))
    (fun b h r d e => m ((c : Thread nD τ).loc main_arg4) (ix5 b h r d e))
    (fun r j => m ((c : Thread nD τ).loc main_arg5) (ix2 r j)) (i 0) (i 1)

/-- The second result from the kernel's arguments. -/
def FIN (c : Dev nD) : Buf (Elt Ideal) ((c : Thread nD τ).loc main_v8_1) := fun i =>
  fin (fun r j => m ((c : Thread nD τ).loc main_arg0) (ix2 r j)) (fun h => -Ideal.exp (m ((c : Thread nD τ).loc main_arg1) (ix1 h)))
    (fun h => -Ideal.exp (m ((c : Thread nD τ).loc main_arg2) (ix1 h)))
    (fun b h r d e => m ((c : Thread nD τ).loc main_arg4) (ix5 b h r d e)) (i 0) (i 1) (i 2) (i 3) (i 4)

/-- Where window 7's block lies at a point. -/
theorem idx7 : ∀ t : Fin cfg0.N, win0_7.index t 0 = (bAt t).val ∧ win0_7.index t 1 = (hAt t).val :=
  (by decide +kernel : ∀ t : Fin grid0.N, win0_7.index t 0 = (bAt t).val ∧ win0_7.index t 1 = (hAt t).val)

/-- A point's block of outputs, where it lands in the result. -/
theorem point7 (c : Dev nD) (t : Fin cfg0.N) (y : S8192x128.Idx) :
    (dats m 0 c).after 7 t y = RET m c (ix2 (grow (bAt t) (y 0)) (lane8 (hAt t) (y 1))) := by
  rw [aft7]
  refine Eq.trans ?_ (ret_grow _ _ _ _ _ _ (bAt t) (y 0) (hAt t) (y 1) (chunkOf (y 0)) (posOf (y 0)) rfl rfl).symm
  have l0 : lgAt (iblk m c 0 t) 0 (hAt t) = -Ideal.exp (m ((c : Thread nD τ).loc main_arg1) (ix1 (hAt t))) :=
    (blk0 m c t 0 _).trans ((V_lg m c 0 (hAt t)).trans (if_pos rfl))
  have l1 : lgAt (iblk m c 0 t) 1 (hAt t) = -Ideal.exp (m ((c : Thread nD τ).loc main_arg2) (ix1 (hAt t))) :=
    (blk0 m c t 1 _).trans ((V_lg m c 1 (hAt t)).trans (if_neg (by decide)))
  have g : (fun e => iblk m c 5 t (ix2 0 e)) = fun e => m ((c : Thread nD τ).loc main_arg3) (ix1 (lane8 (hAt t) e)) := funext (blk5 m c t)
  show out (lgAt (iblk m c 0 t) 0 (hAt t)) (lgAt (iblk m c 0 t) 1 (hAt t)) (ck (X0_1 m c t)) (ck (X0_2 m c t)) (ck (X0_3 m c t))
    (ck (X0_4 m c t)) (fun e => iblk m c 5 t (ix2 0 e)) (s0At (iblk m c 6 t) 0) (s0At (iblk m c 6 t) 1) (chunkOf (y 0)) (posOf (y 0)) (y 1) = _
  rw [l0, l1, g, blk1, blk2, blk3, blk4, blk6, blk6]
  rfl

/-- Where window 8's block lies at a point. -/
theorem idx8 : ∀ t : Fin cfg0.N, win0_8.index t 0 = (bAt t).val ∧ win0_8.index t 1 = (hAt t).val
    ∧ win0_8.index t 2 = 0 ∧ win0_8.index t 3 = 0 ∧ win0_8.index t 4 = 0 :=
  (by decide +kernel : ∀ t : Fin grid0.N, win0_8.index t 0 = (bAt t).val ∧ win0_8.index t 1 = (hAt t).val
    ∧ win0_8.index t 2 = 0 ∧ win0_8.index t 3 = 0 ∧ win0_8.index t 4 = 0)

/-- A point's final states, where they land in the result. -/
theorem point8 (c : Dev nD) (t : Fin cfg0.N) (y : S1x1x2x128x128.Idx) :
    (dats m 0 c).after 8 t y = FIN m c (ix5 (bAt t) (hAt t) (y 2) (y 3) (y 4)) := by
  rw [aft8]
  show _ = fin _ _ _ _ (bAt t) (hAt t) (y 2) (y 3) (y 4)
  have l0 : lgAt (iblk m c 0 t) 0 (hAt t) = -Ideal.exp (m ((c : Thread nD τ).loc main_arg1) (ix1 (hAt t))) :=
    (blk0 m c t 0 _).trans ((V_lg m c 0 (hAt t)).trans (if_pos rfl))
  have l1 : lgAt (iblk m c 0 t) 1 (hAt t) = -Ideal.exp (m ((c : Thread nD τ).loc main_arg2) (ix1 (hAt t))) :=
    (blk0 m c t 1 _).trans ((V_lg m c 1 (hAt t)).trans (if_neg (by decide)))
  show pair (stF (lgAt (iblk m c 0 t) 0 (hAt t)) (s0At (iblk m c 6 t) 0) (ck (X0_2 m c t)) (ck (X0_3 m c t)) 64)
    (stB (lgAt (iblk m c 0 t) 1 (hAt t)) (s0At (iblk m c 6 t) 1) (ck (X0_2 m c t)) (ck (X0_3 m c t)) 64) y = _
  rw [l0, l1, blk2, blk3, blk6, blk6]
  unfold fin pair
  by_cases hy : (y 2).val = 0
  · rw [if_pos hy, if_pos hy]
  · rw [if_neg hy, if_neg hy]

/-- The first result's array after the run. -/
theorem final_ret (c : Dev nD) : (dats m 0 c).arrAt 7 cfg0.N = RET m c := by
  have h : (dats m 0 c).arrAt 7 cfg0.N = fun i => if (i 0).val / 8192 < 4 then RET m c i else (dats m 0 c).A 7 i := by
    refine (dats m 0 c).arrAt_eq_of_coversWhere 7 _ (fun β => β (0 : Fin 2) < 4) (by decide +kernel)
      (fun t hf y => ?_) (fun j => Iff.rfl)
    blk_simp
    refine (point7 m c t _).trans ?_
    congr 1
    funext a
    apply Fin.ext
    have hi := idx7 t
    match a with
    | ⟨0, _⟩ => show 8192 * (bAt t).val + (y 0).val = win0_7.index t 0 * 8192 + 1 * (y 0).val; rw [hi.1]; omega
    | ⟨1, _⟩ => show 128 * (hAt t).val + (y 1).val = win0_7.index t 1 * 128 + 1 * (y 1).val; rw [hi.2]; omega
  rw [h]
  funext i
  split
  · rfl
  · rename_i hn
    rw [A_eq]
    show V m c main_v8_0 i = ret _ _ _ _ _ _ (i 0) (i 1)
    unfold ret
    rw [if_neg (by omega), V_prev]
    show _ = m ((c : Thread nD τ).loc main_arg5) (ix2 (i 0) (i 1))
    congr 1
    idx_vars i

/-- The second result's array after the run. -/
theorem final_fin (c : Dev nD) : (dats m 0 c).arrAt 8 cfg0.N = FIN m c := by
  refine (dats m 0 c).arrAt_eq_of_covers 8 _ (by decide +kernel) fun t hf y => ?_
  blk_simp
  obtain ⟨h0, h1, h2, h3, h4⟩ := idx8 t
  refine (point8 m c t _).trans ?_
  congr 1
  funext a
  apply Fin.ext
  have b0 : (y 0).val < 1 := (y 0).isLt
  have b1 : (y 1).val < 1 := (y 1).isLt
  match a with
  | ⟨0, _⟩ => show (bAt t).val = win0_8.index t 0 * 1 + 1 * (y 0).val; rw [h0]; omega
  | ⟨1, _⟩ => show (hAt t).val = win0_8.index t 1 * 1 + 1 * (y 1).val; rw [h1]; omega
  | ⟨2, _⟩ => show (y 2).val = win0_8.index t 2 * 2 + 1 * (y 2).val; rw [h2]; omega
  | ⟨3, _⟩ => show (y 3).val = win0_8.index t 3 * 128 + 1 * (y 3).val; rw [h3]; omega
  | ⟨4, _⟩ => show (y 4).val = win0_8.index t 4 * 128 + 1 * (y 4).val; rw [h4]; omega

/-- The kernel's run: its two results, and its arguments as they were. -/
theorem run_values : θ_run defs (onTc (τ := τ) (main (F := Ideal))) ⟨m, fun _ => 0, ρ⟩ (fun r => ∀ c : Dev nD,
      r.2.mem ((c.tc : Thread nD τ).loc main_v8_0) = RET m c
      ∧ r.2.mem ((c.tc : Thread nD τ).loc main_v8_1) = FIN m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h.1 c).1 7).trans (final_ret m c), ((h.1 c).1 8).trans (final_fin m c), h.2 c⟩)
    (θ_run_and (run_post m ρ) (frame_of m ρ (dats m) (A_eq m) (run_post m ρ)))

end Cert.KernelIdeal.Val
-- ==== Proof.Retention.RefPre.lean ====
module

public import proofs.«01_k».proof.Proof.Gen.ReferenceIdeal.Run
public import Idealize.ShloMosaic.Lib.Pointwise
public import Idealize.ShloMosaic.Lib.StableHlo.ReadAt
public import proofs.«01_k».proof.Proof.Retention.Result
public import proofs.«01_k».proof.Proof.Retention.Weights

@[expose] public section
set_option maxRecDepth 16384
noncomputable section
open Idealize.ShloMosaic Idealize.ShloMosaic.TcCoe Idealize.SL.Sem Idealize.ShloMosaic.StableHlo
namespace Cert.ReferenceIdeal.Val
open Cert.ReferenceIdeal Cert.ReferenceIdeal.Gen Cert.ReferenceIdeal.Value
open Cert.Retention
open Cert.KernelIdeal.Val (sitofp_pos ofBits127 ofBits128)

variable (X : Valuation τ sig (Elt Ideal))

/-! ## The operations before the loop, from any contents of the buffers -/

/-- The gates, read at a row and a feature. -/
theorem pre_v5 (r : Fin 32768) (j : Fin 1024) : after hostOps0 X (Proc.devRef .tc main_v5) (ix2 r j)
    = X (Proc.devRef .tc main_arg0) (ix2 ⟨r.val, by omega⟩ ⟨3072 + j.val, by omega⟩) := by
  after_reads_at

/-- The queries of a head of a batch. -/
theorem pre_v7 (b : Fin 4) (h : Fin 8) (t : Fin 8192) (d : Fin 128) : after hostOps0 X (Proc.devRef .tc main_v7) (ix4 b h t d)
    = X (Proc.devRef .tc main_arg0) (ix2 (grow b t) (gcol (part 0 h) d)) := by
  after_reads_at
  simp only [grow, gcol, part]
  congr 2 <;> (apply Fin.ext; simp; omega)

/-- The keys of a head of a batch. -/
theorem pre_v9 (b : Fin 4) (h : Fin 8) (t : Fin 8192) (d : Fin 128) : after hostOps0 X (Proc.devRef .tc main_v9) (ix4 b h t d)
    = X (Proc.devRef .tc main_arg0) (ix2 (grow b t) (gcol (part 1 h) d)) := by
  after_reads_at
  simp only [grow, gcol, part]
  congr 2 <;> (apply Fin.ext; simp; omega)

/-- The values of a head of a batch. -/
theorem pre_v11 (b : Fin 4) (h : Fin 8) (t : Fin 8192) (d : Fin 128) : after hostOps0 X (Proc.devRef .tc main_v11) (ix4 b h t d)
    = X (Proc.devRef .tc main_arg0) (ix2 (grow b t) (gcol (part 2 h) d)) := by
  after_reads_at
  simp only [grow, gcol, part]
  congr 2 <;> (apply Fin.ext; simp; omega)

/-- The queries in reverse order. -/
theorem pre_v12 (b : Fin 4) (h : Fin 8) (t : Fin 8192) (d : Fin 128) : after hostOps0_1 X (Proc.devRef .tc main_v12) (ix4 b h t d)
    = X (Proc.devRef .tc main_v7) (ix4 b h (Fin.rev t) d) := by
  after_reads_at
  simp

/-- The keys in reverse order. -/
theorem pre_v13 (b : Fin 4) (h : Fin 8) (t : Fin 8192) (d : Fin 128) : after hostOps0_2 X (Proc.devRef .tc main_v13) (ix4 b h t d)
    = X (Proc.devRef .tc main_v9) (ix4 b h (Fin.rev t) d) := by
  after_reads_at
  simp

/-- The values in reverse order. -/
theorem pre_v14 (b : Fin 4) (h : Fin 8) (t : Fin 8192) (d : Fin 128) : after hostOps0_3 X (Proc.devRef .tc main_v14) (ix4 b h t d)
    = X (Proc.devRef .tc main_v11) (ix4 b h (Fin.rev t) d) := by
  after_reads_at
  simp

/-- The forward log decays. -/
theorem pre_v16 (h : Fin 8) : after hostOps0_4 X (Proc.devRef .tc main_v16) (ix1 h)
    = -Ideal.exp (X (Proc.devRef .tc main_arg1) (ix1 h)) := by
  after_reads_at

/-- The backward log decays. -/
theorem pre_v18 (h : Fin 8) : after hostOps0_4 X (Proc.devRef .tc main_v18) (ix1 h)
    = -Ideal.exp (X (Proc.devRef .tc main_arg2) (ix1 h)) := by
  after_reads_at

/-- A head's queries, keys or values in one buffer, in chunks. -/
def ck4 (A : (⟨S4x8x8192x128, .f32⟩ : BufTy).Contents (Elt Ideal)) (b : Fin 4) (h : Fin 8) : Chunks := fun c m d => A (ix4 b h (row c m) d)

/-- A row written as its chunk and place. -/
theorem row_eq (c : Fin 64) (m : Fin 128) (hh : c.val * 128 + m.val < 8192) : (⟨c.val * 128 + m.val, hh⟩ : Fin 8192) = row c m :=
  Fin.ext (by unfold row; dsimp only; omega)

/-- What each chunk adds to the forward state. -/
theorem pre_u0 (c : Fin 64) (b : Fin 4) (h : Fin 8) (d e : Fin 128) : after hostOps0_4 X (Proc.devRef .tc main_v65_0) (ix5 c b h d e)
    = upd (zetaF (-Ideal.exp (X (Proc.devRef .tc main_arg1) (ix1 h)))) (ck4 (X (Proc.devRef .tc main_v9)) b h)
        (ck4 (X (Proc.devRef .tc main_v11)) b h) c d e := by
  after_reads_at
  simp only [id_eq]
  pointwise
  simp only [sitofp_pos, ofBits127, row_eq]
  rfl

/-- What each chunk, of the reversed sequence, adds to the backward state. -/
theorem pre_u1 (c : Fin 64) (b : Fin 4) (h : Fin 8) (d e : Fin 128) : after hostOps0_4 X (Proc.devRef .tc main_v65_1) (ix5 c b h d e)
    = upd (zetaF (-Ideal.exp (X (Proc.devRef .tc main_arg2) (ix1 h)))) (ck4 (X (Proc.devRef .tc main_v13)) b h)
        (ck4 (X (Proc.devRef .tc main_v14)) b h) c d e := by
  after_reads_at
  simp only [id_eq]
  pointwise
  simp only [sitofp_pos, ofBits127, row_eq]
  rfl

/-- The forward decay across a chunk. -/
theorem pre_g0 (h : Fin 8) : after hostOps0_4 X (Proc.devRef .tc main_v65_2) (ix4 0 h 0 0)
    = gam (-Ideal.exp (X (Proc.devRef .tc main_arg1) (ix1 h))) := by
  after_reads_at
  simp only [id_eq]
  pointwise
  simp only [ofBits128]
  rfl

/-- The backward decay across a chunk. -/
theorem pre_g1 (h : Fin 8) : after hostOps0_4 X (Proc.devRef .tc main_v65_3) (ix4 0 h 0 0)
    = gam (-Ideal.exp (X (Proc.devRef .tc main_arg2) (ix1 h))) := by
  after_reads_at
  simp only [id_eq]
  pointwise
  simp only [ofBits128]
  rfl

/-- The forward states before the first chunk. -/
theorem pre_s0 (b : Fin 4) (h : Fin 8) (d e : Fin 128) : after hostOps0_4 X (Proc.devRef .tc main_v65_5) (ix4 b h d e)
    = X (Proc.devRef .tc main_arg4) (ix5 b h 0 d e) := by
  after_reads_at
  simp only [id_eq]
  pointwise

/-- The backward states after the last chunk. -/
theorem pre_s1 (b : Fin 4) (h : Fin 8) (d e : Fin 128) : after hostOps0_4 X (Proc.devRef .tc main_v65_6) (ix4 b h d e)
    = X (Proc.devRef .tc main_arg4) (ix5 b h 1 d e) := by
  after_reads_at
  simp only [id_eq]
  pointwise

end Cert.ReferenceIdeal.Val
end
end
-- ==== Proof.Retention.RefPost.lean ====
module

public import proofs.«01_k».proof.Proof.Gen.ReferenceIdeal.Run
public import Idealize.ShloMosaic.Lib.Pointwise
public import Idealize.ShloMosaic.Lib.StableHlo.ReadAt
public import proofs.«01_k».proof.Proof.Retention.Result
public import proofs.«01_k».proof.Proof.Retention.RefPre

@[expose] public section
set_option maxRecDepth 16384
noncomputable section
open Idealize.ShloMosaic Idealize.ShloMosaic.TcCoe Idealize.SL.Sem Idealize.ShloMosaic.StableHlo
namespace Cert.ReferenceIdeal.Val
open Cert.ReferenceIdeal Cert.ReferenceIdeal.Gen Cert.ReferenceIdeal.Value
open Cert.Retention
open Cert.KernelIdeal.Val (sitofp_pos ofBits127 ofBits128)

variable (X : Valuation τ sig (Elt Ideal))

/-! ## The operations after the loop, from any contents of the buffers -/

/-- A value read from a buffer, as an extended real. -/
abbrev asR (x : EReal) : EReal := x

/-- The kept forward states, batch and head first. -/
theorem post_v66 (c : Fin 64) (b : Fin 4) (h : Fin 8) (d e : Fin 128) : after hostOps0_5 X (Proc.devRef .tc main_v66) (ix5 b h c d e)
    = X (Proc.devRef .tc main_v65_7) (ix5 c b h d e) := by
  after_reads_at

/-- The positions in a chunk, forward. -/
theorem post_v67 (n : Fin 128) : after hostOps0_5 X (Proc.devRef .tc main_v67) (ix1 n) = (((n : ℕ) : ℝ) : EReal) := by
  after_reads_at
  exact sitofp_pos n

/-- The forward weight of key `m` in row `n`: none for the keys after the row. -/
def decF (l : EReal) (n m : Fin 128) : EReal := if m ≤ n then Ideal.exp (l * ((((n : ℕ) - (m : ℕ) : ℝ)) : EReal)) else 0
/-- The backward weight, on the reversed sequence: none for the row itself and the keys after it. -/
def decB (l : EReal) (n m : Fin 128) : EReal := if m < n then Ideal.exp (l * ((((n : ℕ) - (m : ℕ) : ℝ)) : EReal)) else 0

/-- The masked decay within a chunk, forward. -/
theorem post_v83 (h : Fin 8) (n m : Fin 128) : after hostOps0_6 (after hostOps0_5 X) (Proc.devRef .tc main_v83) (ix3 h n m)
    = decF (X (Proc.devRef .tc main_v16) (ix1 h)) n m := by
  after_reads_at
  simp only [sitofp_pos]
  have e : ((((n : ℕ) : ℝ) : EReal) - (((m : ℕ) : ℝ) : EReal)) = ((((n : ℕ) - (m : ℕ) : ℝ)) : EReal) := rfl
  have z : id (constant (F := Ideal) S_ FTy.f32 0#32) ix0 = (0 : EReal) := Ideal.ofBits_zero_f32
  rw [e, z]
  unfold decF
  by_cases hm : m ≤ n
  · have hr : 0 ≤ ((n : ℕ) : ℝ) - ((m : ℕ) : ℝ) := by rw [sub_nonneg]; exact_mod_cast hm
    rw [if_pos hm, if_pos (by exact_mod_cast hr), Cert.KernelIdeal.Val.coe_max_zero _ hr]
  · rw [if_neg hm, if_neg (fun h0 => hm ?_)]
    have h1 : 0 ≤ ((n : ℕ) : ℝ) - ((m : ℕ) : ℝ) := by exact_mod_cast h0
    rw [sub_nonneg] at h1
    exact_mod_cast h1

/-- The chunk of a chunk's row. -/
theorem row_div (c : Fin 64) (n : Fin 128) (hh : (row c n).val / 128 < 64) : (⟨(row c n).val / 128, hh⟩ : Fin 64) = c :=
  Fin.ext (by unfold row; dsimp only; omega)
/-- The place of a chunk's row in it. -/
theorem row_mod (c : Fin 64) (n : Fin 128) (hh : (row c n).val % 128 < 128) : (⟨(row c n).val % 128, hh⟩ : Fin 128) = n :=
  Fin.ext (by unfold row; dsimp only; omega)
/-- Another row of the same chunk. -/
theorem row_same (c : Fin 64) (n x : Fin 128) (hh : (row c n).val / 128 * 128 + x.val < 8192) :
    (⟨(row c n).val / 128 * 128 + x.val, hh⟩ : Fin 8192) = row c x := Fin.ext (by unfold row; dsimp only; omega)
/-- A row from its chunk and place. -/
theorem row_self (c : Fin 64) (n : Fin 128) (hh : (row c n).val / 128 * 128 + (row c n).val % 128 < 8192) :
    (⟨(row c n).val / 128 * 128 + (row c n).val % 128, hh⟩ : Fin 8192) = row c n := Fin.ext (by unfold row; dsimp only; omega)

/-- The forward output of a chunk's row: the part of its own chunk and the part of the state before. -/
theorem post_v106 (c : Fin 64) (b : Fin 4) (h : Fin 8) (n e : Fin 128) : after hostOps0_7 X (Proc.devRef .tc main_v106) (ix4 b h (row c n) e)
    = (∑ m, (∑ d, ck4 (X (Proc.devRef .tc main_v7)) b h c n d * ck4 (X (Proc.devRef .tc main_v9)) b h c m d)
          * asR (X (Proc.devRef .tc main_v83) (ix3 h n m)) * ck4 (X (Proc.devRef .tc main_v11)) b h c m e)
      + (∑ d, ck4 (X (Proc.devRef .tc main_v7)) b h c n d * asR (X (Proc.devRef .tc main_v66) (ix5 b h c d e)))
        * Ideal.exp (asR (X (Proc.devRef .tc main_v16) (ix1 h)) * (asR (X (Proc.devRef .tc main_v67) (ix1 n)) + 1)) := by
  after_reads_at
  simp only [row_div, row_mod, row_same, row_self]
  rfl

/-- The kept backward states, batch and head first. -/
theorem post_v107 (c : Fin 64) (b : Fin 4) (h : Fin 8) (d e : Fin 128) : after hostOps0_7 X (Proc.devRef .tc main_v107) (ix5 b h c d e)
    = X (Proc.devRef .tc main_v65_8) (ix5 c b h d e) := by
  after_reads_at

/-- The positions in a chunk, backward. -/
theorem post_v108 (n : Fin 128) : after hostOps0_7 X (Proc.devRef .tc main_v108) (ix1 n) = (((n : ℕ) : ℝ) : EReal) := by
  after_reads_at
  exact sitofp_pos n

/-- The masked decay within a chunk, backward. -/
theorem post_v124 (h : Fin 8) (n m : Fin 128) : after hostOps0_8 (after hostOps0_7 X) (Proc.devRef .tc main_v124) (ix3 h n m)
    = decB (X (Proc.devRef .tc main_v18) (ix1 h)) n m := by
  after_reads_at
  simp only [sitofp_pos]
  have e : ((((n : ℕ) : ℝ) : EReal) - (((m : ℕ) : ℝ) : EReal)) = ((((n : ℕ) - (m : ℕ) : ℝ)) : EReal) := rfl
  have z : id (constant (F := Ideal) S_ FTy.f32 0#32) ix0 = (0 : EReal) := Ideal.ofBits_zero_f32
  rw [e, z]
  unfold decB
  by_cases hm : m < n
  · have hr : 0 < ((n : ℕ) : ℝ) - ((m : ℕ) : ℝ) := by rw [sub_pos]; exact_mod_cast hm
    rw [if_pos hm, if_pos (by exact_mod_cast hr), Cert.KernelIdeal.Val.coe_max_zero _ hr.le]
  · rw [if_neg hm, if_neg (fun h0 => hm ?_)]
    have h1 : 0 < ((n : ℕ) : ℝ) - ((m : ℕ) : ℝ) := by exact_mod_cast h0
    rw [sub_pos] at h1
    exact_mod_cast h1

/-- The backward output of a chunk's row, in reversed order. -/
theorem post_v147 (c : Fin 64) (b : Fin 4) (h : Fin 8) (n e : Fin 128) : after hostOps0_9 X (Proc.devRef .tc main_v147) (ix4 b h (row c n) e)
    = (∑ m, (∑ d, ck4 (X (Proc.devRef .tc main_v12)) b h c n d * ck4 (X (Proc.devRef .tc main_v13)) b h c m d)
          * asR (X (Proc.devRef .tc main_v124) (ix3 h n m)) * ck4 (X (Proc.devRef .tc main_v14)) b h c m e)
      + (∑ d, ck4 (X (Proc.devRef .tc main_v12)) b h c n d * asR (X (Proc.devRef .tc main_v107) (ix5 b h c d e)))
        * Ideal.exp (asR (X (Proc.devRef .tc main_v18) (ix1 h)) * (asR (X (Proc.devRef .tc main_v108) (ix1 n)) + 1)) := by
  after_reads_at
  simp only [row_div, row_mod, row_same, row_self]
  rfl

/-- The backward output, in natural order. -/
theorem post_v148 (b : Fin 4) (h : Fin 8) (t : Fin 8192) (e : Fin 128) : after hostOps0_10 X (Proc.devRef .tc main_v148) (ix4 b h t e)
    = X (Proc.devRef .tc main_v147) (ix4 b h (Fin.rev t) e) := by
  after_reads_at
  simp

/-- A row of a batch among the first 32768 rows. -/
def brow (b : Fin 4) (t : Fin 8192) : Fin 32768 := ⟨8192 * b.val + t.val, by omega⟩

/-- The batch of a row. -/
theorem brow_div (b : Fin 4) (t : Fin 8192) (hh : (brow b t).val / 8192 < 4) : (⟨(brow b t).val / 8192, hh⟩ : Fin 4) = b :=
  Fin.ext (by unfold brow; dsimp only; omega)
/-- The place of a row in its batch. -/
theorem brow_mod (b : Fin 4) (t : Fin 8192) (hh : (brow b t).val % 8192 < 8192) : (⟨(brow b t).val % 8192, hh⟩ : Fin 8192) = t :=
  Fin.ext (by unfold brow; dsimp only; omega)
/-- The head of a feature. -/
theorem lane8_div (h : Fin 8) (e : Fin 128) (hh : (lane8 h e).val / 128 < 8) : (⟨(lane8 h e).val / 128, hh⟩ : Fin 8) = h :=
  Fin.ext (by unfold lane8; dsimp only; omega)
/-- The place of a feature in its head. -/
theorem lane8_mod (h : Fin 8) (e : Fin 128) (hh : (lane8 h e).val % 128 < 128) : (⟨(lane8 h e).val % 128, hh⟩ : Fin 128) = e :=
  Fin.ext (by unfold lane8; dsimp only; omega)

/-- The sum of the directions, normalised and scaled. -/
theorem post_v172 (b : Fin 4) (t : Fin 8192) (h : Fin 8) (e : Fin 128) : after hostOps0_11 X (Proc.devRef .tc main_v172) (ix2 (brow b t) (lane8 h e))
    = unitRow (fun e => asR (X (Proc.devRef .tc main_v106) (ix4 b h t e)) + asR (X (Proc.devRef .tc main_v148) (ix4 b h t e))) e
        * asR (X (Proc.devRef .tc main_arg3) (ix1 (lane8 h e))) := by
  after_reads_at
  simp only [brow_div, brow_mod, lane8_div, lane8_mod, ofBits128]
  rfl

/-- The swish gate. -/
theorem post_v173 (r : Fin 32768) (j : Fin 1024) : after hostOps0_12 X (Proc.devRef .tc main_v173) (ix2 r j)
    = asR (X (Proc.devRef .tc main_v5) (ix2 r j)) * Ideal.logistic (X (Proc.devRef .tc main_v5) (ix2 r j)) := by
  after_reads_at
  rfl

/-- The first result on the latent rows. -/
theorem post_v177_lt (r : Fin 33792) (hr : r.val < 32768) (j : Fin 1024) : after hostOps0_13 X (Proc.devRef .tc main_v177) (ix2 r j)
    = asR (X (Proc.devRef .tc main_v173) (ix2 ⟨r.val, hr⟩ j)) * asR (X (Proc.devRef .tc main_v172) (ix2 ⟨r.val, hr⟩ j)) := by
  after_reads_at
  rw [dif_pos hr]

/-- The first result on the other rows: the previous output. -/
theorem post_v177_ge (r : Fin 33792) (hr : ¬ r.val < 32768) (j : Fin 1024) : after hostOps0_13 X (Proc.devRef .tc main_v177) (ix2 r j)
    = X (Proc.devRef .tc main_arg5) (ix2 r j) := by
  after_reads_at
  rw [dif_neg hr]
  have hj : ∀ k : Fin 33792, k = r → X (Proc.devRef .tc main_arg5) (ix2 k j) = X (Proc.devRef .tc main_arg5) (ix2 r j) := fun k hk => by rw [hk]
  exact hj _ (Fin.ext (by dsimp only; omega))

/-- The second result: the two final states. -/
theorem post_v180 (b : Fin 4) (h : Fin 8) (dir : Fin 2) (d e : Fin 128) : after hostOps0_13 X (Proc.devRef .tc main_v180) (ix5 b h dir d e)
    = if dir.val = 0 then X (Proc.devRef .tc main_v65_5) (ix4 b h d e) else X (Proc.devRef .tc main_v65_6) (ix4 b h d e) := by
  after_reads_at
  by_cases hd : dir.val = 0
  · rw [if_pos hd, dif_pos (by omega)]
  · rw [if_neg hd, dif_neg (by omega)]

end Cert.ReferenceIdeal.Val
end
end
-- ==== Proof.Retention.RefScan.lean ====
module

public import proofs.«01_k».proof.Proof.Gen.ReferenceIdeal.Run
public import Idealize.ShloMosaic.Lib.Pointwise
public import Idealize.ShloMosaic.Lib.DynamicIndex
public import Idealize.ShloMosaic.Lib.Pipeline.Value
public import Idealize.ShloMosaic.Lib.StableHlo.ReadAt
public import proofs.«01_k».proof.Proof.Retention.Result
public import proofs.«01_k».proof.Proof.Retention.RefPost

@[expose] public section
set_option maxRecDepth 16384
noncomputable section
open Idealize.ShloMosaic Idealize.ShloMosaic.TcCoe Idealize.SL.Sem Idealize.ShloMosaic.StableHlo
namespace Cert.ReferenceIdeal.Val
open Cert.ReferenceIdeal Cert.ReferenceIdeal.Gen Cert.ReferenceIdeal.Value
open Cert.Retention
open Cert.KernelIdeal.Val (sitofp_pos ofBits127 ofBits128)

variable (V : Valuation τ sig (Elt Ideal))

/-! ## One trip of the loop, read at an index -/

/-- The trip counter as an integer. -/
theorem toInt_iv (k : ℕ) (hk : k < 64) : (Scf.iv (0#32 : BitVec 32) 1#32 k).toInt = (k : ℤ) := by
  have e : Scf.iv (0#32 : BitVec 32) 1#32 k = BitVec.ofNat 32 k := by simp [Scf.iv]
  rw [e, BitVec.toInt_ofNat']
  exact Int.bmod_eq_of_le (by omega) (by omega)

/-- The start of the window that a trip reads and writes: the trip's own row. -/
theorem start_eq (k : Fin 64) (V4 : (⟨S_, .i32⟩ : BufTy).Contents (Elt Ideal)) (hc : V4 = fun _ => Scf.iv 0#32 1#32 k.val) (a : Fin 5) :
    ((![V4, constantI S_ 32 0#32, constantI S_ 32 0#32, constantI S_ 32 0#32, constantI S_ 32 0#32] : Fin 5 → (⟨S_, .i32⟩ : BufTy).Contents (Elt Ideal)) a
      (Shape.Idx.first h_S_)).toInt = (((![k.val, 0, 0, 0, 0] : Fin 5 → ℕ) a : ℕ) : ℤ) := by
  subst hc
  fin_cases a
  · exact toInt_iv k.val k.isLt
  all_goals rfl

/-- One chunk's slice is inside the array. -/
theorem slices_k (k : Fin 64) : S64x4x8x128x128.Slices (![k.val, 0, 0, 0, 0] : Fin 5 → ℕ) S1x4x8x128x128 := by
  refine ⟨rfl, fun a => ?_⟩
  have := k.isLt
  fin_cases a <;> simp [S64x4x8x128x128, S1x4x8x128x128, Shape.size] <;> omega

/-- The row that a trip reads from the chunks' additions. -/
theorem dyn_at (k : Fin 64) (A : (⟨S64x4x8x128x128, .f32⟩ : BufTy).Contents (Elt Ideal)) (V4 : (⟨S_, .i32⟩ : BufTy).Contents (Elt Ideal))
    (hc : V4 = fun _ => Scf.iv 0#32 1#32 k.val) (b : Fin 4) (h : Fin 8) (d e : Fin 128) :
    shapeCast S4x8x128x128 (Host.dynamicSlice S1x4x8x128x128 A
        (fun k => ((![V4, constantI S_ 32 0#32, constantI S_ 32 0#32, constantI S_ 32 0#32, constantI S_ 32 0#32] : Fin 5 → (⟨S_, .i32⟩ : BufTy).Contents (Elt Ideal)) k
          (Shape.Idx.first h_S_)).toInt) sliceFits_S64x4x8x128x128_S1x4x8x128x128) shapeCasts_S1x4x8x128x128_S4x8x128x128 (ix4 b h d e) = A (ix5 k b h d e) := by
  rw [Host.dynamicSlice_eq_extractStridedSlice (s := S64x4x8x128x128) S1x4x8x128x128 _ _ (![k.val, 0, 0, 0, 0] : Fin 5 → ℕ) _ (slices_k k) (start_eq k _ hc)]
  pointwise

/-- A buffer with the row of a trip written over it. -/
theorem upd_at (k : Fin 64) (A : (⟨S64x4x8x128x128, .f32⟩ : BufTy).Contents (Elt Ideal)) (B : (⟨S4x8x128x128, .f32⟩ : BufTy).Contents (Elt Ideal))
    (V4 : (⟨S_, .i32⟩ : BufTy).Contents (Elt Ideal))
    (hc : V4 = fun _ => Scf.iv 0#32 1#32 k.val) (j : Fin 64) (b : Fin 4) (h : Fin 8) (d e : Fin 128) :
    Host.dynamicUpdateSlice A (broadcastInDim S1x4x8x128x128 ![1, 2, 3, 4] bcast_S4x8x128x128_S1x4x8x128x128_1_2_3_4 B)
        (fun k => ((![V4, constantI S_ 32 0#32, constantI S_ 32 0#32, constantI S_ 32 0#32, constantI S_ 32 0#32] : Fin 5 → (⟨S_, .i32⟩ : BufTy).Contents (Elt Ideal)) k
          (Shape.Idx.first h_S_)).toInt) updateFits_S64x4x8x128x128_S1x4x8x128x128 (ix5 j b h d e) = if j = k then B (ix4 b h d e) else A (ix5 j b h d e) := by
  rw [Host.dynamicUpdateSlice_eq_updateSlice (s := S64x4x8x128x128) (u := S1x4x8x128x128) _ _ _ _ (![k.val, 0, 0, 0, 0] : Fin 5 → ℕ) (fun a => by
    rw [start_eq k _ hc a]
    have := k.isLt
    fin_cases a <;> simp [S64x4x8x128x128, S1x4x8x128x128, Shape.size] <;> omega) (slices_k k)]
  pointwise
  by_cases hj : j = k
  · subst hj
    rw [if_pos rfl, dif_pos ⟨le_rfl, Nat.lt_succ_self _⟩]
  · rw [if_neg hj, dif_neg (fun hh => hj (Fin.ext (by omega)))]

variable (hE : ∀ k, (STEP^[k] V) (Proc.devRef .tc main_v65_4) = fun _ => Scf.iv 0#32 1#32 k)

/-- One trip takes the forward state on by one chunk. -/
theorem step5_at (k : Fin 64) (hc : V (Proc.devRef .tc main_v65_4) = fun _ => Scf.iv 0#32 1#32 k.val) (b : Fin 4) (h : Fin 8) (d e : Fin 128) :
    step_main_v65_5 V (ix4 b h d e) = asR (V (Proc.devRef .tc main_v65_2) (ix4 0 h 0 0)) * asR (V (Proc.devRef .tc main_v65_5) (ix4 b h d e))
      + asR (V (Proc.devRef .tc main_v65_0) (ix5 k b h d e)) := by
  unfold step_main_v65_5
  refine congrArg₂ (fun a b : EReal => a + b) (?_ : mulf _ _ _ = _) (dyn_at k _ _ hc b h d e)
  pointwise

/-- One trip keeps the forward state that it begins with. -/
theorem step7_at (k : Fin 64) (hc : V (Proc.devRef .tc main_v65_4) = fun _ => Scf.iv 0#32 1#32 k.val) (j : Fin 64) (b : Fin 4) (h : Fin 8) (d e : Fin 128) :
    step_main_v65_7 V (ix5 j b h d e) = if j = k then asR (V (Proc.devRef .tc main_v65_5) (ix4 b h d e)) else asR (V (Proc.devRef .tc main_v65_7) (ix5 j b h d e)) :=
  upd_at k _ _ _ hc j b h d e

/-- The loop's trips keep the forward decay. -/
theorem keep2 (k : ℕ) : (STEP^[k] V) (Proc.devRef .tc main_v65_2) = V (Proc.devRef .tc main_v65_2) := by
  induction k with
  | zero => rfl
  | succ k ih => rw [Function.iterate_succ_apply', STEP_main_v65_2, ih]
/-- The loop's trips keep the forward sums. -/
theorem keep0 (k : ℕ) : (STEP^[k] V) (Proc.devRef .tc main_v65_0) = V (Proc.devRef .tc main_v65_0) := by
  induction k with
  | zero => rfl
  | succ k ih => rw [Function.iterate_succ_apply', STEP_main_v65_0, ih]

/-- The forward state of one head as the loop begins it, and what the loop adds to it at each step. -/
def seq5 (b : Fin 4) (h : Fin 8) : ℕ → Mat :=
  state (V (Proc.devRef .tc main_v65_2) (ix4 0 h 0 0)) (fun d e => V (Proc.devRef .tc main_v65_5) (ix4 b h d e))
    (fun n d e => V (Proc.devRef .tc main_v65_0) (ix5 (fwd n) b h d e))

include hE in
/-- The forward state after `k` trips. -/
theorem scan5 (b : Fin 4) (h : Fin 8) (d e : Fin 128) : ∀ k ≤ 64, (STEP^[k] V) (Proc.devRef .tc main_v65_5) (ix4 b h d e) = seq5 V b h k d e
  | 0, _ => rfl
  | k + 1, hk => by
    rw [Function.iterate_succ_apply', STEP_main_v65_5, step5_at _ ⟨k, by omega⟩ (hE k), keep2, keep0, scan5 b h d e k (by omega)]
    have hf : (⟨k, by omega⟩ : Fin 64) = fwd k := Fin.ext (by unfold fwd; dsimp only; omega)
    rw [hf]
    rfl

include hE in
/-- The forward states kept by `k` trips: before each of the first `k` chunks. -/
theorem kept7 (j : Fin 64) (b : Fin 4) (h : Fin 8) (d e : Fin 128) : ∀ k ≤ 64, j.val < k →
    (STEP^[k] V) (Proc.devRef .tc main_v65_7) (ix5 j b h d e) = seq5 V b h j.val d e
  | k + 1, hk, hj => by
    rw [Function.iterate_succ_apply', STEP_main_v65_7, step7_at _ ⟨k, by omega⟩ (hE k)]
    by_cases hjk : j = ⟨k, by omega⟩
    · rw [if_pos hjk, scan5 V hE b h d e k (by omega), hjk]
    · rw [if_neg hjk]
      exact kept7 j b h d e k (by omega) (by have : j.val ≠ k := fun hh => hjk (Fin.ext hh); omega)

/-- One trip takes the backward state on by one chunk. -/
theorem step6_at (k : Fin 64) (hc : V (Proc.devRef .tc main_v65_4) = fun _ => Scf.iv 0#32 1#32 k.val) (b : Fin 4) (h : Fin 8) (d e : Fin 128) :
    step_main_v65_6 V (ix4 b h d e) = asR (V (Proc.devRef .tc main_v65_3) (ix4 0 h 0 0)) * asR (V (Proc.devRef .tc main_v65_6) (ix4 b h d e))
      + asR (V (Proc.devRef .tc main_v65_1) (ix5 k b h d e)) := by
  unfold step_main_v65_6
  refine congrArg₂ (fun a b : EReal => a + b) (?_ : mulf _ _ _ = _) (dyn_at k _ _ hc b h d e)
  pointwise

/-- One trip keeps the backward state that it begins with. -/
theorem step8_at (k : Fin 64) (hc : V (Proc.devRef .tc main_v65_4) = fun _ => Scf.iv 0#32 1#32 k.val) (j : Fin 64) (b : Fin 4) (h : Fin 8) (d e : Fin 128) :
    step_main_v65_8 V (ix5 j b h d e) = if j = k then asR (V (Proc.devRef .tc main_v65_6) (ix4 b h d e)) else asR (V (Proc.devRef .tc main_v65_8) (ix5 j b h d e)) :=
  upd_at k _ _ _ hc j b h d e

/-- The loop's trips keep the backward decay. -/
theorem keep3 (k : ℕ) : (STEP^[k] V) (Proc.devRef .tc main_v65_3) = V (Proc.devRef .tc main_v65_3) := by
  induction k with
  | zero => rfl
  | succ k ih => rw [Function.iterate_succ_apply', STEP_main_v65_3, ih]
/-- The loop's trips keep the backward sums. -/
theorem keep1 (k : ℕ) : (STEP^[k] V) (Proc.devRef .tc main_v65_1) = V (Proc.devRef .tc main_v65_1) := by
  induction k with
  | zero => rfl
  | succ k ih => rw [Function.iterate_succ_apply', STEP_main_v65_1, ih]

/-- The backward state of one head as the loop begins it, and what the loop adds to it at each step. -/
def seq6 (b : Fin 4) (h : Fin 8) : ℕ → Mat :=
  state (V (Proc.devRef .tc main_v65_3) (ix4 0 h 0 0)) (fun d e => V (Proc.devRef .tc main_v65_6) (ix4 b h d e))
    (fun n d e => V (Proc.devRef .tc main_v65_1) (ix5 (fwd n) b h d e))

include hE in
/-- The backward state after `k` trips. -/
theorem scan6 (b : Fin 4) (h : Fin 8) (d e : Fin 128) : ∀ k ≤ 64, (STEP^[k] V) (Proc.devRef .tc main_v65_6) (ix4 b h d e) = seq6 V b h k d e
  | 0, _ => rfl
  | k + 1, hk => by
    rw [Function.iterate_succ_apply', STEP_main_v65_6, step6_at _ ⟨k, by omega⟩ (hE k), keep3, keep1, scan6 b h d e k (by omega)]
    have hf : (⟨k, by omega⟩ : Fin 64) = fwd k := Fin.ext (by unfold fwd; dsimp only; omega)
    rw [hf]
    rfl

include hE in
/-- The backward states kept by `k` trips: before each of the first `k` chunks. -/
theorem kept8 (j : Fin 64) (b : Fin 4) (h : Fin 8) (d e : Fin 128) : ∀ k ≤ 64, j.val < k →
    (STEP^[k] V) (Proc.devRef .tc main_v65_8) (ix5 j b h d e) = seq6 V b h j.val d e
  | k + 1, hk, hj => by
    rw [Function.iterate_succ_apply', STEP_main_v65_8, step8_at _ ⟨k, by omega⟩ (hE k)]
    by_cases hjk : j = ⟨k, by omega⟩
    · rw [if_pos hjk, scan6 V hE b h d e k (by omega), hjk]
    · rw [if_neg hjk]
      exact kept8 j b h d e k (by omega) (by have : j.val ≠ k := fun hh => hjk (Fin.ext hh); omega)

end Cert.ReferenceIdeal.Val
end
end
-- ==== Proof.Retention.RefMath.lean ====
module

public import proofs.«01_k».proof.Proof.Gen.ReferenceIdeal.Run
public import Idealize.ShloMosaic.Lib.Pointwise
public import Idealize.ShloMosaic.Lib.DynamicIndex
public import Idealize.ShloMosaic.Lib.Pipeline.Value
public import Idealize.ShloMosaic.Lib.StableHlo.ReadAt
public import proofs.«01_k».proof.Proof.Retention.Result
public import proofs.«01_k».proof.Proof.Retention.RefScan

@[expose] public section
set_option maxRecDepth 16384
noncomputable section
open Idealize.ShloMosaic Idealize.ShloMosaic.TcCoe Idealize.SL.Sem Idealize.ShloMosaic.StableHlo
namespace Cert.ReferenceIdeal.Val
open Cert.ReferenceIdeal Cert.ReferenceIdeal.Gen Cert.ReferenceIdeal.Value
open Cert.Retention
open Cert.KernelIdeal.Val (sitofp_pos ofBits127 ofBits128)

/-! ## The reversed sequence against the sequence itself -/

/-- The reversal of a row: the mirrored row of the mirrored chunk. -/
theorem rev_row (c : Fin 64) (m : Fin 128) : Fin.rev (row c m) = row (Fin.rev c) (Fin.rev m) :=
  Fin.ext (by unfold row; simp only [Fin.val_rev]; omega)

/-- The chunks of the reversed sequence. -/
def revC (A : Chunks) : Chunks := fun c m d => A (Fin.rev c) (Fin.rev m) d

/-- The keys' weights of the two directions mirror each other. -/
theorem zetaF_rev (l : EReal) (m : Fin 128) : zetaF l (Fin.rev m) = zetaB l m := by
  unfold zetaF zetaB
  have hm : (((Fin.rev m : Fin 128) : ℕ) : ℝ) = 127 - ((m : ℕ) : ℝ) := by
    rw [Fin.val_rev, Nat.cast_sub (by omega)]; push_cast; ring
  rw [hm]
  congr 3
  ring

/-- The states' weights of the two directions mirror each other. -/
theorem xiF_rev (l : EReal) (n : Fin 128) : xiF l (Fin.rev n) = xiB l n := by
  unfold xiF xiB
  have hm : (((Fin.rev n : Fin 128) : ℕ) : ℝ) = 127 - ((n : ℕ) : ℝ) := by
    rw [Fin.val_rev, Nat.cast_sub (by omega)]; push_cast; ring
  rw [hm]
  congr 3
  ring

/-- What a chunk of the reversed sequence adds to the state is what the chunk itself adds, back to front. -/
theorem upd_rev (l : EReal) (K V : Chunks) (c : Fin 64) : upd (zetaF l) (revC K) (revC V) c = upd (zetaB l) K V (Fin.rev c) := by
  funext d e
  unfold upd revC
  refine (Equiv.sum_comp Fin.revPerm _).symm.trans (Finset.sum_congr rfl fun m _ => ?_)
  simp only [Fin.revPerm_apply, Fin.rev_rev, zetaF_rev]

/-- A state depends only on the steps before it. -/
theorem state_congr (g : EReal) (s0 : Mat) (u u' : ℕ → Mat) : ∀ k, (∀ n < k, u n = u' n) → state g s0 u k = state g s0 u' k
  | 0, _ => rfl
  | k + 1, hu => by
    unfold state
    rw [state_congr g s0 u u' k fun n hn => hu n (by omega), hu k (by omega)]

/-- The state of the reversed sequence, front to back, is the state of the sequence, back to front. -/
theorem state_rev (l : EReal) (s0 : Mat) (K V : Chunks) (k : ℕ) (hk : k ≤ 64) :
    state (gam l) s0 (fun n => upd (zetaF l) (revC K) (revC V) (fwd n)) k = stB l s0 K V k := by
  refine state_congr _ _ _ _ k fun n hn => ?_
  rw [upd_rev]
  congr 1
  exact Fin.ext (by unfold fwd bwd; simp only [Fin.val_rev]; omega)

/-- The backward weight on the reversed sequence. -/
theorem decB_rev (l : EReal) (n m : Fin 128) : decB l (Fin.rev n) (Fin.rev m)
    = if n < m then Ideal.exp (l * ((((m : ℕ) - (n : ℕ) : ℝ)) : EReal)) else 0 := by
  unfold decB
  have hr : ∀ k : Fin 128, (((Fin.rev k : Fin 128) : ℕ) : ℝ) = 127 - ((k : ℕ) : ℝ) := fun k => by
    rw [Fin.val_rev, Nat.cast_sub (by omega)]; push_cast; ring
  rw [hr, hr]
  have e : (127 - ((n : ℕ) : ℝ)) - (127 - ((m : ℕ) : ℝ)) = ((m : ℕ) : ℝ) - ((n : ℕ) : ℝ) := by ring
  rw [e]
  simp only [Fin.rev_lt_rev]

/-- The forward and the backward term of a key add up to the term with the joint weight: one of the two is zero. -/
theorem decay_split (lf lb : EReal) (n m : Fin 128) (a v : EReal) :
    a * decF lf n m * v + a * decB lb (Fin.rev n) (Fin.rev m) * v = a * decay lf lb n m * v := by
  rw [decB_rev]
  unfold decF decay
  by_cases hm : m ≤ n
  · rw [if_pos hm, if_pos hm, if_neg (not_lt.mpr hm), mul_zero, zero_mul, add_zero]
  · rw [if_neg hm, if_neg hm, if_pos (not_le.mp hm), mul_zero, zero_mul, zero_add]

/-- The retention's output is the forward output of the sequence and the forward output of the reversed sequence, reversed. -/
theorem mix_split (lf lb : EReal) (Q K V : Chunks) (SF SB : Mat) (c : Fin 64) (n e : Fin 128) :
    ((∑ m, (∑ d, Q c n d * K c m d) * decF lf n m * V c m e) + (∑ d, Q c n d * SF d e) * xiF lf n)
      + ((∑ m, (∑ d, revC Q (Fin.rev c) (Fin.rev n) d * revC K (Fin.rev c) m d) * decB lb (Fin.rev n) m * revC V (Fin.rev c) m e)
        + (∑ d, revC Q (Fin.rev c) (Fin.rev n) d * SB d e) * xiF lb (Fin.rev n))
      = mix lf lb Q K V SF SB c n e := by
  unfold revC mix
  rw [add_add_add_comm, ← add_assoc]
  simp only [Fin.rev_rev, xiF_rev]
  congr 2
  rw [← Equiv.sum_comp Fin.revPerm (fun m => (∑ d, Q c n d * K c (Fin.rev m) d) * decB lb (Fin.rev n) m * V c (Fin.rev m) e), ← Finset.sum_add_distrib]
  refine Finset.sum_congr rfl fun m _ => ?_
  simp only [Fin.revPerm_apply, Fin.rev_rev]
  exact decay_split lf lb n m _ _

end Cert.ReferenceIdeal.Val
end
end
-- ==== Proof.Retention.RefKeep.lean ====
module

public import proofs.«01_k».proof.Proof.Gen.ReferenceIdeal.Run
public import Idealize.ShloMosaic.Lib.Pointwise
public import Idealize.ShloMosaic.Lib.DynamicIndex
public import Idealize.ShloMosaic.Lib.Pipeline.Value
public import Idealize.ShloMosaic.Lib.StableHlo.ReadAt
public import proofs.«01_k».proof.Proof.Retention.Result
public import proofs.«01_k».proof.Proof.Retention.RefMath

@[expose] public section
set_option maxRecDepth 16384
noncomputable section
open Idealize.ShloMosaic Idealize.ShloMosaic.TcCoe Idealize.SL.Sem Idealize.ShloMosaic.StableHlo
namespace Cert.ReferenceIdeal.Val
open Cert.ReferenceIdeal Cert.ReferenceIdeal.Gen Cert.ReferenceIdeal.Value
open Cert.Retention
open Cert.KernelIdeal.Val (sitofp_pos ofBits127 ofBits128)

/-! ## What each stretch of operations leaves as it was -/

/-- The buffers that stretch 5 writes. -/
abbrev W5 : List (Ref sig .tc) := [main_v66, main_v67, main_v68, main_v69, main_v70, main_v71, main_v72, main_cst_5, main_v73, main_v74, main_v75, main_cst_6, main_v76, main_v77, main_v78, main_v79, main_v80, main_v81, main_v82, main_cst_7]
/-- What stretch 5 writes. -/
theorem writes5 : (hostOps0_5 : List (HloOp τ sig (Elt Ideal))).Forall fun op => op.writes ⊆ (W5.map (Proc.devRef (τ := τ) .tc)).toFinset :=
  StableHlo.forall_writes_sub_of_map rfl
/-- The buffers that stretch 6 writes. -/
abbrev W6 : List (Ref sig .tc) := [main_call7_v0, main_call7_v1, main_call7_v2, main_v83]
/-- What stretch 6 writes. -/
theorem writes6 : (hostOps0_6 : List (HloOp τ sig (Elt Ideal))).Forall fun op => op.writes ⊆ (W6.map (Proc.devRef (τ := τ) .tc)).toFinset :=
  StableHlo.forall_writes_sub_of_map rfl
/-- The buffers that stretch 7 writes. -/
abbrev W7 : List (Ref sig .tc) := [main_v84, main_v85, main_v86, main_v87, main_v88, main_v89, main_v90, main_v91, main_v92, main_cst_8, main_v93, main_v94, main_v95, main_v96, main_v97, main_v98, main_v99, main_v100, main_v101, main_v102, main_v103, main_v104, main_v105, main_v106, main_v107, main_v108, main_v109, main_v110, main_v111, main_v112, main_v113, main_cst_9, main_v114, main_v115, main_v116, main_cst_10, main_v117, main_v118, main_v119, main_v120, main_v121, main_v122, main_v123, main_cst_11]
/-- What stretch 7 writes. -/
theorem writes7 : (hostOps0_7 : List (HloOp τ sig (Elt Ideal))).Forall fun op => op.writes ⊆ (W7.map (Proc.devRef (τ := τ) .tc)).toFinset :=
  StableHlo.forall_writes_sub_of_map rfl
/-- The buffers that stretch 8 writes. -/
abbrev W8 : List (Ref sig .tc) := [main_call8_v0, main_call8_v1, main_call8_v2, main_v124]
/-- What stretch 8 writes. -/
theorem writes8 : (hostOps0_8 : List (HloOp τ sig (Elt Ideal))).Forall fun op => op.writes ⊆ (W8.map (Proc.devRef (τ := τ) .tc)).toFinset :=
  StableHlo.forall_writes_sub_of_map rfl
/-- The buffers that stretch 9 writes. -/
abbrev W9 : List (Ref sig .tc) := [main_v125, main_v126, main_v127, main_v128, main_v129, main_v130, main_v131, main_v132, main_v133, main_cst_12, main_v134, main_v135, main_v136, main_v137, main_v138, main_v139, main_v140, main_v141, main_v142, main_v143, main_v144, main_v145, main_v146, main_v147]
/-- What stretch 9 writes. -/
theorem writes9 : (hostOps0_9 : List (HloOp τ sig (Elt Ideal))).Forall fun op => op.writes ⊆ (W9.map (Proc.devRef (τ := τ) .tc)).toFinset :=
  StableHlo.forall_writes_sub_of_map rfl
/-- The buffers that stretch 10 writes. -/
abbrev W10 : List (Ref sig .tc) := [main_v148]
/-- What stretch 10 writes. -/
theorem writes10 : (hostOps0_10 : List (HloOp τ sig (Elt Ideal))).Forall fun op => op.writes ⊆ (W10.map (Proc.devRef (τ := τ) .tc)).toFinset :=
  StableHlo.forall_writes_sub_of_map rfl
/-- The buffers that stretch 11 writes. -/
abbrev W11 : List (Ref sig .tc) := [main_v149, main_v150, main_cst_13, main_v151, main_v152, main_cst_14, main_v153, main_v154, main_v155, main_v156, main_v157, main_cst_15, main_v158, main_v159, main_cst_16, main_v160, main_v161, main_v162, main_v163, main_cst_17, main_v164, main_v165, main_v166, main_v167, main_v168, main_v169, main_v170, main_v171, main_v172]
/-- What stretch 11 writes. -/
theorem writes11 : (hostOps0_11 : List (HloOp τ sig (Elt Ideal))).Forall fun op => op.writes ⊆ (W11.map (Proc.devRef (τ := τ) .tc)).toFinset :=
  StableHlo.forall_writes_sub_of_map rfl
/-- The buffers that stretch 12 writes. -/
abbrev W12 : List (Ref sig .tc) := [main_call10_v0, main_call10_v1, main_call10_cst, main_call10_v2, main_call10_v3, main_call10_cst_0, main_call10_v4, main_call10_v5, main_v173]
/-- What stretch 12 writes. -/
theorem writes12 : (hostOps0_12 : List (HloOp τ sig (Elt Ideal))).Forall fun op => op.writes ⊆ (W12.map (Proc.devRef (τ := τ) .tc)).toFinset :=
  StableHlo.forall_writes_sub_of_map rfl
/-- The buffers that stretch 13 writes. -/
abbrev W13 : List (Ref sig .tc) := [main_v174, main_v175, main_v176, main_v177, main_v178, main_v179, main_v180]
/-- What stretch 13 writes. -/
theorem writes13 : (hostOps0_13 : List (HloOp τ sig (Elt Ideal))).Forall fun op => op.writes ⊆ (W13.map (Proc.devRef (τ := τ) .tc)).toFinset :=
  StableHlo.forall_writes_sub_of_map rfl

end Cert.ReferenceIdeal.Val
end
end
-- ==== Proof.Retention.RefLoop.lean ====
module

public import proofs.«01_k».proof.Proof.Gen.ReferenceIdeal.Run
public import Idealize.ShloMosaic.Lib.Pointwise
public import Idealize.ShloMosaic.Lib.DynamicIndex
public import Idealize.ShloMosaic.Lib.Pipeline.Value
public import Idealize.ShloMosaic.Lib.StableHlo.ReadAt
public import proofs.«01_k».proof.Proof.Retention.Result
public import proofs.«01_k».proof.Proof.Retention.RefKeep

@[expose] public section
set_option maxRecDepth 16384
noncomputable section
open Idealize.ShloMosaic Idealize.ShloMosaic.TcCoe Idealize.SL.Sem Idealize.ShloMosaic.StableHlo
namespace Cert.ReferenceIdeal.Val
open Cert.ReferenceIdeal Cert.ReferenceIdeal.Gen Cert.ReferenceIdeal.Value
open Cert.Retention
open Cert.KernelIdeal.Val (sitofp_pos ofBits127 ofBits128)

variable (m : (ℓ : Loc nD τ sig) → Buf (Elt Ideal) ℓ) (ρ : Dev nD → PrngReg) (c : Dev nD)

/-! ## The buffers before the loop -/

/-- After the second of the stretches: the parts of the input. -/
def Z0 : Valuation τ sig (Elt Ideal) := after hostOps0 (launchContents m c)
/-- After the first reversal. -/
def Z1 : Valuation τ sig (Elt Ideal) := after hostOps0_1 (Z0 m c)
/-- After the second reversal. -/
def Z2 : Valuation τ sig (Elt Ideal) := after hostOps0_2 (Z1 m c)
/-- After the reversals. -/
def Z3 : Valuation τ sig (Elt Ideal) := after hostOps0_3 (Z2 m c)
/-- When the loop begins. -/
def E : Valuation τ sig (Elt Ideal) := after hostOps0_4 (Z3 m c)
/-- When the loop has ended. -/
def Y : Valuation τ sig (Elt Ideal) := after condOps (atK m 64 c)
/-- After stretch 5. -/
def P5 : Valuation τ sig (Elt Ideal) := after hostOps0_5 (Y m c)
/-- After stretch 6. -/
def P6 : Valuation τ sig (Elt Ideal) := after hostOps0_6 (P5 m c)
/-- After stretch 7. -/
def P7 : Valuation τ sig (Elt Ideal) := after hostOps0_7 (P6 m c)
/-- After stretch 8. -/
def P8 : Valuation τ sig (Elt Ideal) := after hostOps0_8 (P7 m c)
/-- After stretch 9. -/
def P9 : Valuation τ sig (Elt Ideal) := after hostOps0_9 (P8 m c)
/-- After stretch 10. -/
def P10 : Valuation τ sig (Elt Ideal) := after hostOps0_10 (P9 m c)
/-- After stretch 11. -/
def P11 : Valuation τ sig (Elt Ideal) := after hostOps0_11 (P10 m c)
/-- After stretch 12. -/
def P12 : Valuation τ sig (Elt Ideal) := after hostOps0_12 (P11 m c)
/-- When the program has ended. -/
def P13 : Valuation τ sig (Elt Ideal) := after hostOps0_13 (P12 m c)

/-- The loop begins with the buffers `E`. -/
theorem E_eq : entryContents preI m c = E m c := rfl
/-- The program ends with the buffers `P13`. -/
theorem P13_eq : finalContents condOps preI bodyI postI 64 m c = P13 m c := rfl

/-- A buffer that no reversal writes is as it was before the reversals. -/
theorem Z3_keep (r : Ref sig .tc) (h1 : r ∉ hostOps0_1_W)
    (h2 : r ∉ hostOps0_2_W)
    (h3 : r ∉ hostOps0_3_W) :
    Z3 m c (Proc.devRef .tc r) = Z0 m c (Proc.devRef .tc r) :=
  (after_of_writes_sub hostOps0_3 _ hostOps0_3_writes h3).trans
    ((after_of_writes_sub hostOps0_2 _ hostOps0_2_writes h2).trans (after_of_writes_sub hostOps0_1 _ hostOps0_1_writes h1))
/-- A buffer that only later stretches write is as it was at the launch. -/
theorem Z0_keep (r : Ref sig .tc) (h0 : r ∉ hostOps0_W) :
    Z0 m c (Proc.devRef .tc r) = m ((c.tc : Thread nD τ).loc r) :=
  (after_of_writes_sub hostOps0 _ hostOps0_writes h0).trans rfl
/-- A buffer that the last stretch before the loop does not write. -/
theorem E_keep (r : Ref sig .tc) (h4 : r ∉ hostOps0_4_W) :
    E m c (Proc.devRef .tc r) = Z3 m c (Proc.devRef .tc r) :=
  after_of_writes_sub hostOps0_4 _ hostOps0_4_writes h4

/-- The input sequence. -/
abbrev zIn : Seq := fun r j => m ((c.tc : Thread nD τ).loc main_arg0) (ix2 r j)
/-- The forward log decays. -/
abbrev lfIn : Fin 8 → EReal := fun h => -Ideal.exp (m ((c.tc : Thread nD τ).loc main_arg1) (ix1 h))
/-- The backward log decays. -/
abbrev lbIn : Fin 8 → EReal := fun h => -Ideal.exp (m ((c.tc : Thread nD τ).loc main_arg2) (ix1 h))
/-- The scales. -/
abbrev gnIn : Fin 1024 → EReal := fun j => m ((c.tc : Thread nD τ).loc main_arg3) (ix1 j)
/-- The states that come in. -/
abbrev s0In : Fin 4 → Fin 8 → Fin 2 → Mat := fun b h r d e => m ((c.tc : Thread nD τ).loc main_arg4) (ix5 b h r d e)
/-- The previous output. -/
abbrev prevIn : Fin 33792 → Fin 1024 → EReal := fun r j => m ((c.tc : Thread nD τ).loc main_arg5) (ix2 r j)

/-- The queries of a head by chunks. -/
theorem Z3_q (b : Fin 4) (h : Fin 8) : ck4 (Z3 m c (Proc.devRef .tc main_v7)) b h = chunks (zIn m c) b 0 h := by
  rw [Z3_keep m c main_v7 (by decide +kernel) (by decide +kernel) (by decide +kernel)]
  funext k n d
  exact pre_v7 _ b h (row k n) d
/-- The keys of a head by chunks. -/
theorem Z3_k (b : Fin 4) (h : Fin 8) : ck4 (Z3 m c (Proc.devRef .tc main_v9)) b h = chunks (zIn m c) b 1 h := by
  rw [Z3_keep m c main_v9 (by decide +kernel) (by decide +kernel) (by decide +kernel)]
  funext k n d
  exact pre_v9 _ b h (row k n) d
/-- The values of a head by chunks. -/
theorem Z3_v (b : Fin 4) (h : Fin 8) : ck4 (Z3 m c (Proc.devRef .tc main_v11)) b h = chunks (zIn m c) b 2 h := by
  rw [Z3_keep m c main_v11 (by decide +kernel) (by decide +kernel) (by decide +kernel)]
  funext k n d
  exact pre_v11 _ b h (row k n) d
/-- The reversed queries of a head by chunks. -/
theorem Z3_qr (b : Fin 4) (h : Fin 8) : ck4 (Z3 m c (Proc.devRef .tc main_v12)) b h = revC (chunks (zIn m c) b 0 h) := by
  have e : Z3 m c (Proc.devRef .tc main_v12) = Z1 m c (Proc.devRef .tc main_v12) :=
    (after_of_writes_sub hostOps0_3 _ hostOps0_3_writes (by decide +kernel)).trans (after_of_writes_sub hostOps0_2 _ hostOps0_2_writes (by decide +kernel))
  rw [e]
  funext k n d
  refine (pre_v12 _ b h (row k n) d).trans ?_
  rw [rev_row]
  exact pre_v7 _ b h _ d
/-- The reversed keys of a head by chunks. -/
theorem Z3_kr (b : Fin 4) (h : Fin 8) : ck4 (Z3 m c (Proc.devRef .tc main_v13)) b h = revC (chunks (zIn m c) b 1 h) := by
  have e : Z3 m c (Proc.devRef .tc main_v13) = Z2 m c (Proc.devRef .tc main_v13) :=
    after_of_writes_sub hostOps0_3 _ hostOps0_3_writes (by decide +kernel)
  have e1 : Z1 m c (Proc.devRef .tc main_v9) = Z0 m c (Proc.devRef .tc main_v9) := after_of_writes_sub hostOps0_1 _ hostOps0_1_writes (by decide +kernel)
  rw [e]
  funext k n d
  refine (pre_v13 _ b h (row k n) d).trans ?_
  rw [rev_row, e1]
  exact pre_v9 _ b h _ d
/-- The reversed values of a head by chunks. -/
theorem Z3_vr (b : Fin 4) (h : Fin 8) : ck4 (Z3 m c (Proc.devRef .tc main_v14)) b h = revC (chunks (zIn m c) b 2 h) := by
  have e1 : Z2 m c (Proc.devRef .tc main_v11) = Z0 m c (Proc.devRef .tc main_v11) :=
    (after_of_writes_sub hostOps0_2 _ hostOps0_2_writes (by decide +kernel)).trans (after_of_writes_sub hostOps0_1 _ hostOps0_1_writes (by decide +kernel))
  funext k n d
  refine (pre_v14 _ b h (row k n) d).trans ?_
  rw [rev_row, e1]
  exact pre_v11 _ b h _ d

/-- An argument before the last stretch before the loop. -/
theorem Z3_arg (r : Ref sig .tc) (h1 : r ∉ hostOps0_1_W)
    (h2 : r ∉ hostOps0_2_W)
    (h3 : r ∉ hostOps0_3_W)
    (h0 : r ∉ hostOps0_W) :
    Z3 m c (Proc.devRef .tc r) = m ((c.tc : Thread nD τ).loc r) := (Z3_keep m c r h1 h2 h3).trans (Z0_keep m c r h0)

/-- The forward decays are as launched. -/
theorem Z3_a1 : Z3 m c (Proc.devRef .tc main_arg1) = m ((c.tc : Thread nD τ).loc main_arg1) :=
  Z3_arg m c main_arg1 (by decide +kernel) (by decide +kernel) (by decide +kernel) (by decide +kernel)
/-- The backward decays are as launched. -/
theorem Z3_a2 : Z3 m c (Proc.devRef .tc main_arg2) = m ((c.tc : Thread nD τ).loc main_arg2) :=
  Z3_arg m c main_arg2 (by decide +kernel) (by decide +kernel) (by decide +kernel) (by decide +kernel)
/-- The incoming states are as launched. -/
theorem Z3_a4 : Z3 m c (Proc.devRef .tc main_arg4) = m ((c.tc : Thread nD τ).loc main_arg4) :=
  Z3_arg m c main_arg4 (by decide +kernel) (by decide +kernel) (by decide +kernel) (by decide +kernel)

/-- The forward log decay when the loop begins. -/
theorem E_lf (h : Fin 8) : E m c (Proc.devRef .tc main_v16) (ix1 h) = lfIn m c h := (pre_v16 _ h).trans (by rw [Z3_a1])
/-- The backward log decay when the loop begins. -/
theorem E_lb (h : Fin 8) : E m c (Proc.devRef .tc main_v18) (ix1 h) = lbIn m c h := (pre_v18 _ h).trans (by rw [Z3_a2])

/-- The forward states that the loop runs through. -/
theorem E_seq5 (b : Fin 4) (h : Fin 8) : seq5 (E m c) b h = stF (lfIn m c h) (s0In m c b h 0) (chunks (zIn m c) b 1 h) (chunks (zIn m c) b 2 h) := by
  unfold seq5 stF
  have hg : E m c (Proc.devRef .tc main_v65_2) (ix4 0 h 0 0) = gam (lfIn m c h) := (pre_g0 _ h).trans (by rw [Z3_a1])
  have hs : (fun d e => E m c (Proc.devRef .tc main_v65_5) (ix4 b h d e) : Mat) = s0In m c b h 0 := by
    funext d e; exact (pre_s0 _ b h d e).trans (by rw [Z3_a4])
  have hu : (fun n d e => E m c (Proc.devRef .tc main_v65_0) (ix5 (fwd n) b h d e) : ℕ → Mat)
      = fun n => upd (zetaF (lfIn m c h)) (chunks (zIn m c) b 1 h) (chunks (zIn m c) b 2 h) (fwd n) := by
    funext n d e; exact (pre_u0 _ (fwd n) b h d e).trans (by rw [Z3_a1, Z3_k, Z3_v])
  rw [hg, hs, hu]

/-- The backward states that the loop runs through. -/
theorem E_seq6 (b : Fin 4) (h : Fin 8) (k : ℕ) (hk : k ≤ 64) :
    seq6 (E m c) b h k = stB (lbIn m c h) (s0In m c b h 1) (chunks (zIn m c) b 1 h) (chunks (zIn m c) b 2 h) k := by
  rw [← state_rev _ _ _ _ k hk]
  unfold seq6
  have hg : E m c (Proc.devRef .tc main_v65_3) (ix4 0 h 0 0) = gam (lbIn m c h) := (pre_g1 _ h).trans (by rw [Z3_a2])
  have hs : (fun d e => E m c (Proc.devRef .tc main_v65_6) (ix4 b h d e) : Mat) = s0In m c b h 1 := by
    funext d e; exact (pre_s1 _ b h d e).trans (by rw [Z3_a4])
  have hu : (fun n d e => E m c (Proc.devRef .tc main_v65_1) (ix5 (fwd n) b h d e) : ℕ → Mat)
      = fun n => upd (zetaF (lbIn m c h)) (revC (chunks (zIn m c) b 1 h)) (revC (chunks (zIn m c) b 2 h)) (fwd n) := by
    funext n d e; exact (pre_u1 _ (fwd n) b h d e).trans (by rw [Z3_a2, Z3_kr, Z3_vr])
  rw [hg, hs, hu]

/-! ## The buffers after the loop -/

/-- The trip counter through the loop. -/
theorem E_ctr (k : ℕ) : (STEP^[k] (E m c)) (Proc.devRef .tc main_v65_4) = fun _ => Scf.iv 0#32 1#32 k :=
  (atK_agree m c k main_v65_4 (by decide)).symm.trans (atK_ctr m c k)

/-- What the loop carries, after its 64 trips. -/
theorem Y_car (r : Ref sig .tc) (hr : r ∈ carriedRefs) (hc : r ∉ condOps_W) :
    Y m c (Proc.devRef .tc r) = (STEP^[64] (E m c)) (Proc.devRef .tc r) :=
  (after_of_writes_sub condOps _ condOps_writes hc).trans (atK_agree m c 64 r hr)

/-- A buffer that the loop does not write is as the loop found it. -/
theorem Y_keep (r : Ref sig .tc)
    (hc : r ∉ condOps_W)
    (h0 : r ∉ while0Ops0_W)
    (h1 : r ∉ while0Ops0_1_W)
    (h2 : r ∉ while0Ops0_2_W)
    (h3 : r ∉ while0Ops0_3_W)
    (h4 : r ∉ while0Ops0_4_W)
    (h5 : r ∉ while0Ops0_5_W) :
    Y m c (Proc.devRef .tc r) = E m c (Proc.devRef .tc r) := by
  have hk : ∀ k, atK m k c (Proc.devRef .tc r) = E m c (Proc.devRef .tc r) := fun k => by
    induction k with
    | zero => rfl
    | succ k ih =>
      rw [← ih]
      show afterL bodyI (after condOps (atK m k c)) (Proc.devRef .tc r) = _
      simp only [bodyI, afterL_cons, afterL_nil]
      rw [after_of_writes_sub while0Ops0_5 _ while0Ops0_5_writes h5, after_of_writes_sub while0Ops0_4 _ while0Ops0_4_writes h4,
        after_of_writes_sub while0Ops0_3 _ while0Ops0_3_writes h3, after_of_writes_sub while0Ops0_2 _ while0Ops0_2_writes h2,
        after_of_writes_sub while0Ops0_1 _ while0Ops0_1_writes h1, after_of_writes_sub while0Ops0 _ while0Ops0_writes h0,
        after_of_writes_sub condOps _ condOps_writes hc]
  exact (after_of_writes_sub condOps _ condOps_writes hc).trans (hk 64)

/-- The final forward state. -/
theorem Y_sF (b : Fin 4) (h : Fin 8) (d e : Fin 128) : Y m c (Proc.devRef .tc main_v65_5) (ix4 b h d e)
    = stF (lfIn m c h) (s0In m c b h 0) (chunks (zIn m c) b 1 h) (chunks (zIn m c) b 2 h) 64 d e := by
  rw [Y_car m c main_v65_5 (by decide) (by decide +kernel), scan5 (E m c) (E_ctr m c) b h d e 64 le_rfl, E_seq5]
/-- The final backward state. -/
theorem Y_sB (b : Fin 4) (h : Fin 8) (d e : Fin 128) : Y m c (Proc.devRef .tc main_v65_6) (ix4 b h d e)
    = stB (lbIn m c h) (s0In m c b h 1) (chunks (zIn m c) b 1 h) (chunks (zIn m c) b 2 h) 64 d e := by
  rw [Y_car m c main_v65_6 (by decide) (by decide +kernel), scan6 (E m c) (E_ctr m c) b h d e 64 le_rfl, E_seq6 m c b h 64 le_rfl]
/-- The forward states kept before each chunk. -/
theorem Y_kF (j : Fin 64) (b : Fin 4) (h : Fin 8) (d e : Fin 128) : Y m c (Proc.devRef .tc main_v65_7) (ix5 j b h d e)
    = stF (lfIn m c h) (s0In m c b h 0) (chunks (zIn m c) b 1 h) (chunks (zIn m c) b 2 h) j.val d e := by
  rw [Y_car m c main_v65_7 (by decide) (by decide +kernel), kept7 (E m c) (E_ctr m c) j b h d e 64 le_rfl j.isLt, E_seq5]
/-- The backward states kept, in the order of the trips. -/
theorem Y_kB (j : Fin 64) (b : Fin 4) (h : Fin 8) (d e : Fin 128) : Y m c (Proc.devRef .tc main_v65_8) (ix5 j b h d e)
    = stB (lbIn m c h) (s0In m c b h 1) (chunks (zIn m c) b 1 h) (chunks (zIn m c) b 2 h) j.val d e := by
  rw [Y_car m c main_v65_8 (by decide) (by decide +kernel), kept8 (E m c) (E_ctr m c) j b h d e 64 le_rfl j.isLt, E_seq6 m c b h j.val (by omega)]

end Cert.ReferenceIdeal.Val
end
end
-- ==== Proof.Retention.RefEnd.lean ====
module

public import proofs.«01_k».proof.Proof.Gen.ReferenceIdeal.Run
public import Idealize.ShloMosaic.Lib.Pointwise
public import Idealize.ShloMosaic.Lib.DynamicIndex
public import Idealize.ShloMosaic.Lib.Pipeline.Value
public import Idealize.ShloMosaic.Lib.StableHlo.ReadAt
public import proofs.«01_k».proof.Proof.Retention.Result
public import proofs.«01_k».proof.Proof.Retention.RefLoop
public import proofs.«01_k».proof.Proof.Retention.RefPost

@[expose] public section
set_option maxRecDepth 16384
noncomputable section
open Idealize.ShloMosaic Idealize.ShloMosaic.TcCoe Idealize.SL.Sem Idealize.ShloMosaic.StableHlo
namespace Cert.ReferenceIdeal.Val
open Cert.ReferenceIdeal Cert.ReferenceIdeal.Gen Cert.ReferenceIdeal.Value
open Cert.Retention
open Cert.KernelIdeal.Val (sitofp_pos ofBits127 ofBits128)

variable (m : (ℓ : Loc nD τ sig) → Buf (Elt Ideal) ℓ) (ρ : Dev nD → PrngReg) (c : Dev nD)

/-! ## A buffer that a stretch does not write is as it was -/

/-- A buffer that stretch 5 does not write is as before it. -/
theorem keep5 (r : Ref sig .tc) (h : r ∉ W5) : P5 m c (Proc.devRef .tc r) = Y m c (Proc.devRef .tc r) :=
  after_of_writes_sub hostOps0_5 _ writes5 h
/-- A buffer that stretch 6 does not write is as before it. -/
theorem keep6 (r : Ref sig .tc) (h : r ∉ W6) : P6 m c (Proc.devRef .tc r) = P5 m c (Proc.devRef .tc r) :=
  after_of_writes_sub hostOps0_6 _ writes6 h
/-- A buffer that stretch 7 does not write is as before it. -/
theorem keep7 (r : Ref sig .tc) (h : r ∉ W7) : P7 m c (Proc.devRef .tc r) = P6 m c (Proc.devRef .tc r) :=
  after_of_writes_sub hostOps0_7 _ writes7 h
/-- A buffer that stretch 8 does not write is as before it. -/
theorem keep8 (r : Ref sig .tc) (h : r ∉ W8) : P8 m c (Proc.devRef .tc r) = P7 m c (Proc.devRef .tc r) :=
  after_of_writes_sub hostOps0_8 _ writes8 h
/-- A buffer that stretch 9 does not write is as before it. -/
theorem keep9 (r : Ref sig .tc) (h : r ∉ W9) : P9 m c (Proc.devRef .tc r) = P8 m c (Proc.devRef .tc r) :=
  after_of_writes_sub hostOps0_9 _ writes9 h
/-- A buffer that stretch 10 does not write is as before it. -/
theorem keep10 (r : Ref sig .tc) (h : r ∉ W10) : P10 m c (Proc.devRef .tc r) = P9 m c (Proc.devRef .tc r) :=
  after_of_writes_sub hostOps0_10 _ writes10 h
/-- A buffer that stretch 11 does not write is as before it. -/
theorem keep11 (r : Ref sig .tc) (h : r ∉ W11) : P11 m c (Proc.devRef .tc r) = P10 m c (Proc.devRef .tc r) :=
  after_of_writes_sub hostOps0_11 _ writes11 h
/-- A buffer that stretch 12 does not write is as before it. -/
theorem keep12 (r : Ref sig .tc) (h : r ∉ W12) : P12 m c (Proc.devRef .tc r) = P11 m c (Proc.devRef .tc r) :=
  after_of_writes_sub hostOps0_12 _ writes12 h
/-- A buffer that stretch 13 does not write is as before it. -/
theorem keep13 (r : Ref sig .tc) (h : r ∉ W13) : P13 m c (Proc.devRef .tc r) = P12 m c (Proc.devRef .tc r) :=
  after_of_writes_sub hostOps0_13 _ writes13 h

/-- A buffer that neither the last stretch before the loop nor the loop writes. -/
theorem Y_Z3 (r : Ref sig .tc) (h : r ∉ hostOps0_4_W ++ condOps_W ++ while0Ops0_W ++ while0Ops0_1_W ++ while0Ops0_2_W ++ while0Ops0_3_W ++ while0Ops0_4_W ++ while0Ops0_5_W) :
    Y m c (Proc.devRef .tc r) = Z3 m c (Proc.devRef .tc r) := by
  simp only [List.mem_append, not_or] at h
  obtain ⟨⟨⟨⟨⟨⟨⟨h4, hc⟩, a0⟩, a1⟩, a2⟩, a3⟩, a4⟩, a5⟩ := h
  exact (Y_keep m c r hc a0 a1 a2 a3 a4 a5).trans (E_keep m c r h4)

/-- A buffer that the loop does not write is as when it began. -/
theorem Y_E (r : Ref sig .tc) (h : r ∉ condOps_W ++ while0Ops0_W ++ while0Ops0_1_W ++ while0Ops0_2_W ++ while0Ops0_3_W ++ while0Ops0_4_W ++ while0Ops0_5_W) :
    Y m c (Proc.devRef .tc r) = E m c (Proc.devRef .tc r) := by
  simp only [List.mem_append, not_or] at h
  obtain ⟨⟨⟨⟨⟨⟨hc, a0⟩, a1⟩, a2⟩, a3⟩, a4⟩, a5⟩ := h
  exact Y_keep m c r hc a0 a1 a2 a3 a4 a5

/-- A buffer that nothing writes before the first result's last factor. -/
theorem Y_lf (h : Fin 8) : Y m c (Proc.devRef .tc main_v16) (ix1 h) = lfIn m c h := by
  rw [Y_E m c main_v16 (by decide +kernel)]; exact E_lf m c h
/-- The backward log decay after the loop. -/
theorem Y_lb (h : Fin 8) : Y m c (Proc.devRef .tc main_v18) (ix1 h) = lbIn m c h := by
  rw [Y_E m c main_v18 (by decide +kernel)]; exact E_lb m c h

/-- A buffer that stretches 5 and 6 do not write is as after the loop. -/
theorem P6_Y (r : Ref sig .tc) (h : r ∉ W5 ++ W6) : P6 m c (Proc.devRef .tc r) = Y m c (Proc.devRef .tc r) := by
  simp only [List.mem_append, not_or] at h
  exact (keep6 m c r h.2).trans (keep5 m c r h.1)
/-- A buffer that stretches 5 to 8 do not write is as after the loop. -/
theorem P8_Y (r : Ref sig .tc) (h : r ∉ W5 ++ W6 ++ W7 ++ W8) : P8 m c (Proc.devRef .tc r) = Y m c (Proc.devRef .tc r) := by
  simp only [List.mem_append, not_or] at h
  exact (keep8 m c r h.2).trans ((keep7 m c r h.1.2).trans ((keep6 m c r h.1.1.2).trans (keep5 m c r h.1.1.1)))
/-- A buffer that stretches 8 to 10 do not write is as after stretch 7. -/
theorem P10_P7 (r : Ref sig .tc) (h : r ∉ W8 ++ W9 ++ W10) : P10 m c (Proc.devRef .tc r) = P7 m c (Proc.devRef .tc r) := by
  simp only [List.mem_append, not_or] at h
  exact (keep10 m c r h.2).trans ((keep9 m c r h.1.2).trans (keep8 m c r h.1.1))
/-- A buffer that stretches 5 to 11 do not write is as after the loop. -/
theorem P11_Y (r : Ref sig .tc) (h : r ∉ W5 ++ W6 ++ W7 ++ W8 ++ W9 ++ W10 ++ W11) : P11 m c (Proc.devRef .tc r) = Y m c (Proc.devRef .tc r) := by
  simp only [List.mem_append, not_or] at h
  obtain ⟨⟨⟨⟨⟨⟨h5, h6⟩, h7⟩, h8⟩, h9⟩, h10⟩, h11⟩ := h
  exact (keep11 m c r h11).trans ((keep10 m c r h10).trans ((keep9 m c r h9).trans
    ((keep8 m c r h8).trans ((keep7 m c r h7).trans ((keep6 m c r h6).trans (keep5 m c r h5))))))

/-- The weight of the earlier chunks' state in a row, as the program computes it. -/
theorem xiF_sum (l : EReal) (n : Fin 128) : Ideal.exp (l * ((((n : ℕ) : ℝ) : EReal) + 1)) = xiF l n := by
  unfold xiF; rw [EReal.coe_add]; rfl

/-! ## The two directions -/

/-- The front-to-back direction before normalising. -/
theorem P7_fwd (j : Fin 64) (b : Fin 4) (h : Fin 8) (n e : Fin 128) : P7 m c (Proc.devRef .tc main_v106) (ix4 b h (row j n) e)
    = (∑ k, (∑ d, chunks (zIn m c) b 0 h j n d * chunks (zIn m c) b 1 h j k d) * decF (lfIn m c h) n k * chunks (zIn m c) b 2 h j k e)
      + (∑ d, chunks (zIn m c) b 0 h j n d * stF (lfIn m c h) (s0In m c b h 0) (chunks (zIn m c) b 1 h) (chunks (zIn m c) b 2 h) j.val d e)
        * xiF (lfIn m c h) n := by
  have hq : ck4 (P6 m c (Proc.devRef .tc main_v7)) b h = chunks (zIn m c) b 0 h := by
    rw [P6_Y m c main_v7 (by decide +kernel), Y_Z3 m c main_v7 (by decide +kernel), Z3_q]
  have hk : ck4 (P6 m c (Proc.devRef .tc main_v9)) b h = chunks (zIn m c) b 1 h := by
    rw [P6_Y m c main_v9 (by decide +kernel), Y_Z3 m c main_v9 (by decide +kernel), Z3_k]
  have hv : ck4 (P6 m c (Proc.devRef .tc main_v11)) b h = chunks (zIn m c) b 2 h := by
    rw [P6_Y m c main_v11 (by decide +kernel), Y_Z3 m c main_v11 (by decide +kernel), Z3_v]
  have hl : asR (P6 m c (Proc.devRef .tc main_v16) (ix1 h)) = lfIn m c h := by
    rw [P6_Y m c main_v16 (by decide +kernel)]; exact Y_lf m c h
  have hd : ∀ k, asR (P6 m c (Proc.devRef .tc main_v83) (ix3 h n k)) = decF (lfIn m c h) n k := fun k =>
    (post_v83 (Y m c) h n k).trans (congrArg (fun l => decF l n k) (Y_lf m c h))
  have hs : ∀ d, asR (P6 m c (Proc.devRef .tc main_v66) (ix5 b h j d e))
      = stF (lfIn m c h) (s0In m c b h 0) (chunks (zIn m c) b 1 h) (chunks (zIn m c) b 2 h) j.val d e := fun d => by
    rw [keep6 m c main_v66 (by decide +kernel)]
    exact (post_v66 (Y m c) j b h d e).trans (Y_kF m c j b h d e)
  have hn : asR (P6 m c (Proc.devRef .tc main_v67) (ix1 n)) = (((n : ℕ) : ℝ) : EReal) := by
    rw [keep6 m c main_v67 (by decide +kernel)]
    exact post_v67 (Y m c) n
  refine (post_v106 (P6 m c) j b h n e).trans ?_
  rw [hq, hk, hv, hl, hn, xiF_sum]
  simp only [hd, hs]

/-- The back-to-front direction before normalising, in the reversed order. -/
theorem P9_bwd (j : Fin 64) (b : Fin 4) (h : Fin 8) (n e : Fin 128) : P9 m c (Proc.devRef .tc main_v147) (ix4 b h (row j n) e)
    = (∑ k, (∑ d, revC (chunks (zIn m c) b 0 h) j n d * revC (chunks (zIn m c) b 1 h) j k d) * decB (lbIn m c h) n k * revC (chunks (zIn m c) b 2 h) j k e)
      + (∑ d, revC (chunks (zIn m c) b 0 h) j n d * stB (lbIn m c h) (s0In m c b h 1) (chunks (zIn m c) b 1 h) (chunks (zIn m c) b 2 h) j.val d e)
        * xiF (lbIn m c h) n := by
  have hq : ck4 (P8 m c (Proc.devRef .tc main_v12)) b h = revC (chunks (zIn m c) b 0 h) := by
    rw [P8_Y m c main_v12 (by decide +kernel), Y_Z3 m c main_v12 (by decide +kernel), Z3_qr]
  have hk : ck4 (P8 m c (Proc.devRef .tc main_v13)) b h = revC (chunks (zIn m c) b 1 h) := by
    rw [P8_Y m c main_v13 (by decide +kernel), Y_Z3 m c main_v13 (by decide +kernel), Z3_kr]
  have hv : ck4 (P8 m c (Proc.devRef .tc main_v14)) b h = revC (chunks (zIn m c) b 2 h) := by
    rw [P8_Y m c main_v14 (by decide +kernel), Y_Z3 m c main_v14 (by decide +kernel), Z3_vr]
  have hl : asR (P8 m c (Proc.devRef .tc main_v18) (ix1 h)) = lbIn m c h := by
    rw [P8_Y m c main_v18 (by decide +kernel)]; exact Y_lb m c h
  have hl6 : P6 m c (Proc.devRef .tc main_v18) (ix1 h) = lbIn m c h := by
    rw [P6_Y m c main_v18 (by decide +kernel)]; exact Y_lb m c h
  have hd : ∀ k, asR (P8 m c (Proc.devRef .tc main_v124) (ix3 h n k)) = decB (lbIn m c h) n k := fun k =>
    (post_v124 (P6 m c) h n k).trans (congrArg (fun l => decB l n k) hl6)
  have hs : ∀ d, asR (P8 m c (Proc.devRef .tc main_v107) (ix5 b h j d e))
      = stB (lbIn m c h) (s0In m c b h 1) (chunks (zIn m c) b 1 h) (chunks (zIn m c) b 2 h) j.val d e := fun d => by
    rw [keep8 m c main_v107 (by decide +kernel)]
    refine (post_v107 (P6 m c) j b h d e).trans ?_
    rw [P6_Y m c main_v65_8 (by decide +kernel)]
    exact Y_kB m c j b h d e
  have hn : asR (P8 m c (Proc.devRef .tc main_v108) (ix1 n)) = (((n : ℕ) : ℝ) : EReal) := by
    rw [keep8 m c main_v108 (by decide +kernel)]
    exact post_v108 (P6 m c) n
  refine (post_v147 (P8 m c) j b h n e).trans ?_
  rw [hq, hk, hv, hl, hn, xiF_sum]
  simp only [hd, hs]

/-- Both directions together, before normalising. -/
theorem P10_mix (j : Fin 64) (b : Fin 4) (h : Fin 8) (n e : Fin 128) :
    asR (P10 m c (Proc.devRef .tc main_v106) (ix4 b h (row j n) e)) + asR (P10 m c (Proc.devRef .tc main_v148) (ix4 b h (row j n) e))
    = mix (lfIn m c h) (lbIn m c h) (chunks (zIn m c) b 0 h) (chunks (zIn m c) b 1 h) (chunks (zIn m c) b 2 h)
        (stF (lfIn m c h) (s0In m c b h 0) (chunks (zIn m c) b 1 h) (chunks (zIn m c) b 2 h) j.val)
        (stB (lbIn m c h) (s0In m c b h 1) (chunks (zIn m c) b 1 h) (chunks (zIn m c) b 2 h) (63 - j.val)) j n e := by
  rw [← mix_split]
  have hj : (Fin.rev j).val = 63 - j.val := by rw [Fin.val_rev]; omega
  rw [← hj]
  refine congrArg₂ (· + ·) ?_ ?_
  · rw [P10_P7 m c main_v106 (by decide +kernel)]
    exact P7_fwd m c j b h n e
  · exact (post_v148 (P9 m c) b h (row j n) e).trans ((congrArg (fun t => asR (P9 m c (Proc.devRef .tc main_v147) (ix4 b h t e))) (rev_row j n)).trans
      (P9_bwd m c (Fin.rev j) b h (Fin.rev n) e))

/-! ## The results -/

/-- The normalised and scaled output of a row and head. -/
theorem P12_norm (j : Fin 64) (b : Fin 4) (h : Fin 8) (n e : Fin 128) : asR (P12 m c (Proc.devRef .tc main_v172) (ix2 (brow b (row j n)) (lane8 h e)))
    = unitRow (mix (lfIn m c h) (lbIn m c h) (chunks (zIn m c) b 0 h) (chunks (zIn m c) b 1 h) (chunks (zIn m c) b 2 h)
        (stF (lfIn m c h) (s0In m c b h 0) (chunks (zIn m c) b 1 h) (chunks (zIn m c) b 2 h) j.val)
        (stB (lbIn m c h) (s0In m c b h 1) (chunks (zIn m c) b 1 h) (chunks (zIn m c) b 2 h) (63 - j.val)) j n) e * gnIn m c (lane8 h e) := by
  have hg : P10 m c (Proc.devRef .tc main_arg3) = m ((c.tc : Thread nD τ).loc main_arg3) := by
    rw [P10_P7 m c main_arg3 (by decide +kernel), keep7 m c main_arg3 (by decide +kernel), P6_Y m c main_arg3 (by decide +kernel),
      Y_Z3 m c main_arg3 (by decide +kernel)]
    exact Z3_arg m c main_arg3 (by decide +kernel) (by decide +kernel) (by decide +kernel) (by decide +kernel)
  rw [keep12 m c main_v172 (by decide +kernel)]
  refine (post_v172 (P10 m c) b (row j n) h e).trans ?_
  rw [hg]
  refine congrArg (fun f => unitRow f e * _) (funext fun x => P10_mix m c j b h n x)

/-- The swish gate of a row. -/
theorem P12_gate (b : Fin 4) (t : Fin 8192) (j : Fin 1024) (g : Fin 33792) (hg : g.val = 8192 * b.val + t.val) (k : Fin 6144) (hk : k.val = 3072 + j.val) :
    asR (P12 m c (Proc.devRef .tc main_v173) (ix2 (brow b t) j)) = zIn m c g k * Ideal.logistic (zIn m c g k) := by
  have h5 : asR (P11 m c (Proc.devRef .tc main_v5) (ix2 (brow b t) j)) = zIn m c g k := by
    rw [P11_Y m c main_v5 (by decide +kernel), Y_Z3 m c main_v5 (by decide +kernel),
      Z3_keep m c main_v5 (by decide +kernel) (by decide +kernel) (by decide +kernel)]
    refine (pre_v5 (launchContents m c) (brow b t) j).trans ?_
    have e0 : (⟨(brow b t).val, by have := (brow b t).isLt; omega⟩ : Fin 33792) = g := Fin.ext hg.symm
    have e1 : (⟨3072 + j.val, by omega⟩ : Fin 6144) = k := Fin.ext hk.symm
    rw [e0, e1]
  refine (post_v173 (P11 m c) (brow b t) j).trans ?_
  exact congrArg₂ (fun x y => x * Ideal.logistic y) h5 h5

/-- The first result at a row of a batch and a feature of a head. -/
theorem P13_ret (j : Fin 64) (b : Fin 4) (h : Fin 8) (n e : Fin 128) :
    asR (P13 m c (Proc.devRef .tc main_v177) (ix2 (grow b (row j n)) (lane8 h e)))
      = ret (zIn m c) (lfIn m c) (lbIn m c) (gnIn m c) (s0In m c) (prevIn m c) (grow b (row j n)) (lane8 h e) := by
  rw [ret_grow _ _ _ _ _ _ b (row j n) h e j n (by unfold row; dsimp only; omega) (by unfold row; dsimp only; omega)]
  have hlt : (grow b (row j n)).val < 32768 := by unfold grow; dsimp only; omega
  refine (post_v177_lt (P12 m c) _ hlt (lane8 h e)).trans ?_
  exact congrArg₂ (· * ·) (P12_gate m c b (row j n) (lane8 h e) (grow b (row j n)) rfl (gcol (part 3 h) e)
    (by unfold gcol part lane8; dsimp only; have : ((3 : Fin 4) : ℕ) = 3 := rfl; omega)) (P12_norm m c j b h n e)

/-- The first result past the batches' rows. -/
theorem P13_prev (r : Fin 33792) (hr : ¬ r.val < 32768) (j : Fin 1024) :
    asR (P13 m c (Proc.devRef .tc main_v177) (ix2 r j)) = ret (zIn m c) (lfIn m c) (lbIn m c) (gnIn m c) (s0In m c) (prevIn m c) r j := by
  have hp : P12 m c (Proc.devRef .tc main_arg5) = m ((c.tc : Thread nD τ).loc main_arg5) := by
    rw [keep12 m c main_arg5 (by decide +kernel), P11_Y m c main_arg5 (by decide +kernel), Y_Z3 m c main_arg5 (by decide +kernel)]
    exact Z3_arg m c main_arg5 (by decide +kernel) (by decide +kernel) (by decide +kernel) (by decide +kernel)
  unfold ret
  rw [if_neg hr]
  refine (post_v177_ge (P12 m c) r hr j).trans ?_
  rw [hp]

/-- The first result, every element. -/
theorem P13_res0 (r : Fin 33792) (q : Fin 1024) :
    asR (P13 m c (Proc.devRef .tc main_v177) (ix2 r q)) = ret (zIn m c) (lfIn m c) (lbIn m c) (gnIn m c) (s0In m c) (prevIn m c) r q := by
  by_cases hr : r.val < 32768
  · have er : r = grow ⟨r.val / 8192, by omega⟩ (row ⟨r.val % 8192 / 128, by omega⟩ ⟨r.val % 128, by omega⟩) :=
      Fin.ext (by unfold grow row; dsimp only; omega)
    have eq : q = lane8 ⟨q.val / 128, by omega⟩ ⟨q.val % 128, by omega⟩ := Fin.ext (by unfold lane8; dsimp only; omega)
    rw [er, eq]
    exact P13_ret m c _ _ _ _ _
  · exact P13_prev m c r hr q

/-- The second result, every element. -/
theorem P13_res1 (b : Fin 4) (h : Fin 8) (dir : Fin 2) (d e : Fin 128) :
    P13 m c (Proc.devRef .tc main_v180) (ix5 b h dir d e) = fin (zIn m c) (lfIn m c) (lbIn m c) (s0In m c) b h dir d e := by
  have y5 : P12 m c (Proc.devRef .tc main_v65_5) = Y m c (Proc.devRef .tc main_v65_5) := by
    rw [keep12 m c main_v65_5 (by decide +kernel), P11_Y m c main_v65_5 (by decide +kernel)]
  have y6 : P12 m c (Proc.devRef .tc main_v65_6) = Y m c (Proc.devRef .tc main_v65_6) := by
    rw [keep12 m c main_v65_6 (by decide +kernel), P11_Y m c main_v65_6 (by decide +kernel)]
  refine (post_v180 (P12 m c) b h dir d e).trans ?_
  unfold fin
  rw [y5, y6]
  by_cases hd : dir.val = 0
  · rw [if_pos hd, if_pos hd]; exact Y_sF m c b h d e
  · rw [if_neg hd, if_neg hd]; exact Y_sB m c b h d e

end Cert.ReferenceIdeal.Val
end
end
-- ==== Proof.Retention.RefRun.lean ====
module

public import proofs.«01_k».proof.Proof.Gen.ReferenceIdeal.Run
public import Idealize.ShloMosaic.Lib.Pointwise
public import Idealize.ShloMosaic.Lib.DynamicIndex
public import Idealize.ShloMosaic.Lib.Pipeline.Value
public import Idealize.ShloMosaic.Lib.StableHlo.ReadAt
public import proofs.«01_k».proof.Proof.Retention.Result
public import proofs.«01_k».proof.Proof.Retention.RefEnd
public import Idealize.ShloMosaic.Lib.Quiescent
public import proofs.«01_k».proof.Proof.Retention.RefPost

@[expose] public section
set_option maxRecDepth 16384
noncomputable section
open Idealize.ShloMosaic Idealize.ShloMosaic.TcCoe Idealize.SL.Sem Idealize.ShloMosaic.StableHlo
namespace Cert.ReferenceIdeal.Val
open Cert.ReferenceIdeal Cert.ReferenceIdeal.Gen Cert.ReferenceIdeal.Value
open Cert.Retention
open Cert.KernelIdeal.Val (sitofp_pos ofBits127 ofBits128)

variable (m : (ℓ : Loc nD τ sig) → Buf (Elt Ideal) ℓ) (ρ : Dev nD → PrngReg)

/-- The first result, as a function of the arguments. -/
def RET (c : Dev nD) : Buf (Elt Ideal) ((c.tc : Thread nD τ).loc main_v177) := fun i =>
  ret (zIn m c) (lfIn m c) (lbIn m c) (gnIn m c) (s0In m c) (prevIn m c) (i 0) (i 1)
/-- The second result, as a function of the arguments. -/
def FIN (c : Dev nD) : Buf (Elt Ideal) ((c.tc : Thread nD τ).loc main_v180) := fun i =>
  fin (zIn m c) (lfIn m c) (lbIn m c) (s0In m c) (i 0) (i 1) (i 2) (i 3) (i 4)

/-- The first result's buffer when the program has ended. -/
theorem P13_RET (c : Dev nD) : P13 m c (Proc.devRef .tc main_v177) = RET m c := by
  funext i
  refine Eq.trans ?_ (P13_res0 m c (i 0) (i 1))
  show P13 m c (Proc.devRef .tc main_v177) i = P13 m c (Proc.devRef .tc main_v177) (ix2 (i 0) (i 1))
  congr 1
  idx_vars i

/-- The second result's buffer when the program has ended. -/
theorem P13_FIN (c : Dev nD) : P13 m c (Proc.devRef .tc main_v180) = FIN m c := by
  funext i
  refine Eq.trans ?_ (P13_res1 m c (i 0) (i 1) (i 2) (i 3) (i 4))
  show P13 m c (Proc.devRef .tc main_v180) i = P13 m c (Proc.devRef .tc main_v180) (ix5 (i 0) (i 1) (i 2) (i 3) (i 4))
  congr 1
  idx_vars i

/-- A buffer that no operation writes ends as it was. -/
theorem P13_keep (c : Dev nD) (r : Ref sig .tc)
    (h : r ∉ hostOps0_W ++ hostOps0_1_W ++ hostOps0_2_W ++ hostOps0_3_W)
    (hl : r ∉ hostOps0_4_W ++ condOps_W ++ while0Ops0_W ++ while0Ops0_1_W ++ while0Ops0_2_W ++ while0Ops0_3_W ++ while0Ops0_4_W ++ while0Ops0_5_W)
    (hp : r ∉ W5 ++ W6 ++ W7 ++ W8 ++ W9 ++ W10 ++ W11) (h12 : r ∉ W12) (h13 : r ∉ W13) :
    P13 m c (Proc.devRef .tc r) = m ((c.tc : Thread nD τ).loc r) := by
  simp only [List.mem_append, not_or] at h
  obtain ⟨⟨⟨a0, a1⟩, a2⟩, a3⟩ := h
  exact (keep13 m c r h13).trans ((keep12 m c r h12).trans ((P11_Y m c r hp).trans ((Y_Z3 m c r hl).trans (Z3_arg m c r a1 a2 a3 a0))))

/-- The reference's run: its two results, and its arguments as they were. -/
theorem run_values : θ_run defs (onTc (τ := τ) (main (F := Ideal))) ⟨m, fun _ => 0, ρ⟩ (fun r => ∀ c : Dev nD,
      r.2.mem ((c.tc : Thread nD τ).loc main_v177) = RET m c
      ∧ r.2.mem ((c.tc : Thread nD τ).loc main_v180) = FIN m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c main_v177 (by decide)).trans (P13_RET m c), (h c main_v180 (by decide)).trans (P13_FIN m c),
     (h c main_arg0 (by decide)).trans (P13_keep m c main_arg0 (by decide +kernel) (by decide +kernel) (by decide +kernel) (by decide +kernel) (by decide +kernel)),
     (h c main_arg1 (by decide)).trans (P13_keep m c main_arg1 (by decide +kernel) (by decide +kernel) (by decide +kernel) (by decide +kernel) (by decide +kernel)),
     (h c main_arg2 (by decide)).trans (P13_keep m c main_arg2 (by decide +kernel) (by decide +kernel) (by decide +kernel) (by decide +kernel) (by decide +kernel)),
     (h c main_arg3 (by decide)).trans (P13_keep m c main_arg3 (by decide +kernel) (by decide +kernel) (by decide +kernel) (by decide +kernel) (by decide +kernel)),
     (h c main_arg4 (by decide)).trans (P13_keep m c main_arg4 (by decide +kernel) (by decide +kernel) (by decide +kernel) (by decide +kernel) (by decide +kernel)),
     (h c main_arg5 (by decide)).trans (P13_keep m c main_arg5 (by decide +kernel) (by decide +kernel) (by decide +kernel) (by decide +kernel) (by decide +kernel))⟩)
    (run_fold m ρ)

/-- The reference leaves its arguments as they were and uses no semaphore. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => (h c).2.2, sem_eq_zero_of_no_sems (by decide) r.2⟩) (run_values m ρ)

end Cert.ReferenceIdeal.Val
end
end
-- ==== Proof.Experts.Items.lean ====
module

public import proofs.«01_k».proof.Proof.Gen.Pre_items_ok
public import Idealize.ShloMosaic.Lib.Pointwise
public import Idealize.ShloMosaic.Lib.ReduceAll
public import Idealize.ShloMosaic.Lib.WordCmp
public import Idealize.ShloMosaic.Lib.StableHlo.Predicate

@[expose] public section
set_option maxRecDepth 16384
noncomputable section
open Idealize.ShloMosaic Idealize.ShloMosaic.WordCmp
namespace Cert.Experts.Items
open Cert.Pre_items_ok Cert.Pre_items_ok.Gen

/-- Row `r` of the tile is one of item `k`'s rows. -/
def Mine (lo hi : IVec S295 32) (k : Fin 295) (r : Fin 512) : Prop :=
  (lo (ix1 k)).toInt ≤ r.val ∧ (r.val : Int) < (hi (ix1 k)).toInt

/-- The running totals of the experts' row counts. -/
def totals (counts : IVec S32 32) : IVec S32 32 :=
  Host.reduceWindow IntOp.addi ![32] ![1] ![31] ![0] counts (broadcastInDim S_ ![] facts.bcast_S_S_ (constantI S_ 32 0#32))
    facts.reduceWindows_S32_S32_w32s1p31_0 facts.h_S_

/-- The expert that row `ρ` belongs to: how many experts' rows end at or before it. -/
def eid (counts : IVec S32 32) (ρ : Fin 135168) : BitVec 32 :=
  Finset.fold IntOp.addi 0#32 (fun x => BitVec.setWidth 32 (IntOp.cmpi .sge (BitVec.ofNat 32 ρ.val) (totals counts (ix1 x)))) Finset.univ

/-- Row `r` of tile `t`, among all rows. -/
def rowOf (t : Fin 264) (r : Fin 512) : Fin 135168 := ⟨t.val * 512 + r.val, by omega⟩

/-- What the precondition says of the item tables. -/
structure Ok (e : Fin 135168 → BitVec 32) (tile exp lo hi first : IVec S295 32) : Prop where
  tile_lt : ∀ k : Fin 295, (tile (ix1 k)).toNat < 264
  exp_lt : ∀ k : Fin 295, (exp (ix1 k)).toNat < 32
  first_le : ∀ k : Fin 295, first (ix1 k) = 0#32 ∨ first (ix1 k) = 1#32
  again : ∀ k k' : Fin 295, k'.val = k.val + 1 →
    (tile (ix1 k)).toNat < (tile (ix1 k')).toNat ∨ (tile (ix1 k') = tile (ix1 k) ∧ first (ix1 k') = 0#32)
  theirs : ∀ (k : Fin 295) (t : Fin 264) (r : Fin 512), (tile (ix1 k)).toNat = t.val → Mine lo hi k r →
    exp (ix1 k) = e (rowOf t r)
  cover : ∀ (t : Fin 264) (r : Fin 512), ∃ k : Fin 295, (tile (ix1 k)).toNat = t.val ∧ Mine lo hi k r

/-- Both bits of an "and" that is one are one. -/
theorem and_one {a b : BitVec 1} (h : IntOp.andi a b = 1#1) : a = 1#1 ∧ b = 1#1 := by
  revert h; revert a b; decide
/-- One of the bits of an "or" that is one is one. -/
theorem or_one {a b : BitVec 1} (h : IntOp.ori a b = 1#1) : a = 1#1 ∨ b = 1#1 := by
  revert h; revert a b; decide
/-- A bit whose complement is one is not one. -/
theorem not_one {a : BitVec 1} (h : ~~~ a = 1#1) : ¬ a = 1#1 := by
  revert h; revert a; decide

/-- An "or" of bits that is one has a one among them. -/
theorem fold_or_one {ι : Type} [DecidableEq ι] (S : Finset ι) (f : ι → BitVec 1) (h : Finset.fold IntOp.ori 0#1 f S = 1#1) :
    ∃ i ∈ S, f i = 1#1 := by
  induction S using Finset.induction with
  | empty => rw [Finset.fold_empty] at h; exact absurd h (by decide)
  | insert a S ha ih =>
    rw [Finset.fold_insert ha] at h
    rcases or_one h with h | h
    · exact ⟨a, Finset.mem_insert_self .., h⟩
    · obtain ⟨i, hi, h⟩ := ih h
      exact ⟨i, Finset.mem_insert_of_mem hi, h⟩

/-- The precondition's bits, split off one by one, say what `Ok` lists. -/
theorem decode_of (counts : IVec S32 32) (tile exp lo hi first : IVec S295 32)
    (hr : ∀ k : Fin 295, (tile (ix1 k)).toNat < 264 ∧ (exp (ix1 k)).toNat < 32 ∧ (first (ix1 k)).toNat ≤ 1)
    (hag : ∀ k : Fin 294, IntOp.ori (IntOp.cmpi .sgt (tile (ix1 (⟨1 + k.val, by omega⟩ : Fin 295))) (tile (ix1 (⟨k.val, by omega⟩ : Fin 295))))
      (IntOp.andi (IntOp.cmpi .eq (tile (ix1 (⟨1 + k.val, by omega⟩ : Fin 295))) (tile (ix1 (⟨k.val, by omega⟩ : Fin 295))))
        (IntOp.cmpi .eq (first (ix1 (⟨1 + k.val, by omega⟩ : Fin 295))) 0#32)) = 1#1)
    (hth : ∀ (k : Fin 295) (t : Fin 264) (r : Fin 512), IntOp.ori
      (~~~ IntOp.andi (IntOp.andi (IntOp.cmpi .eq (tile (ix1 k)) (BitVec.ofNat 32 t.val))
        (IntOp.cmpi .sle (lo (ix1 k)) (BitVec.ofNat 32 r.val))) (IntOp.cmpi .slt (BitVec.ofNat 32 r.val) (hi (ix1 k))))
      (IntOp.cmpi .eq (exp (ix1 k)) (eid counts (rowOf t r))) = 1#1)
    (hcov : ∀ (t : Fin 264) (r : Fin 512), Finset.fold IntOp.ori 0#1 (fun x : Fin 295 =>
      IntOp.andi (IntOp.andi (IntOp.cmpi .eq (tile (ix1 x)) (BitVec.ofNat 32 t.val))
        (IntOp.cmpi .sle (lo (ix1 x)) (BitVec.ofNat 32 r.val))) (IntOp.cmpi .slt (BitVec.ofNat 32 r.val) (hi (ix1 x)))) Finset.univ = 1#1)
    (hmine : ∀ (k : Fin 295) (r : Fin 512), Mine lo hi k r ↔
      IntOp.cmpi .sle (lo (ix1 k)) (BitVec.ofNat 32 r.val) = 1#1 ∧ IntOp.cmpi .slt (BitVec.ofNat 32 r.val) (hi (ix1 k)) = 1#1)
    (htile : ∀ (k : Fin 295) (t : Fin 264), IntOp.cmpi .eq (tile (ix1 k)) (BitVec.ofNat 32 t.val) = 1#1 ↔ (tile (ix1 k)).toNat = t.val) :
    Ok (eid counts) tile exp lo hi first := by
  refine ⟨fun k => (hr k).1, fun k => (hr k).2.1, fun k => ?_, fun k k' hk => ?_, fun k t r ht hm => ?_, fun t r => ?_⟩
  · have := (hr k).2.2
    rcases Nat.lt_or_ge (first (ix1 k)).toNat 1 with h1 | h1
    · exact .inl (BitVec.eq_of_toNat_eq (by simpa using h1))
    · exact .inr (BitVec.eq_of_toNat_eq (by simp; omega))
  · have h1 : IntOp.ori (IntOp.cmpi .sgt (tile (ix1 k')) (tile (ix1 k)))
        (IntOp.andi (IntOp.cmpi .eq (tile (ix1 k')) (tile (ix1 k))) (IntOp.cmpi .eq (first (ix1 k')) 0#32)) = 1#1 := by
      have h0 := hag ⟨k.val, by omega⟩
      rw [show (⟨1 + (⟨k.val, by omega⟩ : Fin 294).val, by omega⟩ : Fin 295) = k' from Fin.ext (by simp; omega)] at h0
      exact h0
    rcases or_one h1 with h1 | h1
    · left
      rw [StableHlo.Predicate.sgt_iff_toNat (by have := (hr k').1; omega) (by have := (hr k).1; omega)] at h1
      exact h1
    · right
      obtain ⟨h1, h2⟩ := and_one h1
      exact ⟨StableHlo.Predicate.cmpi_eq_iff.mp h1, StableHlo.Predicate.cmpi_eq_iff.mp h2⟩
  · rcases or_one (hth k t r) with h1 | h1
    · have hm' := (hmine k r).mp hm
      refine absurd ?_ (not_one h1)
      rw [(htile k t).mpr ht, hm'.1, hm'.2]; decide
    · exact StableHlo.Predicate.cmpi_eq_iff.mp h1
  · have h1 := hcov t r
    obtain ⟨k, -, h1⟩ := fold_or_one _ _ h1
    obtain ⟨h1, h3⟩ := and_one h1
    obtain ⟨h1, h2⟩ := and_one h1
    exact ⟨k, (htile k t).mp h1, (hmine k r).mpr ⟨h2, h3⟩⟩

/-- The ranges of the tables' entries, from the bits that say them. -/
theorem ranges (tile exp first : IVec S295 32)
    (hrng : ∀ k : Fin 295, IntOp.andi (IntOp.andi (IntOp.andi (IntOp.andi (IntOp.andi (IntOp.cmpi .sge (tile (ix1 k)) 0#32)
      (IntOp.cmpi .slt (tile (ix1 k)) 264#32)) (IntOp.cmpi .sge (exp (ix1 k)) 0#32)) (IntOp.cmpi .slt (exp (ix1 k)) 32#32))
      (IntOp.cmpi .sge (first (ix1 k)) 0#32)) (IntOp.cmpi .sle (first (ix1 k)) 1#32) = 1#1) (k : Fin 295) :
    (tile (ix1 k)).toNat < 264 ∧ (exp (ix1 k)).toNat < 32 ∧ (first (ix1 k)).toNat ≤ 1 := by
  obtain ⟨g1, h6⟩ := and_one (hrng k); obtain ⟨g2, h5⟩ := and_one g1; obtain ⟨g3, h4⟩ := and_one g2
  obtain ⟨g4, h3⟩ := and_one g3; obtain ⟨h1, h2⟩ := and_one g4
  clear g1 g2 g3 g4
  clear hrng
  clear * - h1 h2 h3 h4 h5 h6
  generalize tile (ix1 k) = a at *
  generalize exp (ix1 k) = b at *
  generalize first (ix1 k) = c at *
  rw [cmpi_sge_eq, ofBool_decide_eq_one_iff] at h1 h3 h5
  rw [cmpi_slt_eq, ofBool_decide_eq_one_iff] at h2 h4
  rw [cmpi_sle_eq, ofBool_decide_eq_one_iff] at h6
  simp only [BitVec.toInt_eq_toNat_cond, BitVec.toNat_ofNat] at h1 h2 h3 h4 h5 h6
  refine ⟨?_, ?_, ?_⟩
  · split at h1 <;> split at h2 <;> omega
  · split at h3 <;> split at h4 <;> omega
  · split at h5 <;> split at h6 <;> omega

/-- The precondition's value says what `Ok` lists. -/
theorem decode {F : FTy → Type} [FloatOps F] (a0 : FVec F S135168x2048 .f32) (counts : IVec S32 32) (tile exp lo hi first : IVec S295 32)
    (a7) (a8) (a9) (a10) (h : Cert.Pre_items_ok.fn (F := F) a0 counts tile exp lo hi first a7 a8 a9 a10 = fun _ => 1#1) :
    Ok (eid counts) tile exp lo hi first := by
  have h0 := congrFun h ix0
  unfold Cert.Pre_items_ok.fn Cert.Pre_items_ok.fn_part1 Cert.Pre_items_ok.fn_part2 Cert.Pre_items_ok.fn_part3 at h0
  simp only [andi] at h0
  obtain ⟨h0, hcov⟩ := and_one h0
  obtain ⟨h0, hth⟩ := and_one h0
  obtain ⟨hrng, hag⟩ := and_one h0
  replace hrng := fun k : Fin 295 => Host.reduce_andi_all _ _ _ _ _ hrng (ix1 k)
  replace hag := fun k : Fin 294 => Host.reduce_andi_all _ _ _ _ _ hag (ix1 k)
  replace hth := fun (k : Fin 295) (t : Fin 264) (r : Fin 512) => Host.reduce_andi_all _ _ _ _ _ hth (ix3 k t r)
  replace hcov := fun (t : Fin 264) (r : Fin 512) => Host.reduce_andi_all _ _ _ _ _ hcov (ix2 t r)
  pointwise at hrng hag hth hcov
  have hmine : ∀ (k : Fin 295) (r : Fin 512), Mine lo hi k r ↔
      IntOp.cmpi .sle (lo (ix1 k)) (BitVec.ofNat 32 r.val) = 1#1 ∧ IntOp.cmpi .slt (BitVec.ofNat 32 r.val) (hi (ix1 k)) = 1#1 := by
    intro k r
    rw [cmpi_sle_eq, cmpi_slt_eq, ofBool_decide_eq_one_iff, ofBool_decide_eq_one_iff,
      StableHlo.Predicate.toInt_ofNat_small r.val (by omega)]
    exact Iff.rfl
  have htile : ∀ (k : Fin 295) (t : Fin 264), IntOp.cmpi .eq (tile (ix1 k)) (BitVec.ofNat 32 t.val) = 1#1 ↔ (tile (ix1 k)).toNat = t.val := by
    intro k t
    rw [StableHlo.Predicate.cmpi_eq_iff]
    constructor
    · intro h; rw [h, BitVec.toNat_ofNat]; exact Nat.mod_eq_of_lt (by omega)
    · intro h; rw [← h, BitVec.ofNat_toNat, BitVec.setWidth_eq]
  exact decode_of counts tile exp lo hi first (ranges tile exp first hrng) hag hth hcov hmine htile

end Cert.Experts.Items
-- ==== Proof.Experts.FrameBody.lean ====
module

public import proofs.«01_k».proof.Proof.Gen.Experts.Launch
public import proofs.«01_k».proof.Proof.Gen.Experts.Skeleton
public import Idealize.ShloMosaic.Lib.Tactic
public import Idealize.ShloMosaic.Lib.Pipeline.Frame

@[expose] public section
set_option maxRecDepth 16384
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
namespace Cert.Experts.Hand
open Cert.Experts Cert.Experts.Gen
variable {F : FTy → Type} [FloatOps F]
local notation "𝕄" => MT nD τ sig Unit (Elt F) ℕ (UR sig nD τ) ℕ

set_option maxHeartbeats 4000000 in
/-- The body at a grid point, at any float semantics: from the tables and the windows' buffers it runs to its end and
    gives them back, all as they were but the output's, which holds some contents. -/
theorem body (c : Dev nD) (i : grid0.Coords) (arg1 arg2 arg3 arg4 arg5 : Memref sig .tc .smem S295 .i32)
    (harg1 : arg1.IsWhole) (harg2 : arg2.IsWhole) (harg3 : arg3.IsWhole) (harg4 : arg4.IsWhole) (harg5 : arg5.IsWhole)
    (arg6 : Memref sig .tc .vmem S512x2048 .f32) (harg6 : arg6.IsWhole) (arg7 : Memref sig .tc .vmem S1x2048x1536 .bf16) (harg7 : arg7.IsWhole)
    (arg8 : Memref sig .tc .vmem S1x1x1536 .f32) (harg8 : arg8.IsWhole) (arg9 : Memref sig .tc .vmem S1x768x2048 .f32) (harg9 : arg9.IsWhole)
    (arg10 : Memref sig .tc .vmem S1x1x2048 .f32) (harg10 : arg10.IsWhole) (arg11 : Memref sig .tc .vmem S512x2048 .bf16) (harg11 : arg11.IsWhole)
    (q : PosShare TreeShare) (t3 t4 t5 : Vec F S295 .i32)
    (x0 : Vec F S512x2048 .f32) (x1 : Vec F S1x2048x1536 .bf16) (x2 : Vec F S1x1x1536 .f32) (x3 : Vec F S1x768x2048 .f32) (x4 : Vec F S1x1x2048 .f32)
    (E : Set ℕ) (K : PUnit → sProp 𝕄) :
    iprop(owns (c : Thread nD τ) arg3 q t3 ∗ owns (c : Thread nD τ) arg4 q t4 ∗ owns (c : Thread nD τ) arg5 q t5
        ∗ owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4 ∗ (∃ d, owns (c : Thread nD τ) arg11 fullShare d)
        ∗ (iprop(owns (c : Thread nD τ) arg3 q t3 ∗ owns (c : Thread nD τ) arg4 q t4 ∗ owns (c : Thread nD τ) arg5 q t5
            ∗ owns (c : Thread nD τ) arg6 fullShare x0 ∗ owns (c : Thread nD τ) arg7 fullShare x1 ∗ owns (c : Thread nD τ) arg8 fullShare x2
            ∗ owns (c : Thread nD τ) arg9 fullShare x3 ∗ owns (c : Thread nD τ) arg10 fullShare x4 ∗ (∃ d, owns (c : Thread nD τ) arg11 fullShare d)) -∗ K ⟨⟩))
      ⊢ wp frame (wpE (defs₀ (F := F)) Variants.none c none) E
          (cc0_moe_experts i arg1 harg1 arg2 harg2 arg3 harg3 arg4 harg4 arg5 harg5 arg6 harg6 arg7 harg7 arg8 harg8 arg9 harg9 arg10 harg10 arg11 harg11) K := by
  simp only [cc0_moe_experts_eq_skeleton]; unfold cc0_moe_experts_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9; obtain rfl := harg10.eq_unread hf10
  sl_exec
  sl_step
  iapply Hk
  isplitl [H3]
  · iexists _; isplitr
    · ipureintro; exact harg3.read_unread _
    · iexact H3
  isplitl [H4]
  · iexists _; isplitr
    · ipureintro; exact harg4.read_unread _
    · iexact H4
  isplitl [H5]
  · iexists _; isplitr
    · ipureintro; exact harg5.read_unread _
    · iexact H5
  isplitl [H6]
  · iexists _; isplitr
    · ipureintro; exact harg6.read_unread _
    · iexact H6
  isplitl [H7]
  · iexists _; isplitr
    · ipureintro; exact harg7.read_unread _
    · iexact H7
  isplitl [H8]
  · iexists _; isplitr
    · ipureintro; exact harg8.read_unread _
    · iexact H8
  isplitl [H9]
  · iexists _; isplitr
    · ipureintro; exact harg9.read_unread _
    · iexact H9
  isplitl [H10]
  · iexists _; isplitr
    · ipureintro; exact harg10.read_unread _
    · iexact H10
  iexists _; iexists _; isplitr
  swap
  · iexact H11
  ipureintro; rfl

end Cert.Experts.Hand
-- ==== Proof.Experts.Frame.lean ====
module

public import proofs.«01_k».proof.Proof.Experts.Setup
public import proofs.«01_k».proof.Proof.Experts.FrameBody
public import Idealize.ShloMosaic.Lib.Claim

@[expose] public section
set_option maxRecDepth 16384
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
namespace Cert.Experts.Hand
open Cert.Experts Cert.Experts.Gen
variable {F : FTy → Type} [FloatOps F]
local notation "𝕄" => MT nD τ sig Unit (Elt F) ℕ (UR sig nD τ) ℕ
variable (m : (ℓ : Loc nD τ sig) → Buf (Elt F) ℓ) (ρ : Dev nD → PrngReg) (a : (p : Fin 1) → (pcfgs (F := F) p).Adm)

/-- The call's windows, its tables at the contents `a`. -/
abbrev cfgA : Pipeline.Cfg sig Λ₀ := Pipeline.pin (pcfgs (F := F)) a 0

/-- Window `w`'s block at point `t`, of its array as the call finds it. -/
def iblk (c : Dev nD) (w : Fin 6) (t : Fin (cfgA a).N) : (((cfgA a).win w).xblock ((cfgA a).grid.coords t)).Idx → Elt F ((cfgA a).win w).elt :=
  (((cfgA a).win w).blk t).view.read (Elt F) (V m c (Pipeline.arrRef spec0 w))

/-- The run's data: each array at its contents when the call begins, each input's buffer at its block after a point,
    and the tables held all along. -/
def dat (c : Dev nD) : Dat τ (Elt F) Unit ℕ (UR sig nD τ) ℕ (cfgA a) c where
  A w := V m c (Pipeline.arrRef spec0 w)
  after w t := match w with
    | ⟨0, _⟩ => iblk m a c 0 t
    | ⟨1, _⟩ => iblk m a c 1 t
    | ⟨2, _⟩ => iblk m a c 2 t
    | ⟨3, _⟩ => iblk m a c 3 t
    | ⟨4, _⟩ => iblk m a c 4 t
    | ⟨5, h⟩ => Pipeline.Dat.unnamed (cfg := cfgA a) ⟨5, h⟩ t
  Φ _ := iprop(Pipeline.ΦA spec0 c ∗ Pipeline.ΦT pre0 (a 0).1 c)
  q _ := fullShare
  owed _ := 0

/-- The data's arrays are those that the call finds. -/
theorem A_eq (c : Dev nD) (w : Fin 6) : (dat m a c).A w = V m c (Pipeline.arrRef spec0 w) := by dsimp only [dat]

/-! A point leaves each input's buffer at its block, and finds it there. -/

/-- A point leaves input 0's buffer at the input's block. -/
theorem aft0 (c : Dev nD) (t : Fin (cfgA a).N) : (dat m a c).after 0 t = iblk m a c 0 t := rfl
/-- A point finds input 0's buffer at the input's block. -/
theorem bef0 (c : Dev nD) (t : Fin (cfgA a).N) (d) : (dat m a c).before 0 t d = iblk m a c 0 t :=
  ((dat m a c).before_in_eq_fetched 0 rfl (fun _ => rfl) (fun _ _ _ => rfl) (fun t => by rw [aft0]; unfold Dat.blockOf iblk; rw [A_eq]; try rfl) t d).trans
    (by unfold Dat.fetched Dat.blockOf iblk; rw [A_eq]; try rfl)
/-- A point leaves input 1's buffer at the input's block. -/
theorem aft1 (c : Dev nD) (t : Fin (cfgA a).N) : (dat m a c).after 1 t = iblk m a c 1 t := rfl
/-- A point finds input 1's buffer at the input's block. -/
theorem bef1 (c : Dev nD) (t : Fin (cfgA a).N) (d) : (dat m a c).before 1 t d = iblk m a c 1 t :=
  ((dat m a c).before_in_eq_fetched 1 rfl (fun _ => rfl) (fun _ _ _ => rfl) (fun t => by rw [aft1]; unfold Dat.blockOf iblk; rw [A_eq]; try rfl) t d).trans
    (by unfold Dat.fetched Dat.blockOf iblk; rw [A_eq]; try rfl)
/-- A point leaves input 2's buffer at the input's block. -/
theorem aft2 (c : Dev nD) (t : Fin (cfgA a).N) : (dat m a c).after 2 t = iblk m a c 2 t := rfl
/-- A point finds input 2's buffer at the input's block. -/
theorem bef2 (c : Dev nD) (t : Fin (cfgA a).N) (d) : (dat m a c).before 2 t d = iblk m a c 2 t :=
  ((dat m a c).before_in_eq_fetched 2 rfl (fun _ => rfl) (fun _ _ _ => rfl) (fun t => by rw [aft2]; unfold Dat.blockOf iblk; rw [A_eq]; try rfl) t d).trans
    (by unfold Dat.fetched Dat.blockOf iblk; rw [A_eq]; try rfl)
/-- A point leaves input 3's buffer at the input's block. -/
theorem aft3 (c : Dev nD) (t : Fin (cfgA a).N) : (dat m a c).after 3 t = iblk m a c 3 t := rfl
/-- A point finds input 3's buffer at the input's block. -/
theorem bef3 (c : Dev nD) (t : Fin (cfgA a).N) (d) : (dat m a c).before 3 t d = iblk m a c 3 t :=
  ((dat m a c).before_in_eq_fetched 3 rfl (fun _ => rfl) (fun _ _ _ => rfl) (fun t => by rw [aft3]; unfold Dat.blockOf iblk; rw [A_eq]; try rfl) t d).trans
    (by unfold Dat.fetched Dat.blockOf iblk; rw [A_eq]; try rfl)
/-- A point leaves input 4's buffer at the input's block. -/
theorem aft4 (c : Dev nD) (t : Fin (cfgA a).N) : (dat m a c).after 4 t = iblk m a c 4 t := rfl
/-- A point finds input 4's buffer at the input's block. -/
theorem bef4 (c : Dev nD) (t : Fin (cfgA a).N) (d) : (dat m a c).before 4 t d = iblk m a c 4 t :=
  ((dat m a c).before_in_eq_fetched 4 rfl (fun _ => rfl) (fun _ _ _ => rfl) (fun t => by rw [aft4]; unfold Dat.blockOf iblk; rw [A_eq]; try rfl) t d).trans
    (by unfold Dat.fetched Dat.blockOf iblk; rw [A_eq]; try rfl)

/-- The output's buffer is forgotten. -/
def forgets : Fin 6 → Bool := fun w => decide (5 ≤ w.val)

/-- Window `w`'s buffer at point `t`. -/
abbrev ms (w : Fin 6) (t : Fin (cfgA a).N) := (spec0 w).stage ((cfgA a).slots t w)

/-- The body as it is called at a point. -/
abbrev bodyAt (t : Fin (cfgA a).N) : Prog (TpuEff nD τ sig (Elt F) Λ₀ .tc) PUnit :=
  cc0_moe_experts (grid0.coords t) (Memref.whole main_arg2) (Memref.isWhole_whole _) (Memref.whole main_arg3) (Memref.isWhole_whole _)
    (Memref.whole main_arg4) (Memref.isWhole_whole _) (Memref.whole main_arg5) (Memref.isWhole_whole _) (Memref.whole main_arg6) (Memref.isWhole_whole _)
    (spec0_0.stage ((cfgA a).slots t 0)) (hstage0_0 (((cfgA a).slots t 0).cast nbuf0_0)) (spec0_1.stage ((cfgA a).slots t 1)) (hstage0_1 (((cfgA a).slots t 1).cast nbuf0_1))
    (spec0_2.stage ((cfgA a).slots t 2)) (hstage0_2 (((cfgA a).slots t 2).cast nbuf0_2)) (spec0_3.stage ((cfgA a).slots t 3)) (hstage0_3 (((cfgA a).slots t 3).cast nbuf0_3))
    (spec0_4.stage ((cfgA a).slots t 4)) (hstage0_4 (((cfgA a).slots t 4).cast nbuf0_4)) (spec0_5.stage ((cfgA a).slots t 5)) (hstage0_5 (((cfgA a).slots t 5).cast nbuf0_5))

/-- The body that the launch calls at a point is `bodyAt`. -/
theorem defs₀_row (t : Fin (cfgA a).N) : defs₀ (F := F) .tc (cfgA a).body ((cfgA a).bodyArgs t ((cfgA a).slots t)) = bodyAt a t := by
  unfold defs₀; rw [Defs.onTc_tc]

/-- The tables, held one by one. -/
theorem PhiT_eq (pf : pre0.Contents (Elt F)) (c : Dev nD) : (Pipeline.ΦT pre0 pf c : sProp 𝕄)
    = iprop(owns (c : Thread nD τ) (Memref.whole main_arg2) fullShare.right (pf 0) ∗ owns (c : Thread nD τ) (Memref.whole main_arg3) fullShare.right (pf 1)
      ∗ owns (c : Thread nD τ) (Memref.whole main_arg4) fullShare.right (pf 2) ∗ owns (c : Thread nD τ) (Memref.whole main_arg5) fullShare.right (pf 3)
      ∗ owns (c : Thread nD τ) (Memref.whole main_arg6) fullShare.right (pf 4)) := by
  unfold Pipeline.ΦT Pipeline.prefHeld
  rw [bigSep_univ_eq_bigSepL [(0 : Fin 5), (1 : Fin 5), (2 : Fin 5), (3 : Fin 5), (4 : Fin 5)] (by decide) (by decide)]
  exact congrArg₂ _ (owns_whole (c : Thread nD τ) main_arg2 _ (pf 0)).symm (congrArg₂ _ (owns_whole (c : Thread nD τ) main_arg3 _ (pf 1)).symm
    (congrArg₂ _ (owns_whole (c : Thread nD τ) main_arg4 _ (pf 2)).symm (congrArg₂ _ (owns_whole (c : Thread nD τ) main_arg5 _ (pf 3)).symm
      (owns_whole (c : Thread nD τ) main_arg6 _ (pf 4)).symm)))

/-- What the body is called with at a point. -/
def bodyPre (c : Dev nD) (t : Fin (cfgA a).N) : sProp 𝕄 :=
  iprop((dat m a c).Φ t.castSucc ∗ (dat m a c).owesAt () t.castSucc
    ∗ (∃ d, owns (c : Thread nD τ) (ms a 0 t) fullShare ((dat m a c).before 0 t d))
    ∗ (∃ d, owns (c : Thread nD τ) (ms a 1 t) fullShare ((dat m a c).before 1 t d))
    ∗ (∃ d, owns (c : Thread nD τ) (ms a 2 t) fullShare ((dat m a c).before 2 t d))
    ∗ (∃ d, owns (c : Thread nD τ) (ms a 3 t) fullShare ((dat m a c).before 3 t d))
    ∗ (∃ d, owns (c : Thread nD τ) (ms a 4 t) fullShare ((dat m a c).before 4 t d))
    ∗ (∃ d, owns (c : Thread nD τ) (ms a 5 t) fullShare d))

/-- What the body returns at a point. -/
def bodyPost (c : Dev nD) (t : Fin (cfgA a).N) : sProp 𝕄 :=
  iprop((dat m a c).Φ t.succ ∗ (dat m a c).owesAt () t.succ
    ∗ owns (c : Thread nD τ) (ms a 0 t) fullShare ((dat m a c).after 0 t)
    ∗ owns (c : Thread nD τ) (ms a 1 t) fullShare ((dat m a c).after 1 t)
    ∗ owns (c : Thread nD τ) (ms a 2 t) fullShare ((dat m a c).after 2 t)
    ∗ owns (c : Thread nD τ) (ms a 3 t) fullShare ((dat m a c).after 3 t)
    ∗ owns (c : Thread nD τ) (ms a 4 t) fullShare ((dat m a c).after 4 t)
    ∗ (∃ d, owns (c : Thread nD τ) (ms a 5 t) fullShare d))

set_option maxHeartbeats 800000 in
/-- The body at any point takes what it is called with to what it returns. -/
theorem sound_body (c : Dev nD) (t : Fin (cfgA a).N) :
    bodyPre m a c t ⊢ wp frame (wpE (defs₀ (F := F)) Variants.none c none) Set.univ (bodyAt a t) (fun _ => bodyPost m a c t) := by
  unfold bodyPre bodyPost bodyAt
  simp only [bef0, bef1, bef2, bef3, bef4]
  rw [show (dat m a c).Φ t.succ = (dat m a c).Φ t.castSucc from rfl,
    show (dat m a c).owesAt () t.succ = (dat m a c).owesAt () t.castSucc from rfl,
    aft0, aft1,
    aft2, aft3,
    aft4,
    show (dat m a c).Φ t.castSucc = iprop(Pipeline.ΦA spec0 c ∗ Pipeline.ΦT pre0 (a 0).1 c) from rfl, PhiT_eq]
  iintro ⟨⟨HA, T0, T1, T2, T3, T4⟩, Ho, ⟨%d0, H0⟩, ⟨%d1, H1⟩, ⟨%d2, H2⟩, ⟨%d3, H3⟩, ⟨%d4, H4⟩, ⟨%d5, H5⟩⟩
  iapply (body c (grid0.coords t) _ _ _ _ _ _ _ _ _ _ _ _ _ _ _ _ _ _ _ _ _ _ fullShare.right ((a 0).1 2) ((a 0).1 3) ((a 0).1 4)
    (iblk m a c 0 t) (iblk m a c 1 t) (iblk m a c 2 t) (iblk m a c 3 t) (iblk m a c 4 t) Set.univ _)
  isplitl [T2]; · iexact T2
  isplitl [T3]; · iexact T3
  isplitl [T4]; · iexact T4
  isplitl [H0]; · iexact H0
  isplitl [H1]; · iexact H1
  isplitl [H2]; · iexact H2
  isplitl [H3]; · iexact H3
  isplitl [H4]; · iexact H4
  isplitl [H5]; · iexists _; iexact H5
  iintro ⟨T2, T3, T4, H0, H1, H2, H3, H4, H5⟩
  isplitl [HA T0 T1 T2 T3 T4]
  · isplitl [HA]; · iexact HA
    isplitl [T0]; · iexact T0
    isplitl [T1]; · iexact T1
    isplitl [T2]; · iexact T2
    isplitl [T3]; · iexact T3
    iexact T4
  isplitl [Ho]; · iexact Ho
  isplitl [H0]; · iexact H0
  isplitl [H1]; · iexact H1
  isplitl [H2]; · iexact H2
  isplitl [H3]; · iexact H3
  isplitl [H4]; · iexact H4
  iexact H5

/-- What the launch asks of the body, at every point. -/
theorem body_obligation (c : Dev nD) : BodyObligation (dat m a c) (defs₀ (F := F)) Variants.none () Set.univ forgets := fun t => by
  rw [bigSep_W0, bigSep_W0, defs₀_row]
  exact triple_restated (sound_body m a c t) rfl .rfl fun _ => .rfl

set_option backward.isDefEq.respectTransparency.types false in
/-- From tables in range the whole run ends, with every array at what the data say and every semaphore counter at zero. -/
theorem run_all (hpf : ∀ (c : Dev nD) (k : Fin 5), V m c (pre0.ref k) = (a 0).1 k) :
    θ_run defs (onTc (τ := τ) (main (F := F))) (s₀ m ρ) (fun r => Pipeline.RDat.FramePost (cfgA a) (fun c => (dat m a c).toRForget forgets) (V m) r ∧ r.2.sem = fun _ => 0) :=
  Pipeline.RDat.θ_run_frameP (Q' := _) pcfgs a (0 : Fin 1) launch0 defs₀ Variants.none (fun c => (dat m a c).toRForget forgets) m ρ main
    (hbody := fun c => (body_obligation m a c).loose.toRForget) (hshare := fun c w => by
      show (dat m a c).share w = fullShare
      unfold Dat.share; split <;> rfl)
    (howed := fun _ _ => rfl) (V := V m) (hmain := hmain m Variants.none) (hA := A_eq m a) (hpf := hpf) (hΦ := fun _ _ => rfl)

/-- The frame: every argument ends as launched, every semaphore counter at zero. -/
theorem frame (e : Fin 135168 → BitVec 32) (h : Items.Ok e (tabs m 0) (tabs m 1) (tabs m 2) (tabs m 3) (tabs m 4)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  have keep (r : PUnit × MemSt nD τ sig (Elt F)) (H : Pipeline.RDat.FramePost (cfgA (adm m e h)) (fun c => (dat m (adm m e h) c).toRForget forgets) (V m) r)
      (c : Dev nD) (b : Ref sig .tc) (hb : b ∈ Pipeline.restRefs sig spec0) (h0 : b ≠ main_v0) (h1 : b ≠ main_v1) (h2 : b ≠ main_v2) (h3 : b ≠ main_v3)
      (h4 : b ≠ main_v4) : r.2.mem ((c.tc : Thread nD τ).loc b) = m ((c.tc : Thread nD τ).loc b) :=
    ((H c).2 b hb).trans (V_of m c b h0 h1 h2 h3 h4)
  have win (r : PUnit × MemSt nD τ sig (Elt F)) (H : Pipeline.RDat.FramePost (cfgA (adm m e h)) (fun c => (dat m (adm m e h) c).toRForget forgets) (V m) r)
      (c : Dev nD) (w : Fin 6) (hw : (spec0 w).isOut = false) : r.2.mem ((c.tc : Thread nD τ).loc (Pipeline.arrRef spec0 w)) = V m c (Pipeline.arrRef spec0 w) :=
    (H.arr_in c w hw).trans (A_eq m (adm m e h) c w)
  (θ_run defs _ _).mono (fun r H => ⟨fun c => ⟨
      (win r H.1 c 0 rfl).trans (V_of m c main_arg0 (by decide) (by decide) (by decide) (by decide) (by decide)),
      keep r H.1 c main_arg1 (Pipeline.mem_restRefs_of (win := spec0) main_arg1 (by decide) (by decide)) (by decide) (by decide) (by decide) (by decide) (by decide),
      keep r H.1 c main_arg2 (Pipeline.mem_restRefs_of (win := spec0) main_arg2 (by decide) (by decide)) (by decide) (by decide) (by decide) (by decide) (by decide),
      keep r H.1 c main_arg3 (Pipeline.mem_restRefs_of (win := spec0) main_arg3 (by decide) (by decide)) (by decide) (by decide) (by decide) (by decide) (by decide),
      keep r H.1 c main_arg4 (Pipeline.mem_restRefs_of (win := spec0) main_arg4 (by decide) (by decide)) (by decide) (by decide) (by decide) (by decide) (by decide),
      keep r H.1 c main_arg5 (Pipeline.mem_restRefs_of (win := spec0) main_arg5 (by decide) (by decide)) (by decide) (by decide) (by decide) (by decide) (by decide),
      keep r H.1 c main_arg6 (Pipeline.mem_restRefs_of (win := spec0) main_arg6 (by decide) (by decide)) (by decide) (by decide) (by decide) (by decide) (by decide),
      (win r H.1 c 1 rfl).trans (V_of m c main_arg7 (by decide) (by decide) (by decide) (by decide) (by decide)),
      keep r H.1 c main_arg8 (Pipeline.mem_restRefs_of (win := spec0) main_arg8 (by decide) (by decide)) (by decide) (by decide) (by decide) (by decide) (by decide),
      (win r H.1 c 3 rfl).trans (V_of m c main_arg9 (by decide) (by decide) (by decide) (by decide) (by decide)),
      keep r H.1 c main_arg10 (Pipeline.mem_restRefs_of (win := spec0) main_arg10 (by decide) (by decide)) (by decide) (by decide) (by decide) (by decide) (by decide)⟩, H.2⟩)
    (run_all m ρ (adm m e h) (V_tabs m))

end Cert.Experts.Hand
-- ==== Proof.Experts.IdealSetup.lean ====
module

public import proofs.«01_k».proof.Proof.Gen.ExpertsIdeal.Launch
public import proofs.«01_k».proof.Proof.Experts.Items
public import Idealize.ShloMosaic.Lib.Tactic
public import Idealize.ShloMosaic.Lib.Affine
public import Idealize.ShloMosaic.Lib.Pipeline.Frame
public import Idealize.ShloMosaic.Lib.Pipeline.FrameBody
public import Idealize.ShloMosaic.Lib.Pipeline.DatRel

@[expose] public section
set_option maxRecDepth 16384
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
namespace Cert.ExpertsIdeal.Hand
open Cert.ExpertsIdeal Cert.ExpertsIdeal.Gen
variable {F : FTy → Type} [FloatOps F]
local notation "𝕄" => MT nD τ sig Unit (Elt F) ℕ (UR sig nD τ) ℕ

/-- The item a grid point is. -/
def pt (i : grid0.Coords) : Fin 295 := ⟨(i 0).val, (i 0).isLt⟩

/-- The one entry a table is read at, at a grid point: the point's own. -/
theorem emb_eq (i : grid0.Coords) (h : Shape.numel S1 = 1) :
    (Rect.unit (s := S295) (k0_off1 i) S1.size (k0_off1_inb i)).emb (Shape.Idx.first (s := S1) (h.symm ▸ Nat.one_pos)) = ix1 (pt i) := by
  funext a
  refine Fin.ext ?_
  match a with
  | 0 =>
    have h0 : k0_off1 i 0 = (i 0).val := congrFun (k0_off1_eq i) 0
    have := (Shape.Idx.first (s := S1) (h.symm ▸ Nat.one_pos) 0).isLt
    have h1 : ((Shape.Idx.first (s := S1) (h.symm ▸ Nat.one_pos)) 0).val = 0 := by
      have : S1.size 0 = 1 := rfl
      omega
    show k0_off1 i 0 + 1 * ((Shape.Idx.first (s := S1) (h.symm ▸ Nat.one_pos)) 0).val = (i 0).val
    omega

/-- A point's entry of the table of tiles. -/
theorem at0 (pf : pre0.Contents (Elt F)) (i : grid0.Coords) : pf.at 0 (Rect.unit (s := S295) (k0_off1 i) S1.size (k0_off1_inb i)) numel1_S1
    = (pf 0 : IVec S295 32) (ix1 (pt i)) := congrArg (pf 0) (emb_eq i numel1_S1)
/-- A point's entry of the table of experts. -/
theorem at1 (pf : pre0.Contents (Elt F)) (i : grid0.Coords) : pf.at 1 (Rect.unit (s := S295) (k0_off1 i) S1.size (k0_off1_inb i)) numel1_S1
    = (pf 1 : IVec S295 32) (ix1 (pt i)) := congrArg (pf 1) (emb_eq i numel1_S1)

/-- The tile of rows a point works on, as the table has it. -/
def tileOf (pf : pre0.Contents (Elt F)) (i : grid0.Coords) : Nat := ((pf 0 : IVec S295 32) (ix1 (pt i))).toNat
/-- The expert a point works for, as the table has it. -/
def expOf (pf : pre0.Contents (Elt F)) (i : grid0.Coords) : Nat := ((pf 1 : IVec S295 32) (ix1 (pt i))).toNat

/-! Each window's block is its point's tile of rows, or its point's expert's weights. -/

/-- The block of the rows at a point is its tile's. -/
theorem tr0 (pf : pre0.Contents (Elt F)) (i : grid0.Coords) : cc0_transform_0 k0_off1_inb numel1_S1 pf i = ![tileOf pf i, 0] :=
  congrArg (fun n : Nat => (![n, 0] : Fin 2 → Nat)) (congrArg BitVec.toNat ((at0 pf i)))
/-- The block of the gate and up weights at a point is its expert's. -/
theorem tr1 (pf : pre0.Contents (Elt F)) (i : grid0.Coords) : cc0_transform_1 k0_off1_inb numel1_S1 pf i = ![expOf pf i, 0, 0] :=
  congrArg (fun n : Nat => (![n, 0, 0] : Fin 3 → Nat)) (congrArg BitVec.toNat ((BitVec.zero_add _).trans (at1 pf i)))
/-- The block of the gate and up biases at a point is its expert's. -/
theorem tr2 (pf : pre0.Contents (Elt F)) (i : grid0.Coords) : cc0_transform_2 k0_off1_inb numel1_S1 pf i = ![expOf pf i, 0, 0] :=
  congrArg (fun n : Nat => (![n, 0, 0] : Fin 3 → Nat)) (congrArg BitVec.toNat ((at1 pf i)))
/-- The block of the down weights at a point is its expert's. -/
theorem tr3 (pf : pre0.Contents (Elt F)) (i : grid0.Coords) : cc0_transform_3 k0_off1_inb numel1_S1 pf i = ![expOf pf i, 0, 0] :=
  congrArg (fun n : Nat => (![n, 0, 0] : Fin 3 → Nat)) (congrArg BitVec.toNat ((BitVec.zero_add _).trans (at1 pf i)))
/-- The block of the down biases at a point is its expert's. -/
theorem tr4 (pf : pre0.Contents (Elt F)) (i : grid0.Coords) : cc0_transform_4 k0_off1_inb numel1_S1 pf i = ![expOf pf i, 0, 0] :=
  congrArg (fun n : Nat => (![n, 0, 0] : Fin 3 → Nat)) (congrArg BitVec.toNat ((at1 pf i)))
/-- The block of the output at a point is its tile's. -/
theorem tr5 (pf : pre0.Contents (Elt F)) (i : grid0.Coords) : cc0_transform_5 k0_off1_inb numel1_S1 pf i = ![tileOf pf i, 0] :=
  congrArg (fun n : Nat => (![n, 0] : Fin 2 → Nat)) (congrArg BitVec.toNat ((at0 pf i)))

/-- Tables whose tiles and experts are in range send every window's block inside its array. -/
theorem ok_of (pf : pre0.Contents (Elt F)) (ht : ∀ i, tileOf pf i < 264) (he : ∀ i, expOf pf i < 32) : ok0 pf := by
  refine ⟨fun i => ⟨?_, .inl rfl⟩, fun i => ⟨?_, .inr (Affine.block_words_rows (by decide) rfl)⟩, fun i => ⟨?_, .inl rfl⟩, fun i => ⟨?_, .inl rfl⟩,
    fun i => ⟨?_, .inl rfl⟩, fun i => ⟨?_, .inr (Affine.block_words_dvd (by decide) (by decide))⟩⟩
  · rw [tr0]; have h := ht i
    intro a; match a with
    | 0 => show (tileOf pf i + 1) * 512 ≤ 135168; omega
    | 1 => exact le_refl 2048
  · rw [tr1]; have h := he i
    intro a; match a with
    | 0 => show (expOf pf i + 1) * 1 ≤ 128; omega
    | 1 => exact le_refl 2048
    | 2 => exact le_refl 1536
  · rw [tr2]; have h := he i
    intro a; match a with
    | 0 => show (expOf pf i + 1) * 1 ≤ 32; omega
    | 1 => exact le_refl 1
    | 2 => exact le_refl 1536
  · rw [tr3]; have h := he i
    intro a; match a with
    | 0 => show (expOf pf i + 1) * 1 ≤ 128; omega
    | 1 => exact le_refl 768
    | 2 => exact le_refl 2048
  · rw [tr4]; have h := he i
    intro a; match a with
    | 0 => show (expOf pf i + 1) * 1 ≤ 32; omega
    | 1 => exact le_refl 1
    | 2 => exact le_refl 2048
  · rw [tr5]; have h := ht i
    intro a; match a with
    | 0 => show (tileOf pf i + 1) * 512 ≤ 135168; omega
    | 1 => exact le_refl 2048

variable (m : (ℓ : Loc nD τ sig) → Buf (Elt F) ℓ)

/-- Core `c`'s buffers when the call begins: after the host operations. -/
abbrev V (c : Dev nD) (b : Ref sig .tc) : Buf (Elt F) ((c : Thread nD τ).loc b) := StableHlo.after hostOps0 (fun b => m (c, b)) b

/-- No host operation draws a buffer of its own. -/
theorem hostOps0_fresh : (hostOps0 : List (HloOp τ sig (Elt F))).Forall fun op => op.fresh = ∅ := by
  simp only [List.Forall]; repeat' constructor

/-- The program up to the call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer that no host operation writes is found as launched. -/
theorem V_of (c : Dev nD) (b : Ref sig .tc) (h0 : b ≠ main_v0) (h1 : b ≠ main_v1) (h2 : b ≠ main_v2) (h3 : b ≠ main_v3) (h4 : b ≠ main_v4) :
    V m c b = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1, StableHlo.devRef_ne_of_ne h2, StableHlo.devRef_ne_of_ne h3, StableHlo.devRef_ne_of_ne h4⟩))

/-- The five item tables as launched. -/
def tabs : pre0.Contents (Elt F) := fun k => m (((0 : Dev nD).tc : Thread nD τ).loc (pre0.ref k))

/-- The call finds the tables as launched. -/
theorem V_tabs (c : Dev nD) (k : Fin 5) : V m c (pre0.ref k) = tabs m k := by
  obtain rfl : c = 0 := Subsingleton.elim _ _
  match k with
  | 0 => exact V_of m 0 main_arg2 (by decide) (by decide) (by decide) (by decide) (by decide)
  | 1 => exact V_of m 0 main_arg3 (by decide) (by decide) (by decide) (by decide) (by decide)
  | 2 => exact V_of m 0 main_arg4 (by decide) (by decide) (by decide) (by decide) (by decide)
  | 3 => exact V_of m 0 main_arg5 (by decide) (by decide) (by decide) (by decide) (by decide)
  | 4 => exact V_of m 0 main_arg6 (by decide) (by decide) (by decide) (by decide) (by decide)

/-- Tables that meet the precondition, as the call takes them. -/
def adm (e : Fin 135168 → BitVec 32) (h : Cert.Experts.Items.Ok e (tabs m 0) (tabs m 1) (tabs m 2) (tabs m 3) (tabs m 4)) : (p : Fin 1) → (pcfgs (F := F) p).Adm :=
  fun _ => ⟨tabs m, ok_of (tabs m) (fun i => h.tile_lt (pt i)) (fun i => h.exp_lt (pt i))⟩

end Cert.ExpertsIdeal.Hand
-- ==== Proof.Experts.Math.lean ====
module

public import proofs.«01_k».proof.Proof.Gen.ExpertsIdeal.Skeleton
public import Idealize.ShloMosaic.Lib.Pointwise

/-! # What the expert kernel computes of one row, as a plain function of the row and of one expert's weights -/

@[expose] public section
set_option maxRecDepth 16384
noncomputable section
open Idealize.ShloMosaic Idealize.ShloMosaic.TcCoe Idealize.SL.Sem
namespace Cert.ExpertsIdeal.Hand
open Cert.ExpertsIdeal Cert.ExpertsIdeal.Gen

/-- The gated unit: the gate clipped from above, the linear part clipped on both sides. -/
def gate (zg zu : EReal) : EReal :=
  (min (Ideal.ofBits FTy.f32 1088421888#32) (max (Ideal.ofBits FTy.f32 3235905536#32) zu) + 1)
    * (min zg (Ideal.ofBits FTy.f32 1088421888#32)
      * Ideal.logistic (Ideal.ofBits FTy.f32 1071242019#32 * min zg (Ideal.ofBits FTy.f32 1088421888#32)))

/-- The gated unit, spelt out. -/
theorem gate_eq (zg zu : EReal) : gate zg zu
    = (min (Ideal.ofBits FTy.f32 1088421888#32) (max (Ideal.ofBits FTy.f32 3235905536#32) zu) + 1)
      * (min zg (Ideal.ofBits FTy.f32 1088421888#32)
        * Ideal.logistic (Ideal.ofBits FTy.f32 1071242019#32 * min zg (Ideal.ofBits FTy.f32 1088421888#32))) := rfl

/-- The column the gate of hidden unit `x` stands in: gate and linear columns alternate, 128 at a time. -/
def gcol (x : Fin 768) : Fin 1536 := ⟨256 * (x.val / 128) + x.val % 128, by omega⟩
/-- The column the linear part of hidden unit `x` stands in. -/
def ucol (x : Fin 768) : Fin 1536 := ⟨256 * (x.val / 128) + 128 + x.val % 128, by omega⟩

/-- One row through one expert: the gated hidden layer and the layer after it, each with its bias. -/
def ffn (x : Fin 2048 → EReal) (w : Fin 2048 → Fin 1536 → EReal) (b : Fin 1536 → EReal) (v : Fin 768 → Fin 2048 → EReal) (d : Fin 2048 → EReal)
    (c : Fin 2048) : EReal :=
  ∑ k, gate (∑ i, x i * w i (gcol k) + b (gcol k)) (∑ i, x i * w i (ucol k) + b (ucol k)) * v k c + d c

/-- Two columns that are the hidden unit's give its gated value. -/
theorem gate_col (z : Fin 1536 → EReal) (x : Fin 768) (i j : Fin 1536) (hi : i.val = 256 * (x.val / 128) + x.val % 128) (hj : j.val = i.val + 128) :
    gate (z i) (z j) = gate (z (gcol x)) (z (ucol x)) := by
  rw [show i = gcol x from Fin.ext hi, show j = ucol x from Fin.ext (by show j.val = 256 * (x.val / 128) + 128 + x.val % 128; omega)]

/-! ## The whole tile -/

section
variable (A0 : Vec Ideal S512x2048 .f32) (A1 : Vec Ideal S1x2048x1536 .bf16) (A2 : Vec Ideal S1x1x1536 .f32) (A3 : Vec Ideal S1x768x2048 .f32) (A4 : Vec Ideal S1x1x2048 .f32)

/-- The hidden layer before its gate, of a whole tile. -/
theorem pay6_at (r : Fin 512) (n : Fin 1536) : k0_pay6 (F := Ideal) A0 A1 A2 (ix2 r n) = ∑ x, A0 (ix2 r x) * A1 (ix3 0 x n) + A2 (ix3 0 0 n) := by
  pointwise [k0_pay6]

/-- What a whole tile's rows come to. -/
abbrev wY : FVec Ideal S512x2048 .bf16 :=
  k0_pay14 (k0_pay6 A0 A1 A2) (k0_pay7 A0 A1 A2) (k0_pay8 A0 A1 A2) (k0_pay9 (k0_pay6 A0 A1 A2)) (k0_pay10 (k0_pay6 A0 A1 A2)) (k0_pay11 (k0_pay6 A0 A1 A2))
    (k0_pay12 (k0_pay6 A0 A1 A2)) (k0_pay13 (k0_pay6 A0 A1 A2)) A3 A4

/-- A whole tile's row is the row through the expert. -/
theorem wY_at (r : Fin 512) (c : Fin 2048) : wY A0 A1 A2 A3 A4 (ix2 r c)
    = ffn (fun d => A0 (ix2 r d)) (fun d n => A1 (ix3 0 d n)) (fun n => A2 (ix3 0 0 n)) (fun k c => A3 (ix3 0 k c)) (fun c => A4 (ix3 0 0 c)) c := by
  unfold ffn
  simp only [← pay6_at A0 A1 A2 r]
  pointwise [wY, k0_pay14]
  congr 1
  refine Finset.sum_congr rfl fun x _ => ?_
  congr 1
  have hx := x.isLt
  by_cases h0 : x.val < 128
  · rw [dif_pos h0]; pointwise [k0_pay7]; generalize k0_pay6 A0 A1 A2 = Z; rw [← gate_eq]; exact gate_col (fun n => Z (ix2 r n)) x _ _ (by dsimp only; omega) (by dsimp only; omega)
  rw [dif_neg h0]
  by_cases h1 : x.val - 128 < 128
  · rw [dif_pos h1]; pointwise [k0_pay8]; generalize k0_pay6 A0 A1 A2 = Z; rw [← gate_eq]; exact gate_col (fun n => Z (ix2 r n)) x _ _ (by dsimp only; omega) (by dsimp only; omega)
  rw [dif_neg h1]
  by_cases h2 : x.val - 128 - 128 < 128
  · rw [dif_pos h2]; pointwise [k0_pay9]; generalize k0_pay6 A0 A1 A2 = Z; rw [← gate_eq]; exact gate_col (fun n => Z (ix2 r n)) x _ _ (by dsimp only; omega) (by dsimp only; omega)
  rw [dif_neg h2]
  by_cases h3 : x.val - 128 - 128 - 128 < 128
  · rw [dif_pos h3]; pointwise [k0_pay10]; generalize k0_pay6 A0 A1 A2 = Z; rw [← gate_eq]; exact gate_col (fun n => Z (ix2 r n)) x _ _ (by dsimp only; omega) (by dsimp only; omega)
  rw [dif_neg h3]
  by_cases h4 : x.val - 128 - 128 - 128 - 128 < 128
  · rw [dif_pos h4]; pointwise [k0_pay11, k0_pay12, k0_pay13]; generalize k0_pay6 A0 A1 A2 = Z; rw [← gate_eq]; exact gate_col (fun n => Z (ix2 r n)) x _ _ (by dsimp only; omega) (by dsimp only; omega)
  rw [dif_neg h4]
  generalize k0_pay6 A0 A1 A2 = Z; rw [← gate_eq]; exact gate_col (fun n => Z (ix2 r n)) x _ _ (by dsimp only; omega) (by dsimp only; omega)
end

/-! ## Half a tile -/

section
variable (A0 : Vec Ideal S256x2048 .f32) (A1 : Vec Ideal S1x2048x1536 .bf16) (A2 : Vec Ideal S1x1x1536 .f32) (A3 : Vec Ideal S1x768x2048 .f32) (A4 : Vec Ideal S1x1x2048 .f32)

/-- The hidden layer before its gate, of half a tile. -/
theorem pay17_at (r : Fin 256) (n : Fin 1536) : k0_pay17 (F := Ideal) A0 A1 A2 (ix2 r n) = ∑ x, A0 (ix2 r x) * A1 (ix3 0 x n) + A2 (ix3 0 0 n) := by
  pointwise [k0_pay17]

/-- What half a tile's rows come to. -/
abbrev hY : FVec Ideal S256x2048 .bf16 :=
  k0_pay25 (k0_pay17 A0 A1 A2) (k0_pay18 A0 A1 A2) (k0_pay19 A0 A1 A2) (k0_pay20 (k0_pay17 A0 A1 A2)) (k0_pay21 (k0_pay17 A0 A1 A2)) (k0_pay22 (k0_pay17 A0 A1 A2))
    (k0_pay23 (k0_pay17 A0 A1 A2)) (k0_pay24 (k0_pay17 A0 A1 A2)) A3 A4

/-- Half a tile's row is the row through the expert. -/
theorem hY_at (r : Fin 256) (c : Fin 2048) : hY A0 A1 A2 A3 A4 (ix2 r c)
    = ffn (fun d => A0 (ix2 r d)) (fun d n => A1 (ix3 0 d n)) (fun n => A2 (ix3 0 0 n)) (fun k c => A3 (ix3 0 k c)) (fun c => A4 (ix3 0 0 c)) c := by
  unfold ffn
  simp only [← pay17_at A0 A1 A2 r]
  pointwise [hY, k0_pay25]
  congr 1
  refine Finset.sum_congr rfl fun x _ => ?_
  congr 1
  have hx := x.isLt
  by_cases h0 : x.val < 128
  · rw [dif_pos h0]; pointwise [k0_pay18]; generalize k0_pay17 A0 A1 A2 = Z; rw [← gate_eq]; exact gate_col (fun n => Z (ix2 r n)) x _ _ (by dsimp only; omega) (by dsimp only; omega)
  rw [dif_neg h0]
  by_cases h1 : x.val - 128 < 128
  · rw [dif_pos h1]; pointwise [k0_pay19]; generalize k0_pay17 A0 A1 A2 = Z; rw [← gate_eq]; exact gate_col (fun n => Z (ix2 r n)) x _ _ (by dsimp only; omega) (by dsimp only; omega)
  rw [dif_neg h1]
  by_cases h2 : x.val - 128 - 128 < 128
  · rw [dif_pos h2]; pointwise [k0_pay20]; generalize k0_pay17 A0 A1 A2 = Z; rw [← gate_eq]; exact gate_col (fun n => Z (ix2 r n)) x _ _ (by dsimp only; omega) (by dsimp only; omega)
  rw [dif_neg h2]
  by_cases h3 : x.val - 128 - 128 - 128 < 128
  · rw [dif_pos h3]; pointwise [k0_pay21]; generalize k0_pay17 A0 A1 A2 = Z; rw [← gate_eq]; exact gate_col (fun n => Z (ix2 r n)) x _ _ (by dsimp only; omega) (by dsimp only; omega)
  rw [dif_neg h3]
  by_cases h4 : x.val - 128 - 128 - 128 - 128 < 128
  · rw [dif_pos h4]; pointwise [k0_pay22, k0_pay23, k0_pay24]; generalize k0_pay17 A0 A1 A2 = Z; rw [← gate_eq]; exact gate_col (fun n => Z (ix2 r n)) x _ _ (by dsimp only; omega) (by dsimp only; omega)
  rw [dif_neg h4]
  generalize k0_pay17 A0 A1 A2 = Z; rw [← gate_eq]; exact gate_col (fun n => Z (ix2 r n)) x _ _ (by dsimp only; omega) (by dsimp only; omega)
end

/-! ## The rows an item owns -/

/-- Row `n` is between the words `lo` and `hi`. -/
def Within (lo hi : BitVec 32) (n : ℕ) : Prop := lo.toInt ≤ n ∧ (n : ℤ) < hi.toInt

/-- The two comparisons of a small row number with an item's bounds. -/
theorem within_iff (lo hi : BitVec 32) (n : ℕ) (hn : n < 512) (k : BitVec 32) (hk : k.toInt = n) :
    IntOp.andi (IntOp.cmpi .sge k lo) (IntOp.cmpi .slt k hi) = 1#1 ↔ Within lo hi n := by
  have e1 : IntOp.cmpi .sge k lo = BitVec.ofBool (decide (lo.toInt ≤ k.toInt)) := by
    simp [IntOp.cmpi, BitVec.sle_eq_decide]
  have e2 : IntOp.cmpi .slt k hi = BitVec.ofBool (decide (k.toInt < hi.toInt)) := by
    simp [IntOp.cmpi, BitVec.slt_eq_decide]
  rw [e1, e2, hk]
  unfold Within
  by_cases h1 : lo.toInt ≤ n <;> by_cases h2 : (n : ℤ) < hi.toInt <;> simp [h1, h2, IntOp.andi]

/-- The sum of two small words, as an integer. -/
theorem small_toInt (o n : ℕ) (h : o + n < 512) : (IntOp.addi (BitVec.ofNat 32 o) (BitVec.ofNat 32 n)).toInt = ((o + n : ℕ) : ℤ) := by
  show (BitVec.ofNat 32 o + BitVec.ofNat 32 n).toInt = _
  rw [← BitVec.ofNat_add, BitVec.toInt_ofNat']
  simp [Int.bmod]
  omega

/-- The mask of the whole tile marks the item's rows. -/
theorem pay15_at (lo hi : BitVec 32) (r : Fin 512) (z : Fin 1) : k0_pay15 (F := Ideal) lo hi (ix2 r z) = 1#1 ↔ Within lo hi r.val := by
  pointwise [k0_pay15]
  exact within_iff lo hi r.val r.isLt _ ((small_toInt 0 r.val (by omega)).trans (by rw [Nat.zero_add]))
/-- The mask of the upper half marks the item's rows. -/
theorem pay26_at (lo hi : BitVec 32) (r : Fin 256) (z : Fin 1) : k0_pay26 (F := Ideal) lo hi (ix2 r z) = 1#1 ↔ Within lo hi r.val := by
  pointwise [k0_pay26]
  exact within_iff lo hi r.val (by omega) _ ((small_toInt 0 r.val (by omega)).trans (by rw [Nat.zero_add]))
/-- The mask of the lower half marks the item's rows. -/
theorem pay37_at (lo hi : BitVec 32) (r : Fin 256) (z : Fin 1) : k0_pay37 (F := Ideal) lo hi (ix2 r z) = 1#1 ↔ Within lo hi (256 + r.val) := by
  pointwise [k0_pay37]
  exact within_iff lo hi (256 + r.val) (by omega) _ (small_toInt 256 r.val (by omega))

/-- A select takes its first value where its condition holds. -/
theorem select_iff {p : Prop} {w : BitVec 1} (h : w = 1#1 ↔ p) [Decidable p] (a b : EReal) : (Scalar.select w a b : EReal) = if p then a else b := by
  unfold Scalar.select
  by_cases hp : p
  · rw [if_pos hp]; simp [h.mpr hp]
  · rw [if_neg hp]
    have : ¬ w = 1#1 := fun e => hp (h.mp e)
    simp [this]
end Cert.ExpertsIdeal.Hand
-- ==== Proof.Experts.Leaves.lean ====
module

public import proofs.«01_k».proof.Proof.Experts.Math
public import Idealize.ShloMosaic.Lib.VecWindow
public import Idealize.ShloMosaic.Lib.WritesUnit

/-! # What the expert kernel's stores leave in the output's buffer -/

@[expose] public section
set_option maxRecDepth 16384
noncomputable section
open Idealize.ShloMosaic Idealize.ShloMosaic.TcCoe Idealize.SL.Sem
namespace Cert.ExpertsIdeal.Hand
open Cert.ExpertsIdeal Cert.ExpertsIdeal.Gen

/-! ## The conditions -/

/-- A bit widened and tested against zero is the bit. -/
theorem widened (b : BitVec 1) : Scalar.cmpi .ne (Scalar.extui b : BitVec 32) 0#32 = b := by
  revert b; decide

/-- The bit of a signed "less". -/
theorem slt_bit (a b : BitVec 32) : Scalar.cmpi .slt a b = BitVec.ofBool (decide (a.toInt < b.toInt)) := by
  simp [Scalar.cmpi, IntOp.cmpi, BitVec.slt_eq_decide]
/-- The bit of a signed "greater". -/
theorem sgt_bit (a b : BitVec 32) : Scalar.cmpi .sgt a b = BitVec.ofBool (decide (b.toInt < a.toInt)) := by
  simp [Scalar.cmpi, IntOp.cmpi, BitVec.slt_eq_decide]
/-- The bit of an equality. -/
theorem eq_bit (a b : BitVec 32) : Scalar.cmpi .eq a b = BitVec.ofBool (decide (a = b)) := by
  rw [show Scalar.cmpi .eq a b = BitVec.ofBool (a == b) from rfl, beq_eq_decide]

/-- The "and" of two bits is one where both hold. -/
theorem bits_and (p q : Prop) [Decidable p] [Decidable q] : Scalar.andi (BitVec.ofBool (decide p)) (BitVec.ofBool (decide q)) = 1#1 ↔ p ∧ q := by
  by_cases hp : p <;> by_cases hq : q <;> simp [hp, hq, Scalar.andi, IntOp.andi]
/-- The "and" of a complement and a bit is one where the first fails and the second holds. -/
theorem bits_not_and (p q r : Prop) [Decidable p] [Decidable q] [Decidable r] :
    Scalar.andi (Scalar.xori (Scalar.andi (BitVec.ofBool (decide p)) (BitVec.ofBool (decide q))) 1#1) (BitVec.ofBool (decide r)) = 1#1 ↔ ¬ (p ∧ q) ∧ r := by
  by_cases hp : p <;> by_cases hq : q <;> by_cases hr : r <;> simp [hp, hq, hr, Scalar.andi, IntOp.andi, Scalar.xori, IntOp.xori]
/-- The complement of an "and" is one where not both hold. -/
theorem bits_not (p q : Prop) [Decidable p] [Decidable q] :
    Scalar.xori (Scalar.andi (BitVec.ofBool (decide p)) (BitVec.ofBool (decide q))) 1#1 = 1#1 ↔ ¬ (p ∧ q) := by
  by_cases hp : p <;> by_cases hq : q <;> simp [hp, hq, Scalar.andi, IntOp.andi, Scalar.xori, IntOp.xori]
/-- The bit of a proposition is one where it holds. -/
theorem bit_one (p : Prop) [Decidable p] : BitVec.ofBool (decide p) = 1#1 ↔ p := by
  by_cases hp : p <;> simp [hp]

variable (lo hi fi : BitVec 32)

/-- The item has the whole tile. -/
theorem c1 : k0_cond1 lo hi = 1#1 ↔ lo = 0#32 ∧ hi = 512#32 := by
  simp only [k0_cond1, widened, eq_bit, bits_and]
/-- The item does not have the whole tile. -/
theorem c4 : k0_cond4 lo hi = 1#1 ↔ ¬ (lo = 0#32 ∧ hi = 512#32) := by
  simp only [k0_cond4, widened, eq_bit, bits_not]
/-- Whole tile: the item is its tile's first. -/
theorem c2 : k0_cond2 fi = 1#1 ↔ fi = 1#32 := by simp only [k0_cond2, widened, eq_bit, bit_one]
/-- Whole tile: the item is not its tile's first. -/
theorem c3 : k0_cond3 fi = 1#1 ↔ fi = 0#32 := by simp only [k0_cond3, widened, eq_bit, bit_one]
/-- Upper half: the item is its tile's first. -/
theorem c6 : k0_cond6 fi = 1#1 ↔ fi = 1#32 := by simp only [k0_cond6, widened, eq_bit, bit_one]
/-- Upper half: the item is not its tile's first. -/
theorem c7 : k0_cond7 fi = 1#1 ↔ fi = 0#32 := by simp only [k0_cond7, widened, eq_bit, bit_one]
/-- Lower half: the item is its tile's first. -/
theorem c10 : k0_cond10 fi = 1#1 ↔ fi = 1#32 := by simp only [k0_cond10, widened, eq_bit, bit_one]
/-- Lower half: the item is not its tile's first. -/
theorem c11 : k0_cond11 fi = 1#1 ↔ fi = 0#32 := by simp only [k0_cond11, widened, eq_bit, bit_one]
/-- The item has rows in the upper half. -/
theorem c5 : k0_cond5 lo hi = 1#1 ↔ lo.toInt < (256#32).toInt ∧ (0#32).toInt < hi.toInt := by
  simp only [k0_cond5, widened, slt_bit, sgt_bit, bits_and]
/-- The item has rows in the lower half. -/
theorem c9 : k0_cond9 lo hi = 1#1 ↔ lo.toInt < (512#32).toInt ∧ (256#32).toInt < hi.toInt := by
  simp only [k0_cond9, widened, slt_bit, sgt_bit, bits_and]
/-- A first item without rows in the upper half. -/
theorem c8 : k0_cond8 lo hi fi = 1#1 ↔ ¬ (lo.toInt < (256#32).toInt ∧ (0#32).toInt < hi.toInt) ∧ fi = 1#32 := by
  simp only [k0_cond8, widened, slt_bit, sgt_bit, eq_bit, bits_not_and]
/-- A first item without rows in the lower half. -/
theorem c12 : k0_cond12 lo hi fi = 1#1 ↔ ¬ (lo.toInt < (512#32).toInt ∧ (256#32).toInt < hi.toInt) ∧ fi = 1#32 := by
  simp only [k0_cond12, widened, slt_bit, sgt_bit, eq_bit, bits_not_and]

/-! ## The stores -/

variable (v : View sig .tc .vmem S512x2048 .bf16) (f : v.ty.Contents (Elt Ideal))

/-- The rectangle of the whole tile. -/
abbrev RW : Rect S512x2048 := Rect.unit (s := S512x2048) ![0, 0] S512x2048.size inb_S512x2048_S512x2048_0_0
/-- The rectangle of the upper half. -/
abbrev R0 : Rect S512x2048 := Rect.unit (s := S512x2048) ![0, 0] S256x2048.size inb_S512x2048_S256x2048_0_0
/-- The rectangle of the lower half. -/
abbrev R1 : Rect S512x2048 := Rect.unit (s := S512x2048) ![256, 0] S256x2048.size inb_S512x2048_S256x2048_256_0

/-- The stores of an item that covers its tile. -/
def whole (w y : FVec Ideal S512x2048 .bf16) (m : IVec S512x1 1) : v.ty.Contents (Elt Ideal) :=
  if h : k0_cond1 lo hi = 1#1 then
    if h : k0_cond3 fi = 1#1 then
      v.writes (Elt Ideal) (if h : k0_cond2 fi = 1#1 then v.writes (Elt Ideal) f [⟨RW, w⟩] else f)
        [⟨RW, k0_pay1 y m (v.readAt (Elt Ideal) RW.toLoadRect (if h : k0_cond2 fi = 1#1 then v.writes (Elt Ideal) f [⟨RW, w⟩] else f))⟩]
    else if h : k0_cond2 fi = 1#1 then v.writes (Elt Ideal) f [⟨RW, w⟩] else f
  else f

/-- The stores of an item into its tile's upper half, where the half has rows of the item. -/
def up (w y : FVec Ideal S256x2048 .bf16) (m : IVec S256x1 1) : v.ty.Contents (Elt Ideal) :=
  if h : k0_cond5 lo hi = 1#1 then
    if h : k0_cond7 fi = 1#1 then
      v.writes (Elt Ideal) (if h : k0_cond6 fi = 1#1 then v.writes (Elt Ideal) f [⟨R0, w⟩] else f)
        [⟨R0, k0_pay2 y m (v.readAt (Elt Ideal) R0.toLoadRect (if h : k0_cond6 fi = 1#1 then v.writes (Elt Ideal) f [⟨R0, w⟩] else f))⟩]
    else if h : k0_cond6 fi = 1#1 then v.writes (Elt Ideal) f [⟨R0, w⟩] else f
  else f

/-- The upper half cleared where an item that is its tile's first has no row in it. -/
def upZero : v.ty.Contents (Elt Ideal) :=
  if h : k0_cond8 lo hi fi = 1#1 then v.writes (Elt Ideal) f [⟨R0, k0_pay3 (F := Ideal)⟩] else f

/-- The stores of an item into its tile's lower half, where the half has rows of the item. -/
def low (w y : FVec Ideal S256x2048 .bf16) (m : IVec S256x1 1) : v.ty.Contents (Elt Ideal) :=
  if h : k0_cond9 lo hi = 1#1 then
    if h : k0_cond11 fi = 1#1 then
      v.writes (Elt Ideal) (if h : k0_cond10 fi = 1#1 then v.writes (Elt Ideal) f [⟨R1, w⟩] else f)
        [⟨R1, k0_pay4 y m (v.readAt (Elt Ideal) R1.toLoadRect (if h : k0_cond10 fi = 1#1 then v.writes (Elt Ideal) f [⟨R1, w⟩] else f))⟩]
    else if h : k0_cond10 fi = 1#1 then v.writes (Elt Ideal) f [⟨R1, w⟩] else f
  else f

/-- The lower half cleared where an item that is its tile's first has no row in it. -/
def lowZero : v.ty.Contents (Elt Ideal) :=
  if h : k0_cond12 lo hi fi = 1#1 then v.writes (Elt Ideal) f [⟨R1, k0_pay5 (F := Ideal)⟩] else f

/-- All the stores of an item that does not cover its tile. -/
def halves (g : v.ty.Contents (Elt Ideal)) (w0 y0 : FVec Ideal S256x2048 .bf16) (m0 : IVec S256x1 1) (w1 y1 : FVec Ideal S256x2048 .bf16) (m1 : IVec S256x1 1) :
    v.ty.Contents (Elt Ideal) :=
  if h : k0_cond4 lo hi = 1#1 then
    lowZero lo hi fi v (low lo hi fi v (upZero lo hi fi v (up lo hi fi v g w0 y0 m0)) w1 y1 m1)
  else g

/-! ## What they leave, row by row -/

/-- A row of a rectangle of whole rows reads the payload. -/
theorem read_in (o : ℕ) (off : Fin 2 → ℕ) (hoff : off = ![o, 0]) (inb) (w : FVec Ideal S256x2048 .bf16) (r : Fin 512) (k : Fin 256) (hk : r.val = o + k.val) (c : Fin 2048) :
    v.read (Elt Ideal) (v.writes (Elt Ideal) f [⟨Rect.unit (s := S512x2048) off S256x2048.size inb, w⟩]) (ix2 r c) = w (ix2 k c) :=
  View.read_writes_cons_rows_of_mem v f inb w [] (ix2 r c) (ix2 k c) hoff hk rfl
/-- A row outside it reads what was there. -/
theorem read_out (o : ℕ) (off : Fin 2 → ℕ) (hoff : off = ![o, 0]) (inb) (w : FVec Ideal S256x2048 .bf16) (r : Fin 512) (hr : r.val < o ∨ o + 256 ≤ r.val) (c : Fin 2048) :
    v.read (Elt Ideal) (v.writes (Elt Ideal) f [⟨Rect.unit (s := S512x2048) off S256x2048.size inb, w⟩]) (ix2 r c) = v.read (Elt Ideal) f (ix2 r c) :=
  View.read_writes_cons_rows_of_not_mem v f inb w [] (ix2 r c) hoff rfl hr
/-- A load of a rectangle of whole rows. -/
theorem load_at (o : ℕ) (off : Fin 2 → ℕ) (hoff : off = ![o, 0]) (inb) (r : Fin 512) (k : Fin 256) (hk : r.val = o + k.val) (c : Fin 2048) :
    v.readAt (Elt Ideal) (Rect.unit (s := S512x2048) off S256x2048.size inb).toLoadRect f (ix2 k c) = v.read (Elt Ideal) f (ix2 r c) := by
  subst hoff
  refine congrArg (v.read (Elt Ideal) f) (funext fun a => Fin.ext ?_)
  match a with
  | 0 => show o + 1 * k.val = r.val; omega
  | 1 => show 0 + 1 * c.val = c.val; omega

section
variable (A0 : Vec Ideal S512x2048 .f32) (A1 : Vec Ideal S1x2048x1536 .bf16) (A2 : Vec Ideal S1x1x1536 .f32) (A3 : Vec Ideal S1x768x2048 .f32) (A4 : Vec Ideal S1x1x2048 .f32)

/-- What row `r` of the tile comes to. -/
def rowOut (r : Fin 512) (c : Fin 2048) : EReal :=
  ffn (fun d => A0 (ix2 r d)) (fun d n => A1 (ix3 0 d n)) (fun n => A2 (ix3 0 0 n)) (fun k c => A3 (ix3 0 k c)) (fun c => A4 (ix3 0 0 c)) c

/-- The item's own rows hold what they come to; where the item is not its tile's first, the other rows hold what they held. -/
def Leaves (Y X : Vec Ideal S512x2048 .bf16) (r : Fin 512) (c : Fin 2048) : Prop :=
  (Within lo hi r.val → X (ix2 r c) = rowOut A0 A1 A2 A3 A4 r c) ∧ (¬ Within lo hi r.val → fi = 0#32 → X (ix2 r c) = Y (ix2 r c))

/-- The whole tile's payload where the item is its tile's first. -/
abbrev wW : FVec Ideal S512x2048 .bf16 :=
  k0_pay16 lo hi (k0_pay6 A0 A1 A2) (k0_pay7 A0 A1 A2) (k0_pay8 A0 A1 A2) (k0_pay9 (k0_pay6 A0 A1 A2)) (k0_pay10 (k0_pay6 A0 A1 A2)) (k0_pay11 (k0_pay6 A0 A1 A2))
    (k0_pay12 (k0_pay6 A0 A1 A2)) (k0_pay13 (k0_pay6 A0 A1 A2)) A3 A4

/-- A first item's store of the whole tile has, on the item's rows, what they come to. -/
theorem wW_at (r : Fin 512) (c : Fin 2048) (h : Within lo hi r.val) : wW lo hi A0 A1 A2 A3 A4 (ix2 r c) = rowOut A0 A1 A2 A3 A4 r c := by
  classical
  refine Eq.trans ?_ (wY_at A0 A1 A2 A3 A4 r c)
  pointwise [wW, k0_pay16]
  rw [select_iff (pay15_at lo hi r 0), if_pos h]
/-- A later item's store of the whole tile: its own rows new, the others as they were. -/
theorem pay1_at (y : FVec Ideal S512x2048 .bf16) (V : Vec Ideal S512x2048 .bf16) (r : Fin 512) (c : Fin 2048) [Decidable (Within lo hi r.val)] :
    k0_pay1 (F := Ideal) y (k0_pay15 (F := Ideal) lo hi) V (ix2 r c) = if Within lo hi r.val then y (ix2 r c) else V (ix2 r c) := by
  pointwise [k0_pay1]
  exact select_iff (pay15_at lo hi r 0) _ _

/-- An item that covers its tile leaves every row as it should. -/
theorem whole_leaves (h1 : lo = 0#32 ∧ hi = 512#32) (hf : fi = 0#32 ∨ fi = 1#32) (r : Fin 512) (c : Fin 2048) :
    Leaves lo hi fi A0 A1 A2 A3 A4 (v.read (Elt Ideal) f)
      (v.read (Elt Ideal) (whole lo hi fi v f (wW lo hi A0 A1 A2 A3 A4) (wY A0 A1 A2 A3 A4) (k0_pay15 (F := Ideal) lo hi))) r c := by
  classical
  unfold whole Leaves
  rw [dif_pos ((c1 lo hi).mpr h1)]
  rcases hf with hf | hf
  · have h2 : ¬ k0_cond2 fi = 1#1 := fun h => by rw [c2, hf] at h; exact absurd h (by decide)
    rw [dif_pos ((c3 fi).mpr hf), dif_neg h2, View.read_writes_full, pay1_at, View.readAt_full]
    exact ⟨fun hw => (if_pos hw).trans (wY_at A0 A1 A2 A3 A4 r c), fun hw _ => if_neg hw⟩
  · have h3 : ¬ k0_cond3 fi = 1#1 := fun h => by rw [c3, hf] at h; exact absurd h (by decide)
    rw [dif_neg h3, dif_pos ((c2 fi).mpr hf), View.read_writes_full]
    exact ⟨fun hw => wW_at lo hi A0 A1 A2 A3 A4 r c hw, fun _ h0 => absurd (h0.symm.trans hf) (by decide)⟩
end

section
variable (A0 : Vec Ideal S512x2048 .f32) (B : Vec Ideal S256x2048 .f32) (A1 : Vec Ideal S1x2048x1536 .bf16) (A2 : Vec Ideal S1x1x1536 .f32) (A3 : Vec Ideal S1x768x2048 .f32) (A4 : Vec Ideal S1x1x2048 .f32)

/-- The upper half's payload where the item is its tile's first. -/
abbrev wU : FVec Ideal S256x2048 .bf16 :=
  k0_pay27 lo hi (k0_pay17 B A1 A2) (k0_pay18 B A1 A2) (k0_pay19 B A1 A2) (k0_pay20 (k0_pay17 B A1 A2)) (k0_pay21 (k0_pay17 B A1 A2)) (k0_pay22 (k0_pay17 B A1 A2))
    (k0_pay23 (k0_pay17 B A1 A2)) (k0_pay24 (k0_pay17 B A1 A2)) A3 A4
/-- The lower half's payload where the item is its tile's first. -/
abbrev wL : FVec Ideal S256x2048 .bf16 :=
  k0_pay38 lo hi (k0_pay28 B A1 A2) (k0_pay29 B A1 A2) (k0_pay30 B A1 A2) (k0_pay31 (k0_pay28 B A1 A2)) (k0_pay32 (k0_pay28 B A1 A2)) (k0_pay33 (k0_pay28 B A1 A2))
    (k0_pay34 (k0_pay28 B A1 A2)) (k0_pay35 (k0_pay28 B A1 A2)) A3 A4
/-- What the lower half's rows come to. -/
abbrev lY : FVec Ideal S256x2048 .bf16 :=
  k0_pay36 (k0_pay28 B A1 A2) (k0_pay29 B A1 A2) (k0_pay30 B A1 A2) (k0_pay31 (k0_pay28 B A1 A2)) (k0_pay32 (k0_pay28 B A1 A2)) (k0_pay33 (k0_pay28 B A1 A2))
    (k0_pay34 (k0_pay28 B A1 A2)) (k0_pay35 (k0_pay28 B A1 A2)) A3 A4
/-- The two halves compute alike. -/
theorem lY_eq : lY B A1 A2 A3 A4 = hY B A1 A2 A3 A4 := rfl

/-- A half's row comes to what the tile's row comes to. -/
theorem half_row (o : ℕ) (hB : ∀ (k : Fin 256) (r : Fin 512), r.val = o + k.val → ∀ d, B (ix2 k d) = A0 (ix2 r d)) (k : Fin 256) (r : Fin 512) (hk : r.val = o + k.val) (c : Fin 2048) :
    hY B A1 A2 A3 A4 (ix2 k c) = rowOut A0 A1 A2 A3 A4 r c := by
  refine (hY_at B A1 A2 A3 A4 k c).trans ?_
  unfold rowOut
  rw [show (fun d => B (ix2 k d)) = fun d => A0 (ix2 r d) from funext fun d => hB k r hk d]

/-- A first item's store of the upper half has, on the item's rows, what they come to. -/
theorem pay27_at (k : Fin 256) (c : Fin 2048) (h : Within lo hi k.val) : wU lo hi B A1 A2 A3 A4 (ix2 k c) = hY B A1 A2 A3 A4 (ix2 k c) := by
  classical
  pointwise [wU, k0_pay27]
  rw [select_iff (pay26_at lo hi k 0), if_pos h]
/-- A first item's store of the lower half has, on the item's rows, what they come to. -/
theorem pay38_at (k : Fin 256) (c : Fin 2048) (h : Within lo hi (256 + k.val)) : wL lo hi B A1 A2 A3 A4 (ix2 k c) = lY B A1 A2 A3 A4 (ix2 k c) := by
  classical
  pointwise [wL, k0_pay38]
  rw [select_iff (pay37_at lo hi k 0), if_pos h]
/-- A later item's store of the upper half: its own rows new, the others as they were. -/
theorem pay2_at (y : FVec Ideal S256x2048 .bf16) (V : Vec Ideal S256x2048 .bf16) (k : Fin 256) (c : Fin 2048) [Decidable (Within lo hi k.val)] :
    k0_pay2 (F := Ideal) y (k0_pay26 (F := Ideal) lo hi) V (ix2 k c) = if Within lo hi k.val then y (ix2 k c) else V (ix2 k c) := by
  pointwise [k0_pay2]
  exact select_iff (pay26_at lo hi k 0) _ _
/-- A later item's store of the lower half: its own rows new, the others as they were. -/
theorem pay4_at (y : FVec Ideal S256x2048 .bf16) (V : Vec Ideal S256x2048 .bf16) (k : Fin 256) (c : Fin 2048) [Decidable (Within lo hi (256 + k.val))] :
    k0_pay4 (F := Ideal) y (k0_pay37 (F := Ideal) lo hi) V (ix2 k c) = if Within lo hi (256 + k.val) then y (ix2 k c) else V (ix2 k c) := by
  pointwise [k0_pay4]
  exact select_iff (pay37_at lo hi k 0) _ _

/-- The upper half's stores leave its rows as they should. -/
theorem up_leaves (hB : ∀ (k : Fin 256) (r : Fin 512), r.val = 0 + k.val → ∀ d, B (ix2 k d) = A0 (ix2 r d)) (hf : fi = 0#32 ∨ fi = 1#32) (r : Fin 512) (hr : r.val < 256) (c : Fin 2048) :
    Leaves lo hi fi A0 A1 A2 A3 A4 (v.read (Elt Ideal) f)
      (v.read (Elt Ideal) (upZero lo hi fi v (up lo hi fi v f (wU lo hi B A1 A2 A3 A4) (hY B A1 A2 A3 A4) (k0_pay26 (F := Ideal) lo hi)))) r c := by
  classical
  have hk : r.val = 0 + (⟨r.val, hr⟩ : Fin 256).val := (Nat.zero_add _).symm
  unfold upZero up Leaves
  by_cases h5 : k0_cond5 lo hi = 1#1
  · have h8 : ¬ k0_cond8 lo hi fi = 1#1 := fun h => ((c8 lo hi fi).mp h).1 ((c5 lo hi).mp h5)
    rw [dif_neg h8, dif_pos h5]
    rcases hf with hf | hf
    · have h2 : ¬ k0_cond6 fi = 1#1 := fun h => by rw [c6, hf] at h; exact absurd h (by decide)
      rw [dif_pos ((c7 fi).mpr hf), dif_neg h2, read_in v f 0 _ rfl _ _ r ⟨r.val, hr⟩ hk c, pay2_at, load_at v f 0 _ rfl _ r ⟨r.val, hr⟩ hk c]
      exact ⟨fun hw => (if_pos hw).trans (half_row A0 B A1 A2 A3 A4 0 hB _ r hk c), fun hw _ => if_neg hw⟩
    · have h3 : ¬ k0_cond7 fi = 1#1 := fun h => by rw [c7, hf] at h; exact absurd h (by decide)
      rw [dif_neg h3, dif_pos ((c6 fi).mpr hf), read_in v f 0 _ rfl _ _ r ⟨r.val, hr⟩ hk c]
      exact ⟨fun hw => (pay27_at lo hi B A1 A2 A3 A4 ⟨r.val, hr⟩ c hw).trans (half_row A0 B A1 A2 A3 A4 0 hB _ r hk c), fun _ h0 => absurd (h0.symm.trans hf) (by decide)⟩
  · rw [dif_neg h5]
    have hn : ¬ Within lo hi r.val := fun ⟨a, b⟩ => h5 ((c5 lo hi).mpr ⟨by rw [show (256#32).toInt = 256 from rfl]; omega, by rw [show (0#32).toInt = 0 from rfl]; omega⟩)
    refine ⟨fun hw => absurd hw hn, fun _ h0 => ?_⟩
    have h8 : ¬ k0_cond8 lo hi fi = 1#1 := fun h => absurd (h0.symm.trans ((c8 lo hi fi).mp h).2) (by decide)
    rw [dif_neg h8]

/-- The upper half's stores leave the lower half alone. -/
theorem up_keeps (w y : FVec Ideal S256x2048 .bf16) (m : IVec S256x1 1) (r : Fin 512) (hr : 256 ≤ r.val) (c : Fin 2048) :
    v.read (Elt Ideal) (upZero lo hi fi v (up lo hi fi v f w y m)) (ix2 r c) = v.read (Elt Ideal) f (ix2 r c) := by
  have k (g : v.ty.Contents (Elt Ideal)) (x : FVec Ideal S256x2048 .bf16) : v.read (Elt Ideal) (v.writes (Elt Ideal) g [⟨R0, x⟩]) (ix2 r c) = v.read (Elt Ideal) g (ix2 r c) :=
    read_out v g 0 _ rfl _ x r (.inr (by omega)) c
  unfold upZero up
  split_ifs <;> simp only [k]

/-- The lower half's stores leave its rows as they should. -/
theorem low_leaves (hB : ∀ (k : Fin 256) (r : Fin 512), r.val = 256 + k.val → ∀ d, B (ix2 k d) = A0 (ix2 r d)) (hf : fi = 0#32 ∨ fi = 1#32) (r : Fin 512) (hr : 256 ≤ r.val) (c : Fin 2048) :
    Leaves lo hi fi A0 A1 A2 A3 A4 (v.read (Elt Ideal) f)
      (v.read (Elt Ideal) (lowZero lo hi fi v (low lo hi fi v f (wL lo hi B A1 A2 A3 A4) (lY B A1 A2 A3 A4) (k0_pay37 (F := Ideal) lo hi)))) r c := by
  classical
  have hr' := r.isLt
  obtain ⟨k, hk⟩ : ∃ k : Fin 256, r.val = 256 + k.val := ⟨⟨r.val - 256, by omega⟩, by dsimp only; omega⟩
  unfold lowZero low Leaves
  rw [hk]
  by_cases h5 : k0_cond9 lo hi = 1#1
  · have h8 : ¬ k0_cond12 lo hi fi = 1#1 := fun h => ((c12 lo hi fi).mp h).1 ((c9 lo hi).mp h5)
    rw [dif_neg h8, dif_pos h5]
    rcases hf with hf | hf
    · have h2 : ¬ k0_cond10 fi = 1#1 := fun h => by rw [c10, hf] at h; exact absurd h (by decide)
      rw [dif_pos ((c11 fi).mpr hf), dif_neg h2, read_in v f 256 _ rfl _ _ r k hk c, pay4_at, load_at v f 256 _ rfl _ r k hk c, lY_eq]
      exact ⟨fun hw => (if_pos hw).trans (half_row A0 B A1 A2 A3 A4 256 hB _ r hk c), fun hw _ => if_neg hw⟩
    · have h3 : ¬ k0_cond11 fi = 1#1 := fun h => by rw [c11, hf] at h; exact absurd h (by decide)
      rw [dif_neg h3, dif_pos ((c10 fi).mpr hf), read_in v f 256 _ rfl _ _ r k hk c]
      exact ⟨fun hw => (pay38_at lo hi B A1 A2 A3 A4 k c hw).trans ((congrFun (lY_eq B A1 A2 A3 A4) _).trans (half_row A0 B A1 A2 A3 A4 256 hB _ r hk c)),
        fun _ h0 => absurd (h0.symm.trans hf) (by decide)⟩
  · rw [dif_neg h5]
    have hn : ¬ Within lo hi (256 + k.val) := fun ⟨a, b⟩ => h5 ((c9 lo hi).mpr ⟨by rw [show (512#32).toInt = 512 from rfl]; omega, by rw [show (256#32).toInt = 256 from rfl]; omega⟩)
    refine ⟨fun hw => absurd hw hn, fun _ h0 => ?_⟩
    have h8 : ¬ k0_cond12 lo hi fi = 1#1 := fun h => absurd (h0.symm.trans ((c12 lo hi fi).mp h).2) (by decide)
    rw [dif_neg h8]

/-- The lower half's stores leave the upper half alone. -/
theorem low_keeps (w y : FVec Ideal S256x2048 .bf16) (m : IVec S256x1 1) (r : Fin 512) (hr : r.val < 256) (c : Fin 2048) :
    v.read (Elt Ideal) (lowZero lo hi fi v (low lo hi fi v f w y m)) (ix2 r c) = v.read (Elt Ideal) f (ix2 r c) := by
  have k (g : v.ty.Contents (Elt Ideal)) (x : FVec Ideal S256x2048 .bf16) : v.read (Elt Ideal) (v.writes (Elt Ideal) g [⟨R1, x⟩]) (ix2 r c) = v.read (Elt Ideal) g (ix2 r c) :=
    read_out v g 256 _ rfl _ x r (.inl hr) c
  unfold lowZero low
  split_ifs <;> simp only [k]
end

section
variable (A0 : Vec Ideal S512x2048 .f32) (B0 B1 : Vec Ideal S256x2048 .f32) (A1 : Vec Ideal S1x2048x1536 .bf16) (A2 : Vec Ideal S1x1x1536 .f32) (A3 : Vec Ideal S1x768x2048 .f32) (A4 : Vec Ideal S1x1x2048 .f32)

/-- All of an item's stores together leave every row as it should. -/
theorem leaves (h0 : ∀ (k : Fin 256) (r : Fin 512), r.val = 0 + k.val → ∀ d, B0 (ix2 k d) = A0 (ix2 r d))
    (h1 : ∀ (k : Fin 256) (r : Fin 512), r.val = 256 + k.val → ∀ d, B1 (ix2 k d) = A0 (ix2 r d)) (hf : fi = 0#32 ∨ fi = 1#32) (r : Fin 512) (c : Fin 2048) :
    Leaves lo hi fi A0 A1 A2 A3 A4 (v.read (Elt Ideal) f)
      (v.read (Elt Ideal) (halves lo hi fi v (whole lo hi fi v f (wW lo hi A0 A1 A2 A3 A4) (wY A0 A1 A2 A3 A4) (k0_pay15 (F := Ideal) lo hi))
        (wU lo hi B0 A1 A2 A3 A4) (hY B0 A1 A2 A3 A4) (k0_pay26 (F := Ideal) lo hi) (wL lo hi B1 A1 A2 A3 A4) (lY B1 A1 A2 A3 A4) (k0_pay37 (F := Ideal) lo hi))) r c := by
  unfold halves
  by_cases hw : lo = 0#32 ∧ hi = 512#32
  · rw [dif_neg (fun h => (c4 lo hi).mp h hw)]
    exact whole_leaves lo hi fi v f A0 A1 A2 A3 A4 hw hf r c
  · rw [dif_pos ((c4 lo hi).mpr hw), show whole lo hi fi v f (wW lo hi A0 A1 A2 A3 A4) (wY A0 A1 A2 A3 A4) (k0_pay15 (F := Ideal) lo hi) = f from
      dif_neg (fun h => hw ((c1 lo hi).mp h))]
    by_cases hr : r.val < 256
    · have := up_leaves lo hi fi v f A0 B0 A1 A2 A3 A4 h0 hf r hr c
      unfold Leaves at this ⊢
      rw [low_keeps lo hi fi v _ _ _ _ r hr c]
      exact this
    · have := low_leaves lo hi fi v (upZero lo hi fi v (up lo hi fi v f (wU lo hi B0 A1 A2 A3 A4) (hY B0 A1 A2 A3 A4) (k0_pay26 (F := Ideal) lo hi))) A0 B1 A1 A2 A3 A4 h1 hf r (by omega) c
      unfold Leaves at this ⊢
      rw [up_keeps lo hi fi v f _ _ _ r (by omega) c] at this
      exact this
end
end Cert.ExpertsIdeal.Hand
-- ==== Proof.Experts.IdealBody.lean ====
module

public import proofs.«01_k».proof.Proof.Gen.ExpertsIdeal.Launch
public import proofs.«01_k».proof.Proof.Gen.ExpertsIdeal.Skeleton
public import proofs.«01_k».proof.Proof.Experts.IdealSetup
public import proofs.«01_k».proof.Proof.Experts.Leaves
public import Idealize.ShloMosaic.Lib.Tactic
public import Idealize.ShloMosaic.Lib.Pointwise
public import Idealize.ShloMosaic.Lib.VecWindow
public import Idealize.ShloMosaic.Lib.Pipeline.Frame

@[expose] public section
set_option maxRecDepth 16384
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
namespace Cert.ExpertsIdeal.Hand
open Cert.ExpertsIdeal Cert.ExpertsIdeal.Gen
local notation "𝕄" => MT nD τ sig Unit (Elt Ideal) ℕ (UR sig nD τ) ℕ

/-- The word a point reads of a table, the point's offset written out. -/
theorem word_eq {κ : Kind} (arg : Memref sig κ .smem S295 .i32) (harg : arg.IsWhole) (i : grid0.Coords) (t : Vec Ideal S295 .i32) (x) :
    View.readAt (Elt Ideal) arg.view (Rect.unit (s := S295) ![BitVec.toNat (Scalar.indexCast (BitVec.ofNat 32 (i 0).val))] ![1] (k0_off1_inb i)).toLoadRect (harg.unread t) x = t (ix1 (pt i)) := by
  refine (congrArg (arg.view.read (Elt Ideal) (harg.unread t)) (funext fun a => Fin.ext ?_)).trans (congrFun (harg.read_unread t) _)
  match a with
  | 0 =>
    have h0 : k0_off1 i 0 = (i 0).val := congrFun (k0_off1_eq i) 0
    have h1 : (x 0).val < 1 := (x 0).isLt
    show k0_off1 i 0 + 1 * (x 0).val = (i 0).val
    omega

/-! A load of a whole buffer reads what it holds. -/

/-- A load of the whole buffer of rows reads what it holds. -/
theorem full6 {κ : Kind} (arg : Memref sig κ .vmem S512x2048 .f32) (harg : arg.IsWhole) (x : Vec Ideal S512x2048 .f32) (inb) :
    View.readAt (Elt Ideal) arg.view (Rect.unit (s := S512x2048) ![0, 0] ![512, 2048] inb).toLoadRect (harg.unread x) = x :=
  (View.readAt_full (Val := Elt Ideal) arg.view (harg.unread x) inb).trans (harg.read_unread x)
/-- A load of the whole buffer of gate and up weights reads what it holds. -/
theorem full7 {κ : Kind} (arg : Memref sig κ .vmem S1x2048x1536 .bf16) (harg : arg.IsWhole) (x : Vec Ideal S1x2048x1536 .bf16) (inb) :
    View.readAt (Elt Ideal) arg.view (Rect.unit (s := S1x2048x1536) ![0, 0, 0] ![1, 2048, 1536] inb).toLoadRect (harg.unread x) = x :=
  (View.readAt_full (Val := Elt Ideal) arg.view (harg.unread x) inb).trans (harg.read_unread x)
/-- A load of the whole buffer of gate and up biases reads what it holds. -/
theorem full8 {κ : Kind} (arg : Memref sig κ .vmem S1x1x1536 .f32) (harg : arg.IsWhole) (x : Vec Ideal S1x1x1536 .f32) (inb) :
    View.readAt (Elt Ideal) arg.view (Rect.unit (s := S1x1x1536) ![0, 0, 0] ![1, 1, 1536] inb).toLoadRect (harg.unread x) = x :=
  (View.readAt_full (Val := Elt Ideal) arg.view (harg.unread x) inb).trans (harg.read_unread x)
/-- A load of the whole buffer of down weights reads what it holds. -/
theorem full9 {κ : Kind} (arg : Memref sig κ .vmem S1x768x2048 .f32) (harg : arg.IsWhole) (x : Vec Ideal S1x768x2048 .f32) (inb) :
    View.readAt (Elt Ideal) arg.view (Rect.unit (s := S1x768x2048) ![0, 0, 0] ![1, 768, 2048] inb).toLoadRect (harg.unread x) = x :=
  (View.readAt_full (Val := Elt Ideal) arg.view (harg.unread x) inb).trans (harg.read_unread x)
/-- A load of the whole buffer of down biases reads what it holds. -/
theorem full10 {κ : Kind} (arg : Memref sig κ .vmem S1x1x2048 .f32) (harg : arg.IsWhole) (x : Vec Ideal S1x1x2048 .f32) (inb) :
    View.readAt (Elt Ideal) arg.view (Rect.unit (s := S1x1x2048) ![0, 0, 0] ![1, 1, 2048] inb).toLoadRect (harg.unread x) = x :=
  (View.readAt_full (Val := Elt Ideal) arg.view (harg.unread x) inb).trans (harg.read_unread x)

/-- A load of whole rows reads those rows. -/
theorem rows_at (arg : Memref sig .tc .vmem S512x2048 .f32) (harg : arg.IsWhole) (x : Vec Ideal S512x2048 .f32) (o : ℕ) (off : Fin 2 → ℕ) (hoff : off = ![o, 0]) (inb)
    (k : Fin 256) (r : Fin 512) (hk : r.val = o + k.val) (d : Fin 2048) :
    View.readAt (Elt Ideal) arg.view (Rect.unit (s := S512x2048) off S256x2048.size inb).toLoadRect (harg.unread x) (ix2 k d) = x (ix2 r d) := by
  subst hoff
  refine (congrArg (arg.view.read (Elt Ideal) (harg.unread x)) (funext fun a => Fin.ext ?_)).trans (congrFun (harg.read_unread x) (ix2 r d))
  match a with
  | 0 => show o + 1 * k.val = r.val; omega
  | 1 => show 0 + 1 * d.val = d.val; omega

/-- Which of the conditions on the tile's first item hold. -/
theorem cases_first (lo hi fi : BitVec 32) (hf : fi = 0#32 ∨ fi = 1#32) :
    (¬ k0_cond2 fi = 1#1 ∧ k0_cond3 fi = 1#1 ∧ ¬ k0_cond6 fi = 1#1 ∧ k0_cond7 fi = 1#1 ∧ ¬ k0_cond10 fi = 1#1 ∧ k0_cond11 fi = 1#1
      ∧ ¬ k0_cond8 lo hi fi = 1#1 ∧ ¬ k0_cond12 lo hi fi = 1#1)
    ∨ (k0_cond2 fi = 1#1 ∧ ¬ k0_cond3 fi = 1#1 ∧ k0_cond6 fi = 1#1 ∧ ¬ k0_cond7 fi = 1#1 ∧ k0_cond10 fi = 1#1 ∧ ¬ k0_cond11 fi = 1#1
      ∧ (k0_cond8 lo hi fi = 1#1 ↔ ¬ k0_cond5 lo hi = 1#1) ∧ (k0_cond12 lo hi fi = 1#1 ↔ ¬ k0_cond9 lo hi = 1#1)) := by
  simp only [c2, c3, c6, c7, c10, c11, c8, c12, c5, c9]
  rcases hf with rfl | rfl
  · exact .inl ⟨by decide, rfl, by decide, rfl, by decide, rfl, fun h => absurd h.2 (by decide), fun h => absurd h.2 (by decide)⟩
  · exact .inr ⟨rfl, by decide, rfl, by decide, rfl, by decide, and_iff_left rfl, and_iff_left rfl⟩
/-- The item covers its tile or does not. -/
theorem cases_whole (lo hi : BitVec 32) : (k0_cond1 lo hi = 1#1 ∧ ¬ k0_cond4 lo hi = 1#1) ∨ (¬ k0_cond1 lo hi = 1#1 ∧ k0_cond4 lo hi = 1#1) := by
  rw [c1, c4]; tauto

set_option maxHeartbeats 4000000 in
/-- The body at a grid point, at ideal floats: from the tables and the windows' buffers it runs to its end and gives
    them back, all as they were but the output's, whose rows it leaves as `Leaves` says. -/
theorem body (c : Dev nD) (i : grid0.Coords) (arg1 arg2 arg3 arg4 arg5 : Memref sig .tc .smem S295 .i32)
    (harg1 : arg1.IsWhole) (harg2 : arg2.IsWhole) (harg3 : arg3.IsWhole) (harg4 : arg4.IsWhole) (harg5 : arg5.IsWhole)
    (arg6 : Memref sig .tc .vmem S512x2048 .f32) (harg6 : arg6.IsWhole) (arg7 : Memref sig .tc .vmem S1x2048x1536 .bf16) (harg7 : arg7.IsWhole)
    (arg8 : Memref sig .tc .vmem S1x1x1536 .f32) (harg8 : arg8.IsWhole) (arg9 : Memref sig .tc .vmem S1x768x2048 .f32) (harg9 : arg9.IsWhole)
    (arg10 : Memref sig .tc .vmem S1x1x2048 .f32) (harg10 : arg10.IsWhole) (arg11 : Memref sig .tc .vmem S512x2048 .bf16) (harg11 : arg11.IsWhole)
    (q : PosShare TreeShare) (t3 t4 t5 : Vec Ideal S295 .i32)
    (x0 : Vec Ideal S512x2048 .f32) (x1 : Vec Ideal S1x2048x1536 .bf16) (x2 : Vec Ideal S1x1x1536 .f32) (x3 : Vec Ideal S1x768x2048 .f32) (x4 : Vec Ideal S1x1x2048 .f32) (Y : Vec Ideal S512x2048 .bf16)
    (hf : t5 (ix1 (pt i)) = 0#32 ∨ t5 (ix1 (pt i)) = 1#32)
    (E : Set ℕ) (K : PUnit → sProp 𝕄) :
    iprop(owns (c : Thread nD τ) arg3 q t3 ∗ owns (c : Thread nD τ) arg4 q t4 ∗ owns (c : Thread nD τ) arg5 q t5
        ∗ owns (c : Thread nD τ) arg6 fullShare x0 ∗ owns (c : Thread nD τ) arg7 fullShare x1 ∗ owns (c : Thread nD τ) arg8 fullShare x2
        ∗ owns (c : Thread nD τ) arg9 fullShare x3 ∗ owns (c : Thread nD τ) arg10 fullShare x4 ∗ owns (c : Thread nD τ) arg11 fullShare Y
        ∗ (iprop(owns (c : Thread nD τ) arg3 q t3 ∗ owns (c : Thread nD τ) arg4 q t4 ∗ owns (c : Thread nD τ) arg5 q t5
            ∗ owns (c : Thread nD τ) arg6 fullShare x0 ∗ owns (c : Thread nD τ) arg7 fullShare x1 ∗ owns (c : Thread nD τ) arg8 fullShare x2
            ∗ owns (c : Thread nD τ) arg9 fullShare x3 ∗ owns (c : Thread nD τ) arg10 fullShare x4 ∗ (∃ X, ⌜∀ r c, Leaves (t3 (ix1 (pt i))) (t4 (ix1 (pt i))) (t5 (ix1 (pt i))) x0 x1 x2 x3 x4 Y X r c⌝ ∗ owns (c : Thread nD τ) arg11 fullShare X)) -∗ K ⟨⟩))
      ⊢ wp frame (wpE (defs₀ (F := Ideal)) Variants.none c none) E
          (cc0_moe_experts i arg1 harg1 arg2 harg2 arg3 harg3 arg4 harg4 arg5 harg5 arg6 harg6 arg7 harg7 arg8 harg8 arg9 harg9 arg10 harg10 arg11 harg11) K := by
  simp only [cc0_moe_experts_eq_skeleton]; unfold cc0_moe_experts_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9; obtain rfl := harg10.eq_unread hf10; obtain rfl := harg11.eq_unread hf11
  sl_exec
  sl_step
  iapply Hk
  isplitl [H3]
  · iexists _; isplitr
    · ipureintro; exact harg3.read_unread _
    · iexact H3
  isplitl [H4]
  · iexists _; isplitr
    · ipureintro; exact harg4.read_unread _
    · iexact H4
  isplitl [H5]
  · iexists _; isplitr
    · ipureintro; exact harg5.read_unread _
    · iexact H5
  isplitl [H6]
  · iexists _; isplitr
    · ipureintro; exact harg6.read_unread _
    · iexact H6
  isplitl [H7]
  · iexists _; isplitr
    · ipureintro; exact harg7.read_unread _
    · iexact H7
  isplitl [H8]
  · iexists _; isplitr
    · ipureintro; exact harg8.read_unread _
    · iexact H8
  isplitl [H9]
  · iexists _; isplitr
    · ipureintro; exact harg9.read_unread _
    · iexact H9
  isplitl [H10]
  · iexists _; isplitr
    · ipureintro; exact harg10.read_unread _
    · iexact H10
  iexists _; isplitr
  swap
  · iexists _; isplitr
    swap
    · iexact H11
    ipureintro; rfl
  ipureintro
  sl_unfold_words
  simp only [full6, full7, full8, full9, full10, word_eq]
  intro r c
  have h := leaves (t3 (ix1 (pt i))) (t4 (ix1 (pt i))) (t5 (ix1 (pt i))) arg11.view (harg11.unread Y) x0
    (View.readAt (Elt Ideal) arg6.view (Rect.unit (s := S512x2048) ![0, 0] S256x2048.size inb_S512x2048_S256x2048_0_0).toLoadRect (harg6.unread x0))
    (View.readAt (Elt Ideal) arg6.view (Rect.unit (s := S512x2048) ![256, 0] S256x2048.size inb_S512x2048_S256x2048_256_0).toLoadRect (harg6.unread x0))
    x1 x2 x3 x4 (rows_at arg6 harg6 x0 0 ![0, 0] rfl _) (rows_at arg6 harg6 x0 256 ![256, 0] rfl _) hf r c
  rw [harg11.read_unread] at h
  rcases cases_first (t3 (ix1 (pt i))) (t4 (ix1 (pt i))) (t5 (ix1 (pt i))) hf with ⟨h2, h3, h6, h7, h10, h11, h8, h12⟩ | ⟨h2, h3, h6, h7, h10, h11, h8, h12⟩ <;>
  rcases cases_whole (t3 (ix1 (pt i))) (t4 (ix1 (pt i))) with ⟨h1, h4⟩ | ⟨h1, h4⟩ <;>
  by_cases h5 : k0_cond5 (t3 (ix1 (pt i))) (t4 (ix1 (pt i))) = 1#1 <;>
  by_cases h9 : k0_cond9 (t3 (ix1 (pt i))) (t4 (ix1 (pt i))) = 1#1 <;>
  simp only [halves, low, lowZero, up, upZero, whole, h1, h2, h3, h4, h5, h6, h7, h8, h9, h10, h11, h12, ↓reduceDIte, not_true_eq_false, not_false_eq_true] at h ⊢ <;>
  exact h

end Cert.ExpertsIdeal.Hand
-- ==== Proof.Experts.Chain.lean ====
module

public import proofs.«01_k».proof.Proof.Experts.Items

/-! # The items in their order -/

@[expose] public section
noncomputable section
open Idealize.ShloMosaic
namespace Cert.Experts.Items
open Cert.Pre_items_ok
variable {e : Fin 135168 → BitVec 32} {tile exp lo hi first : IVec S295 32} (h : Ok e tile exp lo hi first)
include h

/-- The tiles never go back. -/
theorem Ok.mono (k : Fin 295) : ∀ (n : ℕ) (hn : k.val + n < 295), (tile (ix1 k)).toNat ≤ (tile (ix1 ⟨k.val + n, hn⟩)).toNat
  | 0, _ => le_refl _
  | n + 1, hn => by
    refine (Ok.mono k n (by omega)).trans ?_
    rcases h.again ⟨k.val + n, by omega⟩ ⟨k.val + (n + 1), hn⟩ rfl with h1 | h1
    · exact h1.le
    · rw [h1.1]

/-- The tiles never go back, of any two items. -/
theorem Ok.mono' (k k' : Fin 295) (hk : k.val ≤ k'.val) : (tile (ix1 k)).toNat ≤ (tile (ix1 k')).toNat := by
  have := h.mono k (k'.val - k.val) (by omega)
  rwa [show (⟨k.val + (k'.val - k.val), by omega⟩ : Fin 295) = k' from Fin.ext (by dsimp only; omega)] at this

/-- Every tile has a last item. -/
theorem Ok.last (t : Fin 264) : ∃ k : Fin 295, (tile (ix1 k)).toNat = t.val ∧ ∀ k' : Fin 295, k.val < k'.val → t.val < (tile (ix1 k')).toNat := by
  classical
  obtain ⟨k0, hk0, _⟩ := h.cover t 0
  let S : Finset (Fin 295) := Finset.univ.filter fun k => (tile (ix1 k)).toNat = t.val
  have hS : S.Nonempty := ⟨k0, by simp [S, hk0]⟩
  have hm := Finset.max'_mem S hS
  refine ⟨S.max' hS, (Finset.mem_filter.mp hm).2, fun k' hlt => ?_⟩
  have h1 := h.mono' (S.max' hS) k' hlt.le
  rw [(Finset.mem_filter.mp hm).2] at h1
  rcases Nat.lt_or_ge t.val (tile (ix1 k')).toNat with h2 | h2
  · exact h2
  · have : k' ≤ S.max' hS := Finset.le_max' S k' (Finset.mem_filter.mpr ⟨Finset.mem_univ _, by omega⟩)
    exact absurd hlt (Nat.not_lt.mpr (Fin.le_def.mp this))

end Cert.Experts.Items
-- ==== Proof.Experts.IdealData.lean ====
module

public import proofs.«01_k».proof.Proof.Experts.IdealBody
public import proofs.«01_k».proof.Proof.Experts.Chain
public import Idealize.ShloMosaic.Lib.Pipeline.DatRel
public import Idealize.ShloMosaic.Lib.Pipeline.ArrRel
public import Idealize.ShloMosaic.Lib.Claim

@[expose] public section
set_option maxRecDepth 16384
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
namespace Cert.ExpertsIdeal.Hand
open Cert.ExpertsIdeal Cert.ExpertsIdeal.Gen
local notation "𝕄" => MT nD τ sig Unit (Elt Ideal) ℕ (UR sig nD τ) ℕ
variable (m : (ℓ : Loc nD τ sig) → Buf (Elt Ideal) ℓ) (ρ : Dev nD → PrngReg) (a : (p : Fin 1) → (pcfgs (F := Ideal) p).Adm)

/-- The call's windows, its tables at the contents `a`. -/
abbrev cfgA : Pipeline.Cfg sig Λ₀ := Pipeline.pin (pcfgs (F := Ideal)) a 0

/-- Window `w`'s block at point `t`, of its array as the call finds it. -/
def iblk (c : Dev nD) (w : Fin 6) (t : Fin (cfgA a).N) : (((cfgA a).win w).xblock ((cfgA a).grid.coords t)).Idx → Elt Ideal ((cfgA a).win w).elt :=
  (((cfgA a).win w).blk t).view.read (Elt Ideal) (V m c (Pipeline.arrRef spec0 w))

/-- The run's data: each array at its contents when the call begins, each input's buffer at its block after a point,
    and the tables held all along. -/
def dat (c : Dev nD) : Dat τ (Elt Ideal) Unit ℕ (UR sig nD τ) ℕ (cfgA a) c where
  A w := V m c (Pipeline.arrRef spec0 w)
  after w t := match w with
    | ⟨0, _⟩ => iblk m a c 0 t
    | ⟨1, _⟩ => iblk m a c 1 t
    | ⟨2, _⟩ => iblk m a c 2 t
    | ⟨3, _⟩ => iblk m a c 3 t
    | ⟨4, _⟩ => iblk m a c 4 t
    | ⟨5, h⟩ => Pipeline.Dat.unnamed (cfg := cfgA a) ⟨5, h⟩ t
  Φ _ := iprop(Pipeline.ΦA spec0 c ∗ Pipeline.ΦT pre0 (a 0).1 c)
  q _ := fullShare
  owed _ := 0

/-- The data's arrays are those that the call finds. -/
theorem A_eq (c : Dev nD) (w : Fin 6) : (dat m a c).A w = V m c (Pipeline.arrRef spec0 w) := by dsimp only [dat]

/-! A point leaves each input's buffer at its block, and finds it there. -/

/-- A point leaves input 0's buffer at the input's block. -/
theorem aft0 (c : Dev nD) (t : Fin (cfgA a).N) : (dat m a c).after 0 t = iblk m a c 0 t := rfl
/-- A point finds input 0's buffer at the input's block. -/
theorem bef0 (c : Dev nD) (t : Fin (cfgA a).N) (d) : (dat m a c).before 0 t d = iblk m a c 0 t :=
  ((dat m a c).before_in_eq_fetched 0 rfl (fun _ => rfl) (fun _ _ _ => rfl) (fun t => by rw [aft0]; unfold Dat.blockOf iblk; rw [A_eq]; try rfl) t d).trans
    (by unfold Dat.fetched Dat.blockOf iblk; rw [A_eq]; try rfl)
/-- A point leaves input 1's buffer at the input's block. -/
theorem aft1 (c : Dev nD) (t : Fin (cfgA a).N) : (dat m a c).after 1 t = iblk m a c 1 t := rfl
/-- A point finds input 1's buffer at the input's block. -/
theorem bef1 (c : Dev nD) (t : Fin (cfgA a).N) (d) : (dat m a c).before 1 t d = iblk m a c 1 t :=
  ((dat m a c).before_in_eq_fetched 1 rfl (fun _ => rfl) (fun _ _ _ => rfl) (fun t => by rw [aft1]; unfold Dat.blockOf iblk; rw [A_eq]; try rfl) t d).trans
    (by unfold Dat.fetched Dat.blockOf iblk; rw [A_eq]; try rfl)
/-- A point leaves input 2's buffer at the input's block. -/
theorem aft2 (c : Dev nD) (t : Fin (cfgA a).N) : (dat m a c).after 2 t = iblk m a c 2 t := rfl
/-- A point finds input 2's buffer at the input's block. -/
theorem bef2 (c : Dev nD) (t : Fin (cfgA a).N) (d) : (dat m a c).before 2 t d = iblk m a c 2 t :=
  ((dat m a c).before_in_eq_fetched 2 rfl (fun _ => rfl) (fun _ _ _ => rfl) (fun t => by rw [aft2]; unfold Dat.blockOf iblk; rw [A_eq]; try rfl) t d).trans
    (by unfold Dat.fetched Dat.blockOf iblk; rw [A_eq]; try rfl)
/-- A point leaves input 3's buffer at the input's block. -/
theorem aft3 (c : Dev nD) (t : Fin (cfgA a).N) : (dat m a c).after 3 t = iblk m a c 3 t := rfl
/-- A point finds input 3's buffer at the input's block. -/
theorem bef3 (c : Dev nD) (t : Fin (cfgA a).N) (d) : (dat m a c).before 3 t d = iblk m a c 3 t :=
  ((dat m a c).before_in_eq_fetched 3 rfl (fun _ => rfl) (fun _ _ _ => rfl) (fun t => by rw [aft3]; unfold Dat.blockOf iblk; rw [A_eq]; try rfl) t d).trans
    (by unfold Dat.fetched Dat.blockOf iblk; rw [A_eq]; try rfl)
/-- A point leaves input 4's buffer at the input's block. -/
theorem aft4 (c : Dev nD) (t : Fin (cfgA a).N) : (dat m a c).after 4 t = iblk m a c 4 t := rfl
/-- A point finds input 4's buffer at the input's block. -/
theorem bef4 (c : Dev nD) (t : Fin (cfgA a).N) (d) : (dat m a c).before 4 t d = iblk m a c 4 t :=
  ((dat m a c).before_in_eq_fetched 4 rfl (fun _ => rfl) (fun _ _ _ => rfl) (fun t => by rw [aft4]; unfold Dat.blockOf iblk; rw [A_eq]; try rfl) t d).trans
    (by unfold Dat.fetched Dat.blockOf iblk; rw [A_eq]; try rfl)

/-- The output's buffer is held to a predicate. -/
def forgets : Fin 6 → Bool := fun w => decide (5 ≤ w.val)

/-- Window `w`'s buffer at point `t`. -/
abbrev ms (w : Fin 6) (t : Fin (cfgA a).N) := (spec0 w).stage ((cfgA a).slots t w)

/-- The body as it is called at a point. -/
abbrev bodyAt (t : Fin (cfgA a).N) : Prog (TpuEff nD τ sig (Elt Ideal) Λ₀ .tc) PUnit :=
  cc0_moe_experts (grid0.coords t) (Memref.whole main_arg2) (Memref.isWhole_whole _) (Memref.whole main_arg3) (Memref.isWhole_whole _)
    (Memref.whole main_arg4) (Memref.isWhole_whole _) (Memref.whole main_arg5) (Memref.isWhole_whole _) (Memref.whole main_arg6) (Memref.isWhole_whole _)
    (spec0_0.stage ((cfgA a).slots t 0)) (hstage0_0 (((cfgA a).slots t 0).cast nbuf0_0)) (spec0_1.stage ((cfgA a).slots t 1)) (hstage0_1 (((cfgA a).slots t 1).cast nbuf0_1))
    (spec0_2.stage ((cfgA a).slots t 2)) (hstage0_2 (((cfgA a).slots t 2).cast nbuf0_2)) (spec0_3.stage ((cfgA a).slots t 3)) (hstage0_3 (((cfgA a).slots t 3).cast nbuf0_3))
    (spec0_4.stage ((cfgA a).slots t 4)) (hstage0_4 (((cfgA a).slots t 4).cast nbuf0_4)) (spec0_5.stage ((cfgA a).slots t 5)) (hstage0_5 (((cfgA a).slots t 5).cast nbuf0_5))

/-- The body that the launch calls at a point is `bodyAt`. -/
theorem defs₀_row (t : Fin (cfgA a).N) : defs₀ (F := Ideal) .tc (cfgA a).body ((cfgA a).bodyArgs t ((cfgA a).slots t)) = bodyAt a t := by
  unfold defs₀; rw [Defs.onTc_tc]

/-- The tables, held one by one. -/
theorem PhiT_eq (pf : pre0.Contents (Elt Ideal)) (c : Dev nD) : (Pipeline.ΦT pre0 pf c : sProp 𝕄)
    = iprop(owns (c : Thread nD τ) (Memref.whole main_arg2) fullShare.right (pf 0) ∗ owns (c : Thread nD τ) (Memref.whole main_arg3) fullShare.right (pf 1)
      ∗ owns (c : Thread nD τ) (Memref.whole main_arg4) fullShare.right (pf 2) ∗ owns (c : Thread nD τ) (Memref.whole main_arg5) fullShare.right (pf 3)
      ∗ owns (c : Thread nD τ) (Memref.whole main_arg6) fullShare.right (pf 4)) := by
  unfold Pipeline.ΦT Pipeline.prefHeld
  rw [bigSep_univ_eq_bigSepL [(0 : Fin 5), (1 : Fin 5), (2 : Fin 5), (3 : Fin 5), (4 : Fin 5)] (by decide) (by decide)]
  exact congrArg₂ _ (owns_whole (c : Thread nD τ) main_arg2 _ (pf 0)).symm (congrArg₂ _ (owns_whole (c : Thread nD τ) main_arg3 _ (pf 1)).symm
    (congrArg₂ _ (owns_whole (c : Thread nD τ) main_arg4 _ (pf 2)).symm (congrArg₂ _ (owns_whole (c : Thread nD τ) main_arg5 _ (pf 3)).symm
      (owns_whole (c : Thread nD τ) main_arg6 _ (pf 4)).symm)))

/-! ## What a point finds and leaves -/

/-- The item of a point. -/
def item (t : Fin (cfgA a).N) : Fin 295 := pt (grid0.coords t)

/-- A point's item has the point's number. -/
theorem item_val (t : Fin (cfgA a).N) : (item a t).val = t.val :=
  (Pipeline.Grid.coords_val (G := grid0) t 0 (S := 1) (B := 295) (by decide +kernel) rfl).trans (by
    have : t.val < 295 := t.isLt
    omega)

/-- Window 5's block at a point is its item's tile. -/
theorem index5 (t : Fin (cfgA a).N) : ((cfgA a).win 5).index t = ![((a 0).1 0 (ix1 (item a t)) : BitVec 32).toNat, 0] := tr5 (a 0).1 (grid0.coords t)

/-- A point that the next one shares its tile with writes nothing back. -/
theorem noflush5 (t t' : Fin (cfgA a).N) (ht : t'.val = t.val + 1) (h : ((a 0).1 0 (ix1 (item a t')) : BitVec 32) = (a 0).1 0 (ix1 (item a t))) :
    ((cfgA a).win 5).flush t = false := by
  have hlt : t.val + 1 < (cfgA a).grid.N := ht ▸ t'.isLt
  have e : (⟨t.val + 1, hlt⟩ : Fin (cfgA a).grid.N) = t' := Fin.ext ht.symm
  have e2 : ((cfgA a).win 5).index t' = ((cfgA a).win 5).index t := by rw [index5, index5, h]
  unfold Pipeline.Window.flush
  rw [Bool.and_eq_false_iff]
  right
  rw [Bool.or_eq_false_iff]
  refine ⟨decide_eq_false (by omega), decide_eq_false ?_⟩
  rintro ⟨h1, h2⟩
  exact h2 ((congrArg ((cfgA a).win 5).index (show (⟨t.val + 1, h1⟩ : Fin (cfgA a).grid.N) = t' from e)).trans e2)

/-- A point that the next one does not share its tile with writes back. -/
theorem flush5 (t : Fin (cfgA a).N) (h : ∀ t' : Fin (cfgA a).N, t'.val = t.val + 1 → ((a 0).1 0 (ix1 (item a t')) : BitVec 32).toNat ≠ ((a 0).1 0 (ix1 (item a t)) : BitVec 32).toNat) :
    ((cfgA a).win 5).flush t = true := by
  unfold Pipeline.Window.flush
  rw [Bool.and_eq_true_iff]
  refine ⟨rfl, ?_⟩
  rw [Bool.or_eq_true_iff]
  by_cases hN : t.val + 1 = (cfgA a).grid.N
  · exact .inl (decide_eq_true hN)
  · have hlt : t.val + 1 < (cfgA a).grid.N := by have : t.val < (cfgA a).grid.N := t.isLt; omega
    refine .inr (decide_eq_true ⟨hlt, fun he => ?_⟩)
    rw [index5, index5] at he
    exact h ⟨t.val + 1, hlt⟩ rfl (congrFun he 0)

/-- A point that writes back ends its tile or is the last of all. -/
theorem of_flush5 (t t' : Fin (cfgA a).N) (hf : ((cfgA a).win 5).flush t = true) (ht : t'.val = t.val + 1) :
    ((a 0).1 0 (ix1 (item a t')) : BitVec 32) ≠ (a 0).1 0 (ix1 (item a t)) := fun h => by
  rw [noflush5 a t t' ht h] at hf; exact absurd hf (by decide)

variable (e : Fin 135168 → BitVec 32)

/-- The expert of a row, among the 32. -/
def expert (ρ : Fin 135168) : Fin 32 := ⟨(e ρ).toNat % 32, Nat.mod_lt _ (by decide)⟩
/-- The expert of a row, among the 128 the weights hold. -/
def expert' (ρ : Fin 135168) : Fin 128 := ⟨(e ρ).toNat % 32, by omega⟩

/-- What a row comes to: its expert's gated product of it. -/
def rowVal (c : Dev nD) (ρ : Fin 135168) (n : Fin 2048) : EReal :=
  ffn (fun d => (V m c main_arg0 : FVec Ideal S135168x2048 .f32) (ix2 ρ d)) (fun d j => (V m c main_arg7 : FVec Ideal S128x2048x1536 .bf16) (ix3 (expert' e ρ) d j))
    (fun j => (V m c main_v3 : FVec Ideal S32x1x1536 .f32) (ix3 (expert e ρ) 0 j)) (fun k j => (V m c main_arg9 : FVec Ideal S128x768x2048 .f32) (ix3 (expert' e ρ) k j))
    (fun j => (V m c main_v4 : FVec Ideal S32x1x2048 .f32) (ix3 (expert e ρ) 0 j)) n

/-- Entry of the block of rows: the row of the item's tile. -/
theorem blk0 (c : Dev nD) (t : Fin (cfgA a).N) (T : Fin 264) (hT : ((a 0).1 0 (ix1 (item a t)) : BitVec 32).toNat = T.val) (r : Fin 512) (d : Fin 2048) :
    iblk m a c 0 t (ix2 r d) = (V m c main_arg0 : FVec Ideal S135168x2048 .f32) (ix2 (Cert.Experts.Items.rowOf T r) d) := by
  have hi : cc0_transform_0 k0_off1_inb numel1_S1 (a 0).1 (grid0.coords t) = ![((a 0).1 0 (ix1 (item a t)) : BitVec 32).toNat, 0] := tr0 (a 0).1 (grid0.coords t)
  unfold iblk
  rw [View.read_apply]
  show (V m c main_arg0 : FVec Ideal S135168x2048 .f32) _ = _
  congr 1
  funext x
  apply Fin.ext
  match x with
  | ⟨0, _⟩ => show cc0_transform_0 k0_off1_inb numel1_S1 (a 0).1 (grid0.coords t) (0 : Fin 2) * 512 + 1 * r.val = T.val * 512 + r.val; rw [hi, ← hT]; show ((a 0).1 0 (ix1 (item a t)) : BitVec 32).toNat * 512 + 1 * r.val = ((a 0).1 0 (ix1 (item a t)) : BitVec 32).toNat * 512 + r.val; omega
  | ⟨1, _⟩ => show cc0_transform_0 k0_off1_inb numel1_S1 (a 0).1 (grid0.coords t) (1 : Fin 2) * 2048 + 1 * d.val = d.val; rw [hi]; show 0 * 2048 + 1 * d.val = _; omega
/-- Entry of the block of gate and up weights: the item's expert's. -/
theorem blk1 (c : Dev nD) (t : Fin (cfgA a).N) (E : Fin 128) (hE : ((a 0).1 1 (ix1 (item a t)) : BitVec 32).toNat = E.val) (d : Fin 2048) (j : Fin 1536) :
    iblk m a c 1 t (ix3 0 d j) = (V m c main_arg7 : FVec Ideal S128x2048x1536 .bf16) (ix3 E d j) := by
  have hi : cc0_transform_1 k0_off1_inb numel1_S1 (a 0).1 (grid0.coords t) = ![((a 0).1 1 (ix1 (item a t)) : BitVec 32).toNat, 0, 0] := tr1 (a 0).1 (grid0.coords t)
  unfold iblk
  rw [View.read_apply]
  show (V m c main_arg7 : FVec Ideal S128x2048x1536 .bf16) _ = _
  congr 1
  funext x
  apply Fin.ext
  match x with
  | ⟨0, _⟩ => show cc0_transform_1 k0_off1_inb numel1_S1 (a 0).1 (grid0.coords t) (0 : Fin 3) * 1 + 1 * 0 = E.val; rw [hi, ← hE]; show ((a 0).1 1 (ix1 (item a t)) : BitVec 32).toNat * 1 + 1 * 0 = ((a 0).1 1 (ix1 (item a t)) : BitVec 32).toNat; omega
  | ⟨1, _⟩ => show cc0_transform_1 k0_off1_inb numel1_S1 (a 0).1 (grid0.coords t) (1 : Fin 3) * 2048 + 1 * d.val = d.val; rw [hi]; show 0 * 2048 + 1 * d.val = _; omega
  | ⟨2, _⟩ => show cc0_transform_1 k0_off1_inb numel1_S1 (a 0).1 (grid0.coords t) (2 : Fin 3) * 1536 + 1 * j.val = j.val; rw [hi]; show 0 * 1536 + 1 * j.val = _; omega
/-- Entry of the block of gate and up biases: the item's expert's. -/
theorem blk2 (c : Dev nD) (t : Fin (cfgA a).N) (E : Fin 32) (hE : ((a 0).1 1 (ix1 (item a t)) : BitVec 32).toNat = E.val) (j : Fin 1536) :
    iblk m a c 2 t (ix3 0 0 j) = (V m c main_v3 : FVec Ideal S32x1x1536 .f32) (ix3 E 0 j) := by
  have hi : cc0_transform_2 k0_off1_inb numel1_S1 (a 0).1 (grid0.coords t) = ![((a 0).1 1 (ix1 (item a t)) : BitVec 32).toNat, 0, 0] := tr2 (a 0).1 (grid0.coords t)
  unfold iblk
  rw [View.read_apply]
  show (V m c main_v3 : FVec Ideal S32x1x1536 .f32) _ = _
  congr 1
  funext x
  apply Fin.ext
  match x with
  | ⟨0, _⟩ => show cc0_transform_2 k0_off1_inb numel1_S1 (a 0).1 (grid0.coords t) (0 : Fin 3) * 1 + 1 * 0 = E.val; rw [hi, ← hE]; show ((a 0).1 1 (ix1 (item a t)) : BitVec 32).toNat * 1 + 1 * 0 = ((a 0).1 1 (ix1 (item a t)) : BitVec 32).toNat; omega
  | ⟨1, _⟩ => show cc0_transform_2 k0_off1_inb numel1_S1 (a 0).1 (grid0.coords t) (1 : Fin 3) * 1 + 1 * 0 = 0; rw [hi]; rfl
  | ⟨2, _⟩ => show cc0_transform_2 k0_off1_inb numel1_S1 (a 0).1 (grid0.coords t) (2 : Fin 3) * 1536 + 1 * j.val = j.val; rw [hi]; show 0 * 1536 + 1 * j.val = _; omega
/-- Entry of the block of down weights: the item's expert's. -/
theorem blk3 (c : Dev nD) (t : Fin (cfgA a).N) (E : Fin 128) (hE : ((a 0).1 1 (ix1 (item a t)) : BitVec 32).toNat = E.val) (k : Fin 768) (j : Fin 2048) :
    iblk m a c 3 t (ix3 0 k j) = (V m c main_arg9 : FVec Ideal S128x768x2048 .f32) (ix3 E k j) := by
  have hi : cc0_transform_3 k0_off1_inb numel1_S1 (a 0).1 (grid0.coords t) = ![((a 0).1 1 (ix1 (item a t)) : BitVec 32).toNat, 0, 0] := tr3 (a 0).1 (grid0.coords t)
  unfold iblk
  rw [View.read_apply]
  show (V m c main_arg9 : FVec Ideal S128x768x2048 .f32) _ = _
  congr 1
  funext x
  apply Fin.ext
  match x with
  | ⟨0, _⟩ => show cc0_transform_3 k0_off1_inb numel1_S1 (a 0).1 (grid0.coords t) (0 : Fin 3) * 1 + 1 * 0 = E.val; rw [hi, ← hE]; show ((a 0).1 1 (ix1 (item a t)) : BitVec 32).toNat * 1 + 1 * 0 = ((a 0).1 1 (ix1 (item a t)) : BitVec 32).toNat; omega
  | ⟨1, _⟩ => show cc0_transform_3 k0_off1_inb numel1_S1 (a 0).1 (grid0.coords t) (1 : Fin 3) * 768 + 1 * k.val = k.val; rw [hi]; show 0 * 768 + 1 * k.val = _; omega
  | ⟨2, _⟩ => show cc0_transform_3 k0_off1_inb numel1_S1 (a 0).1 (grid0.coords t) (2 : Fin 3) * 2048 + 1 * j.val = j.val; rw [hi]; show 0 * 2048 + 1 * j.val = _; omega
/-- Entry of the block of down biases: the item's expert's. -/
theorem blk4 (c : Dev nD) (t : Fin (cfgA a).N) (E : Fin 32) (hE : ((a 0).1 1 (ix1 (item a t)) : BitVec 32).toNat = E.val) (j : Fin 2048) :
    iblk m a c 4 t (ix3 0 0 j) = (V m c main_v4 : FVec Ideal S32x1x2048 .f32) (ix3 E 0 j) := by
  have hi : cc0_transform_4 k0_off1_inb numel1_S1 (a 0).1 (grid0.coords t) = ![((a 0).1 1 (ix1 (item a t)) : BitVec 32).toNat, 0, 0] := tr4 (a 0).1 (grid0.coords t)
  unfold iblk
  rw [View.read_apply]
  show (V m c main_v4 : FVec Ideal S32x1x2048 .f32) _ = _
  congr 1
  funext x
  apply Fin.ext
  match x with
  | ⟨0, _⟩ => show cc0_transform_4 k0_off1_inb numel1_S1 (a 0).1 (grid0.coords t) (0 : Fin 3) * 1 + 1 * 0 = E.val; rw [hi, ← hE]; show ((a 0).1 1 (ix1 (item a t)) : BitVec 32).toNat * 1 + 1 * 0 = ((a 0).1 1 (ix1 (item a t)) : BitVec 32).toNat; omega
  | ⟨1, _⟩ => show cc0_transform_4 k0_off1_inb numel1_S1 (a 0).1 (grid0.coords t) (1 : Fin 3) * 1 + 1 * 0 = 0; rw [hi]; rfl
  | ⟨2, _⟩ => show cc0_transform_4 k0_off1_inb numel1_S1 (a 0).1 (grid0.coords t) (2 : Fin 3) * 2048 + 1 * j.val = j.val; rw [hi]; show 0 * 2048 + 1 * j.val = _; omega

/-- What a row of a point's tile comes to with the point's weights, where the row's expert is the point's. -/
theorem rowOut_eq (c : Dev nD) (t : Fin (cfgA a).N) (T : Fin 264) (hT : ((a 0).1 0 (ix1 (item a t)) : BitVec 32).toNat = T.val) (r : Fin 512)
    (hlt : ((a 0).1 1 (ix1 (item a t)) : BitVec 32).toNat < 32) (he : ((a 0).1 1 (ix1 (item a t)) : BitVec 32) = e (Cert.Experts.Items.rowOf T r)) (n : Fin 2048) :
    rowOut (iblk m a c 0 t) (iblk m a c 1 t) (iblk m a c 2 t) (iblk m a c 3 t) (iblk m a c 4 t) r n = rowVal m e c (Cert.Experts.Items.rowOf T r) n := by
  have hE : ((a 0).1 1 (ix1 (item a t)) : BitVec 32).toNat = (expert' e (Cert.Experts.Items.rowOf T r)).val := by
    show _ = (e _).toNat % 32; rw [← he, Nat.mod_eq_of_lt hlt]
  have hE' : ((a 0).1 1 (ix1 (item a t)) : BitVec 32).toNat = (expert e (Cert.Experts.Items.rowOf T r)).val := hE
  unfold rowOut rowVal
  refine congr (congr (congr (congr (congr (congrArg ffn ?_) ?_) ?_) ?_) ?_) rfl
  · exact funext fun d => blk0 m a c t T hT r d
  · exact funext fun d => funext fun j => blk1 m a c t _ hE d j
  · exact funext fun j => blk2 m a c t _ hE' j
  · exact funext fun k => funext fun j => blk3 m a c t _ hE k j
  · exact funext fun j => blk4 m a c t _ hE' j

end Cert.ExpertsIdeal.Hand
-- ==== Proof.Experts.IdealRun.lean ====
module

public import proofs.«01_k».proof.Proof.Experts.IdealData
public import Idealize.ShloMosaic.Lib.Pipeline.DatRel
public import Idealize.ShloMosaic.Lib.Pipeline.ArrRel
public import Idealize.ShloMosaic.Lib.Claim

@[expose] public section
set_option maxRecDepth 16384
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
namespace Cert.ExpertsIdeal.Hand
open Cert.ExpertsIdeal Cert.ExpertsIdeal.Gen
local notation "𝕄" => MT nD τ sig Unit (Elt Ideal) ℕ (UR sig nD τ) ℕ
variable (m : (ℓ : Loc nD τ sig) → Buf (Elt Ideal) ℓ) (ρ : Dev nD → PrngReg) (a : (p : Fin 1) → (pcfgs (F := Ideal) p).Adm)
variable (e : Fin 135168 → BitVec 32)

/-! ## What the output's buffer holds along the points -/

/-- The rows of the tile that the points so far have worked on hold what they come to. -/
def Done (c : Dev nD) (t : Fin (cfgA a).N) (X : Vec Ideal S512x2048 .bf16) : Prop :=
  ∀ (T : Fin 264) (r : Fin 512) (n : Fin 2048), ((a 0).1 0 (ix1 (item a t)) : BitVec 32).toNat = T.val →
    (∃ u : Fin (cfgA a).N, u.val ≤ t.val ∧ ((a 0).1 0 (ix1 (item a u)) : BitVec 32).toNat = T.val
      ∧ Cert.Experts.Items.Mine ((a 0).1 2) ((a 0).1 3) (item a u) r) →
    X (ix2 r n) = rowVal m e c (Cert.Experts.Items.rowOf T r) n

variable (h : Cert.Experts.Items.Ok e ((a 0).1 0) ((a 0).1 1) ((a 0).1 2) ((a 0).1 3) ((a 0).1 4))

/-- Every item has its point. -/
theorem point_of (k : Fin 295) : ∃ t : Fin (cfgA a).N, item a t = k :=
  ⟨⟨k.val, k.isLt⟩, Fin.ext (item_val a _)⟩

include h in
/-- A point that leaves its own rows computed and, unless it starts its tile, the others as found, carries the tile's rows on. -/
theorem step (c : Dev nD) (t : Fin (cfgA a).N) (Y X : Vec Ideal S512x2048 .bf16)
    (hY : ∀ u : Fin (cfgA a).N, u.val + 1 = t.val → ((cfgA a).win 5).flush u = false → Done m a e c u Y)
    (hX : ∀ (r : Fin 512) (n : Fin 2048), Leaves ((a 0).1 2 (ix1 (item a t))) ((a 0).1 3 (ix1 (item a t))) ((a 0).1 4 (ix1 (item a t)))
      (iblk m a c 0 t) (iblk m a c 1 t) (iblk m a c 2 t) (iblk m a c 3 t) (iblk m a c 4 t) Y X r n) : Done m a e c t X := by
  intro T r n hT ⟨u, hu, hut, hm⟩
  by_cases hw : Cert.Experts.Items.Mine ((a 0).1 2) ((a 0).1 3) (item a t) r
  · exact ((hX r n).1 hw).trans (rowOut_eq m a e c t T hT r (h.exp_lt _) (h.theirs _ T r hT hw) n)
  · have hne : u.val ≠ t.val := fun he => hw (by rw [← Fin.ext he]; exact hm)
    have hlt : t.val - 1 < (cfgA a).N := by have := t.isLt; omega
    have hp : (⟨t.val - 1, hlt⟩ : Fin (cfgA a).N).val + 1 = t.val := by show t.val - 1 + 1 = t.val; omega
    generalize (⟨t.val - 1, hlt⟩ : Fin (cfgA a).N) = p at hp
    have e1 := h.mono' (item a u) (item a p) (by rw [item_val, item_val]; omega)
    have e2 := h.mono' (item a p) (item a t) (by rw [item_val, item_val]; omega)
    have e3 : ((a 0).1 0 (ix1 (item a p)) : BitVec 32).toNat = T.val := by omega
    have e4 : ((a 0).1 0 (ix1 (item a t)) : BitVec 32) = (a 0).1 0 (ix1 (item a p)) := BitVec.eq_of_toNat_eq (by omega)
    have hfi : ((a 0).1 4 (ix1 (item a t)) : BitVec 32) = 0#32 := by
      rcases h.again (item a p) (item a t) (by rw [item_val, item_val]; omega) with hl | hr
      · omega
      · exact hr.2
    exact ((hX r n).2 hw hfi).trans (hY p hp (noflush5 a p t hp.symm e4) T r n e3 ⟨u, by omega, hut, hm⟩)

include h in
/-- Where a point writes its tile back, every row of the tile is done. -/
theorem all_done (c : Dev nD) (t : Fin (cfgA a).N) (X : Vec Ideal S512x2048 .bf16) (hX : Done m a e c t X) (hf : ((cfgA a).win 5).flush t = true)
    (T : Fin 264) (hT : ((a 0).1 0 (ix1 (item a t)) : BitVec 32).toNat = T.val) (r : Fin 512) (n : Fin 2048) :
    X (ix2 r n) = rowVal m e c (Cert.Experts.Items.rowOf T r) n := by
  obtain ⟨k, hk, hm⟩ := h.cover T r
  obtain ⟨u, rfl⟩ := point_of a k
  refine hX T r n hT ⟨u, ?_, hk, hm⟩
  by_contra hlt
  have ht' : t.val + 1 < (cfgA a).N := by have := u.isLt; omega
  have hp : (⟨t.val + 1, ht'⟩ : Fin (cfgA a).N).val = t.val + 1 := rfl
  generalize (⟨t.val + 1, ht'⟩ : Fin (cfgA a).N) = p at hp
  have e1 := h.mono' (item a t) (item a p) (by rw [item_val, item_val]; omega)
  have e2 := h.mono' (item a p) (item a u) (by rw [item_val, item_val]; omega)
  exact of_flush5 a t p hf hp (BitVec.eq_of_toNat_eq (by omega))

include h in
/-- The tiles written back are all the tiles of the result. -/
theorem covers5 : ((cfgA a).win 5).Covers := by
  refine ⟨fun x => ?_, fun β => ?_⟩
  · match x with
    | ⟨0, _⟩ => show 0 < 512; decide
    | ⟨1, _⟩ => show 0 < 2048; decide
  · have n0 : ((cfgA a).win 5).nblk (0 : Fin 2) = 264 := by
      unfold Pipeline.Window.nblk; show (135168 + 512 - 1) / 512 = 264; decide
    have n1 : ((cfgA a).win 5).nblk (1 : Fin 2) = 1 := by
      unfold Pipeline.Window.nblk; show (2048 + 2048 - 1) / 2048 = 1; decide
    have b0 : (β (0 : Fin 2)).val < 264 := (β (0 : Fin 2)).isLt.trans_eq n0
    have b1 : (β (1 : Fin 2)).val < 1 := (β (1 : Fin 2)).isLt.trans_eq n1
    obtain ⟨k, hk, hl⟩ := h.last ⟨(β (0 : Fin 2)).val, b0⟩
    obtain ⟨t, rfl⟩ := point_of a k
    refine ⟨t, flush5 a t fun t' ht' => ?_, fun x => ⟨?_, .inl ?_⟩⟩
    · have := hl (item a t') (by rw [item_val, item_val]; omega)
      have hk' : ((a 0).1 0 (ix1 (item a t)) : BitVec 32).toNat = (β (0 : Fin 2)).val := hk
      have this' : (β (0 : Fin 2)).val < ((a 0).1 0 (ix1 (item a t')) : BitVec 32).toNat := this
      omega
    · rw [index5]
      match x with
      | ⟨0, _⟩ => exact hk
      | ⟨1, _⟩ => show 0 = (β (1 : Fin 2)).val; omega
    · rfl

/-! ## The run -/

/-- What each window's buffer is held to after a point. -/
def Rl (c : Dev nD) : (w : Fin (cfgA a).W) → Fin (cfgA a).N → (((cfgA a).win w).block.Idx → Elt Ideal ((cfgA a).win w).elt) → Prop := fun w t X =>
  match w with
  | ⟨5, _⟩ => Done m a e c t X
  | _ => True

/-- What the body is called with at a point. -/
def bodyPre (c : Dev nD) (t : Fin (cfgA a).N) : sProp 𝕄 :=
  iprop((dat m a c).Φ t.castSucc ∗ (dat m a c).owesAt () t.castSucc
    ∗ (∃ d, owns (c : Thread nD τ) (ms a 0 t) fullShare ((dat m a c).before 0 t d))
    ∗ (∃ d, owns (c : Thread nD τ) (ms a 1 t) fullShare ((dat m a c).before 1 t d))
    ∗ (∃ d, owns (c : Thread nD τ) (ms a 2 t) fullShare ((dat m a c).before 2 t d))
    ∗ (∃ d, owns (c : Thread nD τ) (ms a 3 t) fullShare ((dat m a c).before 3 t d))
    ∗ (∃ d, owns (c : Thread nD τ) (ms a 4 t) fullShare ((dat m a c).before 4 t d))
    ∗ (∃ Y, ⌜((dat m a c).toRRel forgets (Rl m a e c)).Finds 5 t Y⌝ ∗ owns (c : Thread nD τ) (ms a 5 t) fullShare Y))

/-- What the body returns at a point. -/
def bodyPost (c : Dev nD) (t : Fin (cfgA a).N) : sProp 𝕄 :=
  iprop((dat m a c).Φ t.succ ∗ (dat m a c).owesAt () t.succ
    ∗ owns (c : Thread nD τ) (ms a 0 t) fullShare ((dat m a c).after 0 t)
    ∗ owns (c : Thread nD τ) (ms a 1 t) fullShare ((dat m a c).after 1 t)
    ∗ owns (c : Thread nD τ) (ms a 2 t) fullShare ((dat m a c).after 2 t)
    ∗ owns (c : Thread nD τ) (ms a 3 t) fullShare ((dat m a c).after 3 t)
    ∗ owns (c : Thread nD τ) (ms a 4 t) fullShare ((dat m a c).after 4 t)
    ∗ (∃ X, ⌜Rl m a e c 5 t X⌝ ∗ owns (c : Thread nD τ) (ms a 5 t) fullShare X))

/-- What a point finds in the output's buffer, unless the point before wrote it back: its tile's rows so far. -/
theorem found (c : Dev nD) (t : Fin (cfgA a).N) (Y : Vec Ideal S512x2048 .bf16) (hY : ((dat m a c).toRRel forgets (Rl m a e c)).Finds 5 t Y)
    (u : Fin (cfgA a).N) (hu : u.val + 1 = t.val) (hf : ((cfgA a).win 5).flush u = false) : Done m a e c u Y := by
  have e1 : (⟨t.val - 1, Nat.lt_of_le_of_lt (Nat.sub_le _ _) t.isLt⟩ : Fin (cfgA a).N) = u := Fin.ext (by show t.val - 1 = u.val; omega)
  have h1 := (((dat m a c).toRRel forgets (Rl m a e c)).finds_of_pos (w := 5) (t := t) rfl (by omega) Y).mp hY
  rw [e1] at h1
  rcases h1 with h1 | h1
  · rw [hf] at h1; exact absurd h1 (by decide)
  · exact (dat m a c).toRRel_leaves (w := 5) rfl h1

include h in
set_option maxHeartbeats 800000 in
/-- The body at any point takes what it is called with to what it returns. -/
theorem sound_body (c : Dev nD) (t : Fin (cfgA a).N) :
    bodyPre m a e c t ⊢ wp frame (wpE (defs₀ (F := Ideal)) Variants.none c none) Set.univ (bodyAt a t) (fun _ => bodyPost m a e c t) := by
  unfold bodyPre bodyPost bodyAt
  simp only [bef0, bef1, bef2, bef3, bef4]
  rw [show (dat m a c).Φ t.succ = (dat m a c).Φ t.castSucc from rfl,
    show (dat m a c).owesAt () t.succ = (dat m a c).owesAt () t.castSucc from rfl,
    aft0, aft1,
    aft2, aft3,
    aft4,
    show (dat m a c).Φ t.castSucc = iprop(Pipeline.ΦA spec0 c ∗ Pipeline.ΦT pre0 (a 0).1 c) from rfl, PhiT_eq]
  iintro ⟨⟨HA, T0, T1, T2, T3, T4⟩, Ho, ⟨%d0, H0⟩, ⟨%d1, H1⟩, ⟨%d2, H2⟩, ⟨%d3, H3⟩, ⟨%d4, H4⟩, ⟨%Y, %hY, H5⟩⟩
  iapply (body c (grid0.coords t) _ _ _ _ _ _ _ _ _ _ _ _ _ _ _ _ _ _ _ _ _ _ fullShare.right ((a 0).1 2) ((a 0).1 3) ((a 0).1 4)
    (iblk m a c 0 t) (iblk m a c 1 t) (iblk m a c 2 t) (iblk m a c 3 t) (iblk m a c 4 t) Y (h.first_le (item a t)) Set.univ _)
  isplitl [T2]; · iexact T2
  isplitl [T3]; · iexact T3
  isplitl [T4]; · iexact T4
  isplitl [H0]; · iexact H0
  isplitl [H1]; · iexact H1
  isplitl [H2]; · iexact H2
  isplitl [H3]; · iexact H3
  isplitl [H4]; · iexact H4
  isplitl [H5]; · iexact H5
  iintro ⟨T2, T3, T4, H0, H1, H2, H3, H4, ⟨%X, %hX, H5⟩⟩
  isplitl [HA T0 T1 T2 T3 T4]
  · isplitl [HA]; · iexact HA
    isplitl [T0]; · iexact T0
    isplitl [T1]; · iexact T1
    isplitl [T2]; · iexact T2
    isplitl [T3]; · iexact T3
    iexact T4
  isplitl [Ho]; · iexact Ho
  isplitl [H0]; · iexact H0
  isplitl [H1]; · iexact H1
  isplitl [H2]; · iexact H2
  isplitl [H3]; · iexact H3
  isplitl [H4]; · iexact H4
  iexists X
  isplitr
  · ipureintro
    exact step m a e h c t Y X (found m a e c t Y hY) hX
  · iexact H5

include h in
/-- What the launch asks of the body, at every point. -/
theorem body_obligation (c : Dev nD) : Pipeline.BodyObligationRel (dat m a c) (defs₀ (F := Ideal)) Variants.none () Set.univ forgets (Rl m a e c) := fun t => by
  rw [bigSep_W0, bigSep_W0, defs₀_row]
  exact triple_restated (sound_body m a e h c t) rfl .rfl fun _ => .rfl

include h in
set_option backward.isDefEq.respectTransparency.types false in
/-- From tables in range the whole run ends, with every array at what the data say and every semaphore counter at zero. -/
theorem run_all (hpf : ∀ (c : Dev nD) (k : Fin 5), V m c (pre0.ref k) = (a 0).1 k) :
    θ_run defs (onTc (τ := τ) (main (F := Ideal))) (s₀ m ρ) (fun r => Pipeline.RDat.FramePost (cfgA a) (fun c => (dat m a c).toRRel forgets (Rl m a e c)) (V m) r ∧ r.2.sem = fun _ => 0) :=
  Pipeline.RDat.θ_run_frameP (Q' := _) pcfgs a (0 : Fin 1) launch0 defs₀ Variants.none (fun c => (dat m a c).toRRel forgets (Rl m a e c)) m ρ main
    (hbody := fun c => (body_obligation m a e h c).toRRel) (hshare := fun c w => by
      show (dat m a c).share w = fullShare
      unfold Dat.share; split <;> rfl)
    (howed := fun _ _ => rfl) (V := V m) (hmain := hmain m Variants.none) (hA := A_eq m a) (hpf := hpf) (hΦ := fun _ _ => rfl)

include h in
/-- The result after the run: every row at what it comes to. -/
theorem final5 (r : PUnit × MemSt nD τ sig (Elt Ideal)) (H : Pipeline.RDat.FramePost (cfgA a) (fun c => (dat m a c).toRRel forgets (Rl m a e c)) (V m) r) (c : Dev nD) :
    r.2.mem ((c.tc : Thread nD τ).loc main_v5) = (fun i => rowVal m e c (i 0) (i 1) : FVec Ideal S135168x2048 .bf16) := by
  obtain ⟨after, hL, hA⟩ := H.exists_exact c
  refine (hA 5).trans ?_
  refine Dat.arrAt_eq_of_covers _ 5 _ (covers5 a e h) fun t hf y => ?_
  have hd : Done m a e c t (after 5 t) := (dat m a c).toRRel_leaves (w := 5) rfl (hL 5 t hf)
  have hT : ((a 0).1 0 (ix1 (item a t)) : BitVec 32).toNat = (⟨((a 0).1 0 (ix1 (item a t)) : BitVec 32).toNat, h.tile_lt _⟩ : Fin 264).val := rfl
  generalize (⟨((a 0).1 0 (ix1 (item a t)) : BitVec 32).toNat, h.tile_lt _⟩ : Fin 264) = T at hT
  have hi : cc0_transform_5 k0_off1_inb numel1_S1 (a 0).1 (grid0.coords t) = ![((a 0).1 0 (ix1 (item a t)) : BitVec 32).toNat, 0] := tr5 (a 0).1 (grid0.coords t)
  have key := all_done m a e h c t _ hd hf T hT (y (0 : Fin 2)) (y (1 : Fin 2))
  refine Eq.trans ?_ (key.trans ?_)
  · show after 5 t _ = after 5 t _
    congr 1
    funext x
    match x with
    | ⟨0, _⟩ => rfl
    | ⟨1, _⟩ => rfl
  · refine congrArg₂ (rowVal m e c) ?_ ?_
    · apply Fin.ext
      show T.val * 512 + (y (0 : Fin 2)).val = cc0_transform_5 k0_off1_inb numel1_S1 (a 0).1 (grid0.coords t) (0 : Fin 2) * 512 + 1 * (y (0 : Fin 2)).val
      rw [hi]
      show T.val * 512 + (y (0 : Fin 2)).val = ((a 0).1 0 (ix1 (item a t)) : BitVec 32).toNat * 512 + 1 * (y (0 : Fin 2)).val
      rw [hT]; omega
    · apply Fin.ext
      show (y (1 : Fin 2)).val = cc0_transform_5 k0_off1_inb numel1_S1 (a 0).1 (grid0.coords t) (1 : Fin 2) * 2048 + 1 * (y (1 : Fin 2)).val
      rw [hi]
      show (y (1 : Fin 2)).val = 0 * 2048 + 1 * (y (1 : Fin 2)).val
      omega

/-- The run: every row of the result at what it comes to, every argument ends as launched, every semaphore counter at zero. -/
theorem run (e : Fin 135168 → BitVec 32) (h : Cert.Experts.Items.Ok e (tabs m 0) (tabs m 1) (tabs m 2) (tabs m 3) (tabs m 4)) :
    θ_run defs (onTc (τ := τ) (main (F := Ideal))) ⟨m, fun _ => 0, ρ⟩ (fun r => (∀ c : Dev nD,
      r.2.mem ((c.tc : Thread nD τ).loc main_v5) = (fun i => rowVal m e c (i 0) (i 1) : FVec Ideal S135168x2048 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  have keep (r : PUnit × MemSt nD τ sig (Elt Ideal)) (H : Pipeline.RDat.FramePost (cfgA (adm m e h)) (fun c => (dat m (adm m e h) c).toRRel forgets (Rl m (adm m e h) e c)) (V m) r)
      (c : Dev nD) (b : Ref sig .tc) (hb : b ∈ Pipeline.restRefs sig spec0) (h0 : b ≠ main_v0) (h1 : b ≠ main_v1) (h2 : b ≠ main_v2) (h3 : b ≠ main_v3)
      (h4 : b ≠ main_v4) : r.2.mem ((c.tc : Thread nD τ).loc b) = m ((c.tc : Thread nD τ).loc b) :=
    ((H c).2 b hb).trans (V_of m c b h0 h1 h2 h3 h4)
  have win (r : PUnit × MemSt nD τ sig (Elt Ideal)) (H : Pipeline.RDat.FramePost (cfgA (adm m e h)) (fun c => (dat m (adm m e h) c).toRRel forgets (Rl m (adm m e h) e c)) (V m) r)
      (c : Dev nD) (w : Fin 6) (hw : (spec0 w).isOut = false) : r.2.mem ((c.tc : Thread nD τ).loc (Pipeline.arrRef spec0 w)) = V m c (Pipeline.arrRef spec0 w) :=
    (H.arr_in c w hw).trans (A_eq m (adm m e h) c w)
  (θ_run defs _ _).mono (fun r H => ⟨fun c => ⟨
      final5 m (adm m e h) e h r H.1 c,
      (win r H.1 c 0 rfl).trans (V_of m c main_arg0 (by decide) (by decide) (by decide) (by decide) (by decide)),
      keep r H.1 c main_arg1 (Pipeline.mem_restRefs_of (win := spec0) main_arg1 (by decide) (by decide)) (by decide) (by decide) (by decide) (by decide) (by decide),
      keep r H.1 c main_arg2 (Pipeline.mem_restRefs_of (win := spec0) main_arg2 (by decide) (by decide)) (by decide) (by decide) (by decide) (by decide) (by decide),
      keep r H.1 c main_arg3 (Pipeline.mem_restRefs_of (win := spec0) main_arg3 (by decide) (by decide)) (by decide) (by decide) (by decide) (by decide) (by decide),
      keep r H.1 c main_arg4 (Pipeline.mem_restRefs_of (win := spec0) main_arg4 (by decide) (by decide)) (by decide) (by decide) (by decide) (by decide) (by decide),
      keep r H.1 c main_arg5 (Pipeline.mem_restRefs_of (win := spec0) main_arg5 (by decide) (by decide)) (by decide) (by decide) (by decide) (by decide) (by decide),
      keep r H.1 c main_arg6 (Pipeline.mem_restRefs_of (win := spec0) main_arg6 (by decide) (by decide)) (by decide) (by decide) (by decide) (by decide) (by decide),
      (win r H.1 c 1 rfl).trans (V_of m c main_arg7 (by decide) (by decide) (by decide) (by decide) (by decide)),
      keep r H.1 c main_arg8 (Pipeline.mem_restRefs_of (win := spec0) main_arg8 (by decide) (by decide)) (by decide) (by decide) (by decide) (by decide) (by decide),
      (win r H.1 c 3 rfl).trans (V_of m c main_arg9 (by decide) (by decide) (by decide) (by decide) (by decide)),
      keep r H.1 c main_arg10 (Pipeline.mem_restRefs_of (win := spec0) main_arg10 (by decide) (by decide)) (by decide) (by decide) (by decide) (by decide) (by decide)⟩, H.2⟩)
    (run_all m ρ (adm m e h) e h (V_tabs m))

end Cert.ExpertsIdeal.Hand
-- ==== Proof.Experts.IdealHost.lean ====
module

public import proofs.«01_k».proof.Proof.Experts.IdealRun
public import Idealize.ShloMosaic.Lib.Pointwise
public import Idealize.ShloMosaic.Lib.StableHlo.ReadAt

@[expose] public section
set_option maxRecDepth 16384
noncomputable section
open Idealize.ShloMosaic Idealize.ShloMosaic.TcCoe Idealize.SL.Sem Idealize.ShloMosaic.StableHlo
namespace Cert.ExpertsIdeal.Hand
open Cert.ExpertsIdeal Cert.ExpertsIdeal.Gen
variable (X : Valuation τ sig (Elt Ideal))

/-! ## The biases as the call finds them -/

/-- The first layer's bias of a gate column. -/
theorem bias_gate (x : Fin 32) (k : Fin 768) (j : Fin 1536) (hj : j.val = 2 * k.val) :
    after hostOps0 X (Proc.devRef .tc main_v3) (ix3 x 0 (gcol k)) = X (Proc.devRef .tc main_arg8) (ix2 x j) := by
  after_reads_at
  exact congrArg (fun n => X (Proc.tc.devRef main_arg8) (ix2 x n)) (Fin.ext (by
    show (256 * (k.val / 128) + k.val % 128) / 256 * 256 + (256 * (k.val / 128) + k.val % 128) % 128 * 2 + (256 * (k.val / 128) + k.val % 128) / 128 % 2 = j.val
    omega))
/-- The first layer's bias of a linear column. -/
theorem bias_lin (x : Fin 32) (k : Fin 768) (j : Fin 1536) (hj : j.val = 2 * k.val + 1) :
    after hostOps0 X (Proc.devRef .tc main_v3) (ix3 x 0 (ucol k)) = X (Proc.devRef .tc main_arg8) (ix2 x j) := by
  after_reads_at
  exact congrArg (fun n => X (Proc.tc.devRef main_arg8) (ix2 x n)) (Fin.ext (by
    show (256 * (k.val / 128) + 128 + k.val % 128) / 256 * 256 + (256 * (k.val / 128) + 128 + k.val % 128) % 128 * 2 + (256 * (k.val / 128) + 128 + k.val % 128) / 128 % 2 = j.val
    omega))
/-- The second layer's bias. -/
theorem bias_out (x : Fin 32) (n : Fin 2048) : after hostOps0 X (Proc.devRef .tc main_v4) (ix3 x 0 n) = X (Proc.devRef .tc main_arg10) (ix2 x n) := by
  after_reads_at

end Cert.ExpertsIdeal.Hand
-- ==== Proof.Experts.Dense.lean ====
module

public import proofs.«01_k».proof.Proof.Gen.DenseIdeal.Run
public import Idealize.ShloMosaic.Lib.Pointwise
public import proofs.«01_k».proof.Proof.Experts.Items
public import proofs.«01_k».proof.Proof.Experts.Math

/-! # What the reference computes of one row: the same gated product, summed over the one expert the row belongs to -/

@[expose] public section
set_option maxRecDepth 16384
noncomputable section
open Idealize.ShloMosaic Idealize.ShloMosaic.TcCoe Idealize.SL.Sem Idealize.ShloMosaic.StableHlo
namespace Cert.DenseIdeal.Val
open Cert.DenseIdeal Cert.DenseIdeal.Gen Cert.DenseIdeal.Value
open Cert.ExpertsIdeal.Hand (gate gcol ucol ffn)

variable (A0 : FVec Ideal S135168x2048 .f32) (A1 : IVec S32 32) (A7 : FVec Ideal S128x2048x1536 .bf16) (A8 : FVec Ideal S32x1536 .f32)
  (A9 : FVec Ideal S128x768x2048 .f32) (A10 : FVec Ideal S32x2048 .f32)

/-- The first layer's weights, its columns by block, kind and place. -/
def wBlocks : FVec Ideal S32x2048x6x2x128 .f32 :=
  shapeCast _ (extf .f32 (extractStridedSlice S32x2048x1536 ![0, 0, 0] A7 slices_S128x2048x1536_S32x2048x1536_0_0_0) bitsLt_bf16_f32) shapeCasts_S32x2048x1536_S32x2048x6x2x128
/-- The gate's weights. -/
def wGate : FVec Ideal S32x2048x768 .f32 :=
  shapeCast _ (shapeCast S32x2048x6x128 (extractStridedSlice S32x2048x6x1x128 ![0, 0, 0, 0, 0] (wBlocks A7) slices_S32x2048x6x2x128_S32x2048x6x1x128_0_0_0_0_0) shapeCasts_S32x2048x6x1x128_S32x2048x6x128) shapeCasts_S32x2048x6x128_S32x2048x768
/-- The linear part's weights. -/
def wLin : FVec Ideal S32x2048x768 .f32 :=
  shapeCast _ (shapeCast S32x2048x6x128 (extractStridedSlice S32x2048x6x1x128 ![0, 0, 0, 1, 0] (wBlocks A7) slices_S32x2048x6x2x128_S32x2048x6x1x128_0_0_0_1_0) shapeCasts_S32x2048x6x1x128_S32x2048x6x128) shapeCasts_S32x2048x6x128_S32x2048x768

/-- An expert, among the 128 the weights hold. -/
def wide (e : Fin 32) : Fin 128 := ⟨e.val, by omega⟩

/-- The gate's weight of a hidden unit is the call's weight at the unit's gate column. -/
theorem wGate_at (e : Fin 32) (d : Fin 2048) (k : Fin 768) : wGate A7 (ix3 e d k) = A7 (ix3 (wide e) d (gcol k)) := by
  pointwise [wGate, wBlocks]
  exact congrArg (fun j => A7 (ix3 (wide e) d j)) (Fin.ext (by show k.val / 128 * 256 + k.val % 128 = 256 * (k.val / 128) + k.val % 128; omega))
/-- The linear part's weight of a hidden unit is the call's weight at the unit's up column. -/
theorem wLin_at (e : Fin 32) (d : Fin 2048) (k : Fin 768) : wLin A7 (ix3 e d k) = A7 (ix3 (wide e) d (ucol k)) := by
  pointwise [wLin, wBlocks]
  exact congrArg (fun j => A7 (ix3 (wide e) d j)) (Fin.ext (by show k.val / 128 * 256 + 128 + k.val % 128 = 256 * (k.val / 128) + 128 + k.val % 128; omega))

/-- One part of the hidden layer before its gate, of every row and expert. -/
def hid (W : FVec Ideal S32x2048x768 .f32) (B : FVec Ideal S32x768 .f32) : FVec Ideal S32x135168x768 .f32 :=
  addf (transpose S32x135168x768 [0, 2, 1] (Host.dotGeneral dot_S32x2048x768_S135168x2048_S32x768x135168_1_1_02_0_n_n none W A0) transposes_S32x768x135168_S32x135168x768_0_2_1)
    (broadcastInDim S32x135168x768 ![0, 1, 2] bcast_S32x1x768_S32x135168x768_0_1_2 (broadcastInDim S32x1x768 ![0, 2] bcast_S32x768_S32x1x768_0_2 B))

/-- One entry of the hidden layer before its gate: the row's product with the unit's weights, and the bias. -/
theorem hid_at (W : FVec Ideal S32x2048x768 .f32) (B : FVec Ideal S32x768 .f32) (e : Fin 32) (ρ : Fin 135168) (k : Fin 768) :
    hid A0 W B (ix3 e ρ k) = ∑ d, A0 (ix2 ρ d) * W (ix3 e d k) + B (ix2 e k) := by
  have h : hid A0 W B (ix3 e ρ k) = ∑ d, W (ix3 e d k) * A0 (ix2 ρ d) + B (ix2 e k) := by
    pointwise [hid]
  rw [h]
  exact congrArg (· + _) (Finset.sum_congr rfl fun d _ => mul_comm _ _)

/-- The gated hidden layer. -/
def act (G U : FVec Ideal S32x135168x768 .f32) : FVec Ideal S32x135168x768 .f32 :=
  mulf (addf (minimumf (broadcastInDim S32x135168x768 ![] bcast_S_S32x135168x768 (id (constant S_ .f32 0x40E00000#32))) (maximumf (broadcastInDim S32x135168x768 ![] bcast_S_S32x135168x768 (id (constant S_ .f32 0xC0E00000#32))) U)) (broadcastInDim S32x135168x768 ![] bcast_S_S32x135168x768 (constant S_ .f32 0x3F800000#32)))
    (mulf (minimumf G (broadcastInDim S32x135168x768 ![] bcast_S_S32x135168x768 (constant S_ .f32 0x40E00000#32)))
      (Host.divf (broadcastInDim S32x135168x768 ![] bcast_S_S32x135168x768 (constant S_ .f32 0x3F800000#32)) (addf (broadcastInDim S32x135168x768 ![] bcast_S_S32x135168x768 (constant S_ .f32 0x3F800000#32)) (Host.exp (Host.negf (mulf (broadcastInDim S32x135168x768 ![] bcast_S_S32x135168x768 (constant S_ .f32 0x3FD9DB23#32)) (minimumf G (broadcastInDim S32x135168x768 ![] bcast_S_S32x135168x768 (constant S_ .f32 0x40E00000#32)))))))))

/-- The gated hidden layer is the gate, entry by entry. -/
theorem act_at (G U : FVec Ideal S32x135168x768 .f32) (i : S32x135168x768.Idx) : act G U i = gate (G i) (U i) := by
  pointwise [act, gate]
  rfl

/-- Every expert's product of every row. -/
def prod (Z : FVec Ideal S32x135168x768 .f32) : FVec Ideal S32x135168x2048 .f32 :=
  addf (Host.dotGeneral dot_S32x135168x768_S32x768x2048_S32x135168x2048_2_1_1_2_0_0 none Z (extractStridedSlice S32x768x2048 ![0, 0, 0] A9 slices_S128x768x2048_S32x768x2048_0_0_0))
    (broadcastInDim S32x135168x2048 ![0, 1, 2] bcast_S32x1x2048_S32x135168x2048_0_1_2 (broadcastInDim S32x1x2048 ![0, 2] bcast_S32x2048_S32x1x2048_0_2 A10))

/-- One entry of an expert's product: the hidden row's product with the down weights, and the bias. -/
theorem prod_at (Z : FVec Ideal S32x135168x768 .f32) (e : Fin 32) (ρ : Fin 135168) (n : Fin 2048) :
    prod A9 A10 Z (ix3 e ρ n) = ∑ k, Z (ix3 e ρ k) * A9 (ix3 (wide e) k n) + A10 (ix2 e n) := by
  pointwise [prod]
  rfl

/-- The row's expert, as the reference counts it. -/
def ids : IVec S135168 32 :=
  Host.reduce IntOp.addi (extui 32 (cmpi .sge (broadcastInDim S135168x32 ![0, 1] bcast_S135168x1_S135168x32_0_1 (broadcastInDim S135168x1 ![0] bcast_S135168_S135168x1_0 (iotaInDim S135168 32 0))) (broadcastInDim S135168x32 ![0, 1] bcast_S1x32_S135168x32_0_1 (broadcastInDim S1x32 ![1] bcast_S32_S1x32_1 (Host.reduceWindow IntOp.addi ![32] ![1] ![31] ![0] A1 (broadcastInDim S_ ![] bcast_S_S_ (constantI S_ 32 0#32)) reduceWindows_S32_S32_w32s1p31_0 h_S_)))) natLt_1_32) (constantI S_ 32 0#32) reducesTo_S135168x32_S135168_d1 h_S_

/-- The expert that the reference counts for a row is the row's expert. -/
theorem ids_at (ρ : Fin 135168) : ids A1 (ix1 ρ) = Cert.Experts.Items.eid A1 ρ := by
  pointwise [ids, Cert.Experts.Items.eid, Cert.Experts.Items.totals]

/-- The reference's result from every expert's product. -/
def pick (E : IVec S135168 32) (Y : FVec Ideal S32x135168x2048 .f32) : FVec Ideal S135168x2048 .bf16 :=
  truncf .bf16 (Host.reduceAdd (select (broadcastInDim S32x135168x2048 ![0, 1, 2] bcast_S32x135168x1_S32x135168x2048_0_1_2 (broadcastInDim S32x135168x1 ![0, 1] bcast_S32x135168_S32x135168x1_0_1 (cmpi .eq (broadcastInDim S32x135168 ![0, 1] bcast_S1x135168_S32x135168_0_1 (broadcastInDim S1x135168 ![1] bcast_S135168_S1x135168_1 E)) (broadcastInDim S32x135168 ![0, 1] bcast_S32x1_S32x135168_0_1 (broadcastInDim S32x1 ![0] bcast_S32_S32x1_0 (iotaInDim S32 32 0))))))
    Y (broadcastInDim S32x135168x2048 ![] bcast_S_S32x135168x2048 (id (constant S_ .f32 0x00000000#32)))) (constant S_ .f32 0x00000000#32) reducesTo_S32x135168x2048_S135168x2048_d0 h_S_) bitsLt_bf16_f32

/-- Of a row's products the reference keeps its expert's: the sum over the experts has one term. -/
theorem pick_at (E : IVec S135168 32) (Y : FVec Ideal S32x135168x2048 .f32) (ρ : Fin 135168) (n : Fin 2048) (x : Fin 32) (hx : (E (ix1 ρ)).toNat = x.val) :
    pick E Y (ix2 ρ n) = Y (ix3 x ρ n) := by
  pointwise [pick]
  have z : id (constant (F := Ideal) S_ FTy.f32 0#32) ix0 = (0 : EReal) := Ideal.ofBits_zero_f32
  rw [z, Finset.sum_eq_single x]
  · rw [show IntOp.cmpi CmpIPredicate.eq (E (ix1 ρ)) (BitVec.ofNat 32 x.val) = 1#1 from by
      rw [WordCmp.cmpi_eq_eq_toNat, hx, BitVec.toNat_ofNat, Nat.mod_eq_of_lt (show x.val < 2 ^ 32 by omega), decide_eq_true rfl]; rfl]
    rfl
  · intro y _ hy
    have hne : (E (ix1 ρ)).toNat ≠ (BitVec.ofNat 32 y.val).toNat := by
      rw [hx, BitVec.toNat_ofNat, Nat.mod_eq_of_lt (show y.val < 2 ^ 32 by omega)]
      exact fun h => hy (Fin.ext h.symm)
    rw [WordCmp.cmpi_eq_eq_toNat, decide_eq_false hne]
    rfl
  · exact fun h => absurd (Finset.mem_univ x) h

/-- The result's term, by its stages. -/
theorem result (m : (ℓ : Loc nD τ sig) → Buf (Elt Ideal) ℓ) (c : Dev nD) : res_out0 m c
    = pick (ids (m ((c.tc : Thread nD τ).loc main_arg1))) (prod (m ((c.tc : Thread nD τ).loc main_arg9)) (m ((c.tc : Thread nD τ).loc main_arg10))
        (act (hid (m ((c.tc : Thread nD τ).loc main_arg0)) (wGate (m ((c.tc : Thread nD τ).loc main_arg7))) (Host.slice S32x768 ![0, 0] ![1, 2] (m ((c.tc : Thread nD τ).loc main_arg8)) slicesBy_S32x1536_S32x768_0s1_0s2))
          (hid (m ((c.tc : Thread nD τ).loc main_arg0)) (wLin (m ((c.tc : Thread nD τ).loc main_arg7))) (Host.slice S32x768 ![0, 1] ![1, 2] (m ((c.tc : Thread nD τ).loc main_arg8)) slicesBy_S32x1536_S32x768_0s1_1s2)))) := by
  unfold res_out0 res_main_v59 pick ids prod act hid wGate wLin wBlocks
  rfl

/-- The bias columns of hidden unit `k`: gate and linear part alternate. -/
def bcol (j : Fin 2) (k : Fin 768) : Fin 1536 := ⟨2 * k.val + j.val, by omega⟩

/-- A row's result, from its expert's weights. -/
theorem value (m : (ℓ : Loc nD τ sig) → Buf (Elt Ideal) ℓ) (c : Dev nD) (ρ : Fin 135168) (n : Fin 2048) (x : Fin 32)
    (hx : (Cert.Experts.Items.eid (m ((c.tc : Thread nD τ).loc main_arg1)) ρ).toNat = x.val)
    (b : Fin 1536 → EReal) (hg : ∀ k, b (gcol k) = (m ((c.tc : Thread nD τ).loc main_arg8) : FVec Ideal S32x1536 .f32) (ix2 x (bcol 0 k)))
    (hu : ∀ k, b (ucol k) = (m ((c.tc : Thread nD τ).loc main_arg8) : FVec Ideal S32x1536 .f32) (ix2 x (bcol 1 k))) :
    res_out0 m c (ix2 ρ n) = ffn (fun d => (m ((c.tc : Thread nD τ).loc main_arg0) : FVec Ideal S135168x2048 .f32) (ix2 ρ d))
      (fun d j => (m ((c.tc : Thread nD τ).loc main_arg7) : FVec Ideal S128x2048x1536 .bf16) (ix3 (wide x) d j)) b
      (fun k j => (m ((c.tc : Thread nD τ).loc main_arg9) : FVec Ideal S128x768x2048 .f32) (ix3 (wide x) k j))
      (fun j => (m ((c.tc : Thread nD τ).loc main_arg10) : FVec Ideal S32x2048 .f32) (ix2 x j)) n := by
  rw [result, pick_at _ _ ρ n x (by rw [ids_at]; exact hx), prod_at]
  unfold ffn
  refine congrArg (· + _) (Finset.sum_congr rfl fun k _ => congrArg (· * _) ?_)
  rw [act_at, hid_at, hid_at, hg, hu]
  have s0 : ∀ B : FVec Ideal S32x1536 .f32, Host.slice S32x768 ![0, 0] ![1, 2] B slicesBy_S32x1536_S32x768_0s1_0s2 (ix2 x k) = B (ix2 x (bcol 0 k)) := fun B => by
    pointwise
    exact congrArg (fun j => B (ix2 x j)) (Fin.ext (by show _ = 2 * k.val + 0; dsimp only; omega))
  have s1 : ∀ B : FVec Ideal S32x1536 .f32, Host.slice S32x768 ![0, 1] ![1, 2] B slicesBy_S32x1536_S32x768_0s1_1s2 (ix2 x k) = B (ix2 x (bcol 1 k)) := fun B => by
    pointwise
    exact congrArg (fun j => B (ix2 x j)) (Fin.ext (by show _ = 2 * k.val + 1; dsimp only; omega))
  rw [s0, s1]
  simp only [wGate_at, wLin_at]

end Cert.DenseIdeal.Val
-- ==== Proof.Experts.Agree.lean ====
module

public import proofs.«01_k».proof.Proof.Experts.IdealHost
public import proofs.«01_k».proof.Proof.Experts.Dense

/-! # The expert kernel and its reference give the same rows -/

@[expose] public section
set_option maxRecDepth 16384
noncomputable section
open Idealize.ShloMosaic Idealize.ShloMosaic.TcCoe Idealize.SL.Sem Idealize.ShloMosaic.StableHlo
namespace Cert.Experts.Agree
open Cert.ExpertsIdeal.Hand (V V_of rowVal expert expert' gcol ucol ffn)
open Cert.Experts.Items (Ok eid rowOf)

/-- Every row is some tile's. -/
theorem rowOf_div (ρ : Fin 135168) : rowOf ⟨ρ.val / 512, by omega⟩ ⟨ρ.val % 512, Nat.mod_lt _ (by decide)⟩ = ρ :=
  Fin.ext (by show ρ.val / 512 * 512 + ρ.val % 512 = ρ.val; omega)

/-- Every row's expert is one of the 32. -/
theorem eid_lt (e : Fin 135168 → BitVec 32) (tile exp lo hi first : IVec Cert.Pre_items_ok.S295 32) (h : Ok e tile exp lo hi first) (ρ : Fin 135168) :
    (e ρ).toNat < 32 := by
  obtain ⟨k, hk, hm⟩ := h.cover ⟨ρ.val / 512, by omega⟩ ⟨ρ.val % 512, Nat.mod_lt _ (by decide)⟩
  have h1 := h.theirs k _ _ hk hm
  rw [rowOf_div] at h1
  rw [← h1]
  exact h.exp_lt k

variable (m : (ℓ : Loc Cert.ExpertsIdeal.nD Cert.ExpertsIdeal.τ Cert.ExpertsIdeal.sig) → Buf (Elt Ideal) ℓ)
  (m' : (ℓ : Loc Cert.DenseIdeal.nD Cert.DenseIdeal.τ Cert.DenseIdeal.sig) → Buf (Elt Ideal) ℓ) (c : Dev Cert.ExpertsIdeal.nD)

/-- From arguments that agree, the reference's result is the kernel's, row by row. -/
theorem agree (e : Fin 135168 → BitVec 32)
    (he : e = eid (m ((c.tc : Thread Cert.ExpertsIdeal.nD Cert.ExpertsIdeal.τ).loc Cert.ExpertsIdeal.main_arg1)))
    (hlt : ∀ ρ, (e ρ).toNat < 32)
    (h0 : m' ((c.tc : Thread Cert.DenseIdeal.nD Cert.DenseIdeal.τ).loc Cert.DenseIdeal.main_arg0) = m ((c.tc : Thread Cert.ExpertsIdeal.nD Cert.ExpertsIdeal.τ).loc Cert.ExpertsIdeal.main_arg0))
    (h1 : m' ((c.tc : Thread Cert.DenseIdeal.nD Cert.DenseIdeal.τ).loc Cert.DenseIdeal.main_arg1) = m ((c.tc : Thread Cert.ExpertsIdeal.nD Cert.ExpertsIdeal.τ).loc Cert.ExpertsIdeal.main_arg1))
    (h7 : m' ((c.tc : Thread Cert.DenseIdeal.nD Cert.DenseIdeal.τ).loc Cert.DenseIdeal.main_arg7) = m ((c.tc : Thread Cert.ExpertsIdeal.nD Cert.ExpertsIdeal.τ).loc Cert.ExpertsIdeal.main_arg7))
    (h8 : m' ((c.tc : Thread Cert.DenseIdeal.nD Cert.DenseIdeal.τ).loc Cert.DenseIdeal.main_arg8) = m ((c.tc : Thread Cert.ExpertsIdeal.nD Cert.ExpertsIdeal.τ).loc Cert.ExpertsIdeal.main_arg8))
    (h9 : m' ((c.tc : Thread Cert.DenseIdeal.nD Cert.DenseIdeal.τ).loc Cert.DenseIdeal.main_arg9) = m ((c.tc : Thread Cert.ExpertsIdeal.nD Cert.ExpertsIdeal.τ).loc Cert.ExpertsIdeal.main_arg9))
    (h10 : m' ((c.tc : Thread Cert.DenseIdeal.nD Cert.DenseIdeal.τ).loc Cert.DenseIdeal.main_arg10) = m ((c.tc : Thread Cert.ExpertsIdeal.nD Cert.ExpertsIdeal.τ).loc Cert.ExpertsIdeal.main_arg10)) :
    Cert.DenseIdeal.Value.res_out0 m' c = (fun i => rowVal m e c (i 0) (i 1) : FVec Ideal Cert.ExpertsIdeal.S135168x2048 .bf16) := by
  suffices key : ∀ (ρ : Fin 135168) (n : Fin 2048), Cert.DenseIdeal.Value.res_out0 m' c (ix2 ρ n) = rowVal m e c ρ n by
    funext i
    have hi : i = ix2 (i (0 : Fin 2)) (i (1 : Fin 2)) := by
      funext x
      match x with
      | ⟨0, _⟩ => rfl
      | ⟨1, _⟩ => rfl
    exact (congrArg (Cert.DenseIdeal.Value.res_out0 m' c) hi).trans (key _ _)
  intro ρ n
  have hx : (eid (m' ((c.tc : Thread Cert.DenseIdeal.nD Cert.DenseIdeal.τ).loc Cert.DenseIdeal.main_arg1)) ρ).toNat = (expert e ρ).val := by
    rw [h1, ← he]; exact (Nat.mod_eq_of_lt (hlt ρ)).symm
  refine (Cert.DenseIdeal.Val.value m' c ρ n (expert e ρ) hx
    (fun j => (V m c Cert.ExpertsIdeal.main_v3 : FVec Ideal Cert.ExpertsIdeal.S32x1x1536 .f32) (ix3 (expert e ρ) 0 j))
    (fun k => (Cert.ExpertsIdeal.Hand.bias_gate _ (expert e ρ) k (Cert.DenseIdeal.Val.bcol 0 k) rfl).trans ?_) (fun k => (Cert.ExpertsIdeal.Hand.bias_lin _ (expert e ρ) k (Cert.DenseIdeal.Val.bcol 1 k) rfl).trans ?_)).trans ?_
  · rw [h8]
  · rw [h8]
  · show _ = rowVal m e c ρ n
    unfold rowVal
    rw [h0, h7, h9, h10]
    refine congr (congr (congr (congr (congr (congrArg ffn ?_) ?_) rfl) ?_) ?_) rfl
    · exact funext fun d => (congrFun (V_of m c Cert.ExpertsIdeal.main_arg0 (by decide) (by decide) (by decide) (by decide) (by decide)) (ix2 ρ d)).symm
    · exact funext fun d => funext fun j => (congrFun (V_of m c Cert.ExpertsIdeal.main_arg7 (by decide) (by decide) (by decide) (by decide) (by decide)) (ix3 (expert' e ρ) d j)).symm
    · exact funext fun k => funext fun j => (congrFun (V_of m c Cert.ExpertsIdeal.main_arg9 (by decide) (by decide) (by decide) (by decide) (by decide)) (ix3 (expert' e ρ) k j)).symm
    · exact funext fun j => (Cert.ExpertsIdeal.Hand.bias_out (fun b => m (c, b)) (expert e ρ) j).symm

end Cert.Experts.Agree
-- ==== Proof.lean ====
/- The certificate's claim, for the retention kernel and for the expert kernel: the kernel leaves its arguments and semaphores as they were,
   at its own element types and at the extended reals; so does its reference; and over the extended reals the two give the same results from
   the same arguments. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Experts
public import proofs.«01_k».proof.Proof.Gen.Experts.Launch
public import proofs.«01_k».proof.Proof.Gen.Experts.Skeleton
public import proofs.«01_k».proof.Proof.Gen.ExpertsIdeal
public import proofs.«01_k».proof.Proof.Gen.ExpertsIdeal.Launch
public import proofs.«01_k».proof.Proof.Gen.ExpertsIdeal.Skeleton
public import proofs.«01_k».proof.Proof.Gen.Pre_items_ok
public import proofs.«01_k».proof.Proof.Gen.DenseIdeal
public import proofs.«01_k».proof.Proof.Gen.DenseIdeal.Run
public import proofs.«01_k».proof.Proof.Retention.KernelFrame
public import proofs.«01_k».proof.Proof.Retention.Arrays
public import proofs.«01_k».proof.Proof.Retention.RefRun
public import proofs.«01_k».proof.Proof.Experts.Frame
public import proofs.«01_k».proof.Proof.Experts.Agree

@[expose] public section

noncomputable section

namespace Cert.Proof

open Idealize.ShloMosaic Idealize.SL.Sem

/-- From arguments that agree, the reference's first result is the kernel's. -/
theorem ret_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Val.RET m' c = Cert.KernelIdeal.Val.RET m c ∧ Cert.ReferenceIdeal.Val.FIN m' c = Cert.KernelIdeal.Val.FIN m c := by
  unfold Cert.ReferenceIdeal.Val.RET Cert.ReferenceIdeal.Val.FIN
  unfold Cert.ReferenceIdeal.Val.zIn Cert.ReferenceIdeal.Val.lfIn Cert.ReferenceIdeal.Val.lbIn Cert.ReferenceIdeal.Val.gnIn
    Cert.ReferenceIdeal.Val.s0In Cert.ReferenceIdeal.Val.prevIn
  rw [h0, h1, h2, h3, h4, h5]
  exact ⟨rfl, rfl⟩

/-- The kernel at its own element types leaves its arguments and semaphores as they were. -/
theorem quiescent_kernel : Cert.quiescent_Kernel (hKernel := Cert.Kernel.Gen.facts) := fun m g _ => Cert.Kernel.Hand.frame m g
/-- The kernel over the extended reals leaves its arguments and semaphores as they were. -/
theorem quiescent_kernelIdeal : Cert.quiescent_KernelIdeal (hKernelIdeal := Cert.KernelIdeal.Gen.facts) := fun m g _ => Cert.KernelIdeal.Val.frame m g
/-- The reference over the extended reals leaves its arguments and semaphores as they were. -/
theorem quiescent_referenceIdeal : Cert.quiescent_ReferenceIdeal (hReferenceIdeal := Cert.ReferenceIdeal.Gen.facts) :=
  fun m g _ => Cert.ReferenceIdeal.Val.frame m g

/-- Over the extended reals the kernel and the reference give the same results from the same arguments. -/
theorem algebraic : Cert.algebraic_KernelIdeal_ReferenceIdeal (hKernelIdeal := Cert.KernelIdeal.Gen.facts)
    (hReferenceIdeal := Cert.ReferenceIdeal.Gen.facts) := fun m g m' g' _ hag =>
  ⟨Cert.KernelIdeal.Val.RET m, Cert.KernelIdeal.Val.FIN m, Cert.KernelIdeal.Val.run_values m g,
    (θ_run _ _ _).mono (fun r h c =>
      have e := ret_agree m m' c (hag c).1 (hag c).2.1 (hag c).2.2.1 (hag c).2.2.2.1 (hag c).2.2.2.2.1 (hag c).2.2.2.2.2
      ⟨(h c).1.trans e.1, (h c).2.1.trans e.2, (h c).2.2⟩) (Cert.ReferenceIdeal.Val.run_values m' g')⟩

/-- What the precondition says of the kernel's tables, at its own element types. -/
theorem tables (m : (ℓ : Loc Cert.Experts.nD Cert.Experts.τ Cert.Experts.sig) → Buf (Elt Bits) ℓ)
    (h : Cert.Pre_Experts (hPre_items_ok := Cert.Pre_items_ok.Gen.facts) m) :
    Cert.Experts.Items.Ok (Cert.Experts.Items.eid (m (((0 : Dev Cert.Experts.nD).tc : Thread Cert.Experts.nD Cert.Experts.τ).loc Cert.Experts.main_arg1)))
      (Cert.Experts.Hand.tabs m 0) (Cert.Experts.Hand.tabs m 1) (Cert.Experts.Hand.tabs m 2) (Cert.Experts.Hand.tabs m 3) (Cert.Experts.Hand.tabs m 4) :=
  Cert.Experts.Items.decode _ _ _ _ _ _ _ _ _ _ _ (h 0)
/-- What the precondition says of the kernel's tables, over the extended reals. -/
theorem tablesIdeal (m : (ℓ : Loc Cert.ExpertsIdeal.nD Cert.ExpertsIdeal.τ Cert.ExpertsIdeal.sig) → Buf (Elt Ideal) ℓ)
    (h : Cert.Pre_ExpertsIdeal (hPre_items_ok := Cert.Pre_items_ok.Gen.facts) m) :
    Cert.Experts.Items.Ok (Cert.Experts.Items.eid (m (((0 : Dev Cert.ExpertsIdeal.nD).tc : Thread Cert.ExpertsIdeal.nD Cert.ExpertsIdeal.τ).loc Cert.ExpertsIdeal.main_arg1)))
      (Cert.ExpertsIdeal.Hand.tabs m 0) (Cert.ExpertsIdeal.Hand.tabs m 1) (Cert.ExpertsIdeal.Hand.tabs m 2) (Cert.ExpertsIdeal.Hand.tabs m 3) (Cert.ExpertsIdeal.Hand.tabs m 4) :=
  Cert.Experts.Items.decode _ _ _ _ _ _ _ _ _ _ _ (h 0)

/-- The expert kernel at its own element types leaves its arguments and semaphores as they were. -/
theorem quiescent_experts : Cert.quiescent_Experts (hExperts := Cert.Experts.Gen.facts) (hPre_items_ok := Cert.Pre_items_ok.Gen.facts) :=
  fun m g h => Cert.Experts.Hand.frame m g _ (tables m h)
/-- The expert kernel over the extended reals leaves its arguments and semaphores as they were. -/
theorem quiescent_expertsIdeal : Cert.quiescent_ExpertsIdeal (hExpertsIdeal := Cert.ExpertsIdeal.Gen.facts) (hPre_items_ok := Cert.Pre_items_ok.Gen.facts) :=
  fun m g h => (θ_run _ _ _).mono (fun r H => ⟨fun c => (H.1 c).2, H.2⟩) (Cert.ExpertsIdeal.Hand.run m g _ (tablesIdeal m h))
/-- The experts' reference over the extended reals leaves its arguments and semaphores as they were. -/
theorem quiescent_denseIdeal : Cert.quiescent_DenseIdeal (hDenseIdeal := Cert.DenseIdeal.Gen.facts) := fun m g _ =>
  (θ_run _ _ _).mono (fun r H => ⟨fun c => (H c).2, sem_eq_zero_of_no_sems (by decide) r.2⟩) (Cert.DenseIdeal.Value.run m g)
/-- The same where the tables meet the precondition. -/
theorem quiescent_denseIdeal_pre : Cert.quiescent_DenseIdeal_pre_items_ok (hDenseIdeal := Cert.DenseIdeal.Gen.facts) (hPre_items_ok := Cert.Pre_items_ok.Gen.facts) :=
  fun m g _ => quiescent_denseIdeal m g trivial

/-- Over the extended reals the expert kernel and its reference give the same result from the same arguments. -/
theorem algebraic_experts : Cert.algebraic_ExpertsIdeal_DenseIdeal (hExpertsIdeal := Cert.ExpertsIdeal.Gen.facts)
    (hDenseIdeal := Cert.DenseIdeal.Gen.facts) (hPre_items_ok := Cert.Pre_items_ok.Gen.facts) := fun m g m' g' h hag =>
  have hok := tablesIdeal m h
  ⟨fun c => (fun i => Cert.ExpertsIdeal.Hand.rowVal m _ c (i 0) (i 1) : FVec Ideal Cert.ExpertsIdeal.S135168x2048 .bf16),
    (θ_run _ _ _).mono (fun r H => H.1) (Cert.ExpertsIdeal.Hand.run m g _ hok),
    (θ_run _ _ _).mono (fun r H c => ⟨(H c).1.trans (Cert.Experts.Agree.agree m m' c _ (by rw [Subsingleton.elim c 0]) (Cert.Experts.Agree.eid_lt _ _ _ _ _ _ hok)
        (hag c).1 (hag c).2.1 (hag c).2.2.2.2.2.2.2.1 (hag c).2.2.2.2.2.2.2.2.1 (hag c).2.2.2.2.2.2.2.2.2.1 (hag c).2.2.2.2.2.2.2.2.2.2), (H c).2⟩)
      (Cert.DenseIdeal.Value.run m' g')⟩

/-- All the claims. -/
theorem claim : Cert.Claim := ⟨Cert.Kernel.Gen.facts, Cert.KernelIdeal.Gen.facts, Cert.ReferenceIdeal.Gen.facts, Cert.Experts.Gen.facts,
  Cert.ExpertsIdeal.Gen.facts, Cert.DenseIdeal.Gen.facts, Cert.Pre_items_ok.Gen.facts,
  quiescent_kernel, quiescent_kernelIdeal, quiescent_referenceIdeal, quiescent_experts, quiescent_expertsIdeal, quiescent_denseIdeal, quiescent_denseIdeal_pre,
  trivial, algebraic, trivial, algebraic_experts⟩

end Cert.Proof

end
